-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxRefIdeal (m : (ℓ : Loc Cert.FoxRefIdeal.nD Cert.FoxRefIdeal.τ Cert.FoxRefIdeal.sig) → Buf (Elt Ideal) ℓ) : Prop :=
  True

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvRefIdeal (m : (ℓ : Loc Cert.MemkvRefIdeal.nD Cert.MemkvRefIdeal.τ Cert.MemkvRefIdeal.sig) → Buf (Elt Ideal) ℓ) : Prop :=
  True

def Pre_InS (m : (ℓ : Loc Cert.InS.nD Cert.InS.τ Cert.InS.sig) → Buf (Elt Bits) ℓ) : Prop :=
  True

def Pre_InSIdeal (m : (ℓ : Loc Cert.InSIdeal.nD Cert.InSIdeal.τ Cert.InSIdeal.sig) → Buf (Elt Ideal) ℓ) : Prop :=
  True

def Pre_InSRefIdeal (m : (ℓ : Loc Cert.InSRefIdeal.nD Cert.InSRefIdeal.τ Cert.InSRefIdeal.sig) → Buf (Elt Ideal) ℓ) : Prop :=
  True

def Pre_InP (m : (ℓ : Loc Cert.InP.nD Cert.InP.τ Cert.InP.sig) → Buf (Elt Bits) ℓ) : Prop :=
  True

def Pre_InPIdeal (m : (ℓ : Loc Cert.InPIdeal.nD Cert.InPIdeal.τ Cert.InPIdeal.sig) → Buf (Elt Ideal) ℓ) : Prop :=
  True

def Pre_InPRefIdeal (m : (ℓ : Loc Cert.InPRefIdeal.nD Cert.InPRefIdeal.τ Cert.InPRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_cross_finite [hPre_cross_finite : Cert.Pre_cross_finite.Facts] (m : (ℓ : Loc Cert.CrossIdeal.nD Cert.CrossIdeal.τ Cert.CrossIdeal.sig) → Buf (Elt Ideal) ℓ) : Prop :=
  ∀ c : Dev Cert.CrossIdeal.nD,
    (Cert.Pre_cross_finite.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5))).1 = (fun _ => 1#1)
    ∧ (Cert.Pre_cross_finite.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5))).2.1 = (fun _ => 1#1)
    ∧ (Cert.Pre_cross_finite.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5))).2.2 = (fun _ => 1#1)

def Pre_CrossRefIdeal (m : (ℓ : Loc Cert.CrossRefIdeal.nD Cert.CrossRefIdeal.τ Cert.CrossRefIdeal.sig) → Buf (Elt Ideal) ℓ) : Prop :=
  True

def Pre_CrossRefIdeal_cross_finite [hPre_cross_finite : Cert.Pre_cross_finite.Facts] (m : (ℓ : Loc Cert.CrossRefIdeal.nD Cert.CrossRefIdeal.τ Cert.CrossRefIdeal.sig) → Buf (Elt Ideal) ℓ) : Prop :=
  ∀ c : Dev Cert.CrossRefIdeal.nD,
    (Cert.Pre_cross_finite.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5))).1 = (fun _ => 1#1)
    ∧ (Cert.Pre_cross_finite.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5))).2.1 = (fun _ => 1#1)
    ∧ (Cert.Pre_cross_finite.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5))).2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2)
      ∧ r.2.mem ((c.tc : Thread Cert.Memkv.nD Cert.Memkv.τ).loc Cert.Memkv.main_arg3) = m ((c.tc : Thread Cert.Memkv.nD Cert.Memkv.τ).loc Cert.Memkv.main_arg3))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
      ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3))
      ∧ r.2.sem = fun _ => 0)

def quiescent_MemkvRefIdeal [hMemkvRefIdeal : Cert.MemkvRefIdeal.Facts] : Prop :=
  ∀ (m : (ℓ : Loc Cert.MemkvRefIdeal.nD Cert.MemkvRefIdeal.τ Cert.MemkvRefIdeal.sig) → Buf (Elt Ideal) ℓ) (g : Dev Cert.MemkvRefIdeal.nD → PrngReg), Pre_MemkvRefIdeal m →
    θ_run (Cert.MemkvRefIdeal.defs (F := Ideal)) (onTc (τ := Cert.MemkvRefIdeal.τ) (Cert.MemkvRefIdeal.main (F := Ideal))) ⟨m, fun _ => 0, g⟩ (fun r => (∀ c : Dev Cert.MemkvRefIdeal.nD,
      r.2.mem ((c.tc : Thread Cert.MemkvRefIdeal.nD Cert.MemkvRefIdeal.τ).loc Cert.MemkvRefIdeal.main_arg0) = m ((c.tc : Thread Cert.MemkvRefIdeal.nD Cert.MemkvRefIdeal.τ).loc Cert.MemkvRefIdeal.main_arg0)
      ∧ r.2.mem ((c.tc : Thread Cert.MemkvRefIdeal.nD Cert.MemkvRefIdeal.τ).loc Cert.MemkvRefIdeal.main_arg1) = m ((c.tc : Thread Cert.MemkvRefIdeal.nD Cert.MemkvRefIdeal.τ).loc Cert.MemkvRefIdeal.main_arg1)
      ∧ r.2.mem ((c.tc : Thread Cert.MemkvRefIdeal.nD Cert.MemkvRefIdeal.τ).loc Cert.MemkvRefIdeal.main_arg2) = m ((c.tc : Thread Cert.MemkvRefIdeal.nD Cert.MemkvRefIdeal.τ).loc Cert.MemkvRefIdeal.main_arg2)
      ∧ r.2.mem ((c.tc : Thread Cert.MemkvRefIdeal.nD Cert.MemkvRefIdeal.τ).loc Cert.MemkvRefIdeal.main_arg3) = m ((c.tc : Thread Cert.MemkvRefIdeal.nD Cert.MemkvRefIdeal.τ).loc Cert.MemkvRefIdeal.main_arg3))
      ∧ r.2.sem = fun _ => 0)

def quiescent_InS [hInS : Cert.InS.Facts] : Prop :=
  ∀ (m : (ℓ : Loc Cert.InS.nD Cert.InS.τ Cert.InS.sig) → Buf (Elt Bits) ℓ) (g : Dev Cert.InS.nD → PrngReg), Pre_InS m →
    θ_run (Cert.InS.defs (F := Bits)) (onTc (τ := Cert.InS.τ) (Cert.InS.main (F := Bits))) ⟨m, fun _ => 0, g⟩ (fun r => (∀ c : Dev Cert.InS.nD,
      r.2.mem ((c.tc : Thread Cert.InS.nD Cert.InS.τ).loc Cert.InS.main_arg0) = m ((c.tc : Thread Cert.InS.nD Cert.InS.τ).loc Cert.InS.main_arg0)
      ∧ r.2.mem ((c.tc : Thread Cert.InS.nD Cert.InS.τ).loc Cert.InS.main_arg1) = m ((c.tc : Thread Cert.InS.nD Cert.InS.τ).loc Cert.InS.main_arg1)
      ∧ r.2.mem ((c.tc : Thread Cert.InS.nD Cert.InS.τ).loc Cert.InS.main_arg2) = m ((c.tc : Thread Cert.InS.nD Cert.InS.τ).loc Cert.InS.main_arg2)
      ∧ r.2.mem ((c.tc : Thread Cert.InS.nD Cert.InS.τ).loc Cert.InS.main_arg3) = m ((c.tc : Thread Cert.InS.nD Cert.InS.τ).loc Cert.InS.main_arg3)
      ∧ r.2.mem ((c.tc : Thread Cert.InS.nD Cert.InS.τ).loc Cert.InS.main_arg4) = m ((c.tc : Thread Cert.InS.nD Cert.InS.τ).loc Cert.InS.main_arg4))
      ∧ r.2.sem = fun _ => 0)

def quiescent_InSIdeal [hInSIdeal : Cert.InSIdeal.Facts] : Prop :=
  ∀ (m : (ℓ : Loc Cert.InSIdeal.nD Cert.InSIdeal.τ Cert.InSIdeal.sig) → Buf (Elt Ideal) ℓ) (g : Dev Cert.InSIdeal.nD → PrngReg), Pre_InSIdeal m →
    θ_run (Cert.InSIdeal.defs (F := Ideal)) (onTc (τ := Cert.InSIdeal.τ) (Cert.InSIdeal.main (F := Ideal))) ⟨m, fun _ => 0, g⟩ (fun r => (∀ c : Dev Cert.InSIdeal.nD,
      r.2.mem ((c.tc : Thread Cert.InSIdeal.nD Cert.InSIdeal.τ).loc Cert.InSIdeal.main_arg0) = m ((c.tc : Thread Cert.InSIdeal.nD Cert.InSIdeal.τ).loc Cert.InSIdeal.main_arg0)
      ∧ r.2.mem ((c.tc : Thread Cert.InSIdeal.nD Cert.InSIdeal.τ).loc Cert.InSIdeal.main_arg1) = m ((c.tc : Thread Cert.InSIdeal.nD Cert.InSIdeal.τ).loc Cert.InSIdeal.main_arg1)
      ∧ r.2.mem ((c.tc : Thread Cert.InSIdeal.nD Cert.InSIdeal.τ).loc Cert.InSIdeal.main_arg2) = m ((c.tc : Thread Cert.InSIdeal.nD Cert.InSIdeal.τ).loc Cert.InSIdeal.main_arg2)
      ∧ r.2.mem ((c.tc : Thread Cert.InSIdeal.nD Cert.InSIdeal.τ).loc Cert.InSIdeal.main_arg3) = m ((c.tc : Thread Cert.InSIdeal.nD Cert.InSIdeal.τ).loc Cert.InSIdeal.main_arg3)
      ∧ r.2.mem ((c.tc : Thread Cert.InSIdeal.nD Cert.InSIdeal.τ).loc Cert.InSIdeal.main_arg4) = m ((c.tc : Thread Cert.InSIdeal.nD Cert.InSIdeal.τ).loc Cert.InSIdeal.main_arg4))
      ∧ r.2.sem = fun _ => 0)

def quiescent_InSRefIdeal [hInSRefIdeal : Cert.InSRefIdeal.Facts] : Prop :=
  ∀ (m : (ℓ : Loc Cert.InSRefIdeal.nD Cert.InSRefIdeal.τ Cert.InSRefIdeal.sig) → Buf (Elt Ideal) ℓ) (g : Dev Cert.InSRefIdeal.nD → PrngReg), Pre_InSRefIdeal m →
    θ_run (Cert.InSRefIdeal.defs (F := Ideal)) (onTc (τ := Cert.InSRefIdeal.τ) (Cert.InSRefIdeal.main (F := Ideal))) ⟨m, fun _ => 0, g⟩ (fun r => (∀ c : Dev Cert.InSRefIdeal.nD,
      r.2.mem ((c.tc : Thread Cert.InSRefIdeal.nD Cert.InSRefIdeal.τ).loc Cert.InSRefIdeal.main_arg0) = m ((c.tc : Thread Cert.InSRefIdeal.nD Cert.InSRefIdeal.τ).loc Cert.InSRefIdeal.main_arg0)
      ∧ r.2.mem ((c.tc : Thread Cert.InSRefIdeal.nD Cert.InSRefIdeal.τ).loc Cert.InSRefIdeal.main_arg1) = m ((c.tc : Thread Cert.InSRefIdeal.nD Cert.InSRefIdeal.τ).loc Cert.InSRefIdeal.main_arg1)
      ∧ r.2.mem ((c.tc : Thread Cert.InSRefIdeal.nD Cert.InSRefIdeal.τ).loc Cert.InSRefIdeal.main_arg2) = m ((c.tc : Thread Cert.InSRefIdeal.nD Cert.InSRefIdeal.τ).loc Cert.InSRefIdeal.main_arg2)
      ∧ r.2.mem ((c.tc : Thread Cert.InSRefIdeal.nD Cert.InSRefIdeal.τ).loc Cert.InSRefIdeal.main_arg3) = m ((c.tc : Thread Cert.InSRefIdeal.nD Cert.InSRefIdeal.τ).loc Cert.InSRefIdeal.main_arg3)
      ∧ r.2.mem ((c.tc : Thread Cert.InSRefIdeal.nD Cert.InSRefIdeal.τ).loc Cert.InSRefIdeal.main_arg4) = m ((c.tc : Thread Cert.InSRefIdeal.nD Cert.InSRefIdeal.τ).loc Cert.InSRefIdeal.main_arg4))
      ∧ r.2.sem = fun _ => 0)

def quiescent_InP [hInP : Cert.InP.Facts] : Prop :=
  ∀ (m : (ℓ : Loc Cert.InP.nD Cert.InP.τ Cert.InP.sig) → Buf (Elt Bits) ℓ) (g : Dev Cert.InP.nD → PrngReg), Pre_InP m →
    θ_run (Cert.InP.defs (F := Bits)) (onTc (τ := Cert.InP.τ) (Cert.InP.main (F := Bits))) ⟨m, fun _ => 0, g⟩ (fun r => (∀ c : Dev Cert.InP.nD,
      r.2.mem ((c.tc : Thread Cert.InP.nD Cert.InP.τ).loc Cert.InP.main_arg0) = m ((c.tc : Thread Cert.InP.nD Cert.InP.τ).loc Cert.InP.main_arg0)
      ∧ r.2.mem ((c.tc : Thread Cert.InP.nD Cert.InP.τ).loc Cert.InP.main_arg1) = m ((c.tc : Thread Cert.InP.nD Cert.InP.τ).loc Cert.InP.main_arg1)
      ∧ r.2.mem ((c.tc : Thread Cert.InP.nD Cert.InP.τ).loc Cert.InP.main_arg2) = m ((c.tc : Thread Cert.InP.nD Cert.InP.τ).loc Cert.InP.main_arg2)
      ∧ r.2.mem ((c.tc : Thread Cert.InP.nD Cert.InP.τ).loc Cert.InP.main_arg3) = m ((c.tc : Thread Cert.InP.nD Cert.InP.τ).loc Cert.InP.main_arg3)
      ∧ r.2.mem ((c.tc : Thread Cert.InP.nD Cert.InP.τ).loc Cert.InP.main_arg4) = m ((c.tc : Thread Cert.InP.nD Cert.InP.τ).loc Cert.InP.main_arg4))
      ∧ r.2.sem = fun _ => 0)

def quiescent_InPIdeal [hInPIdeal : Cert.InPIdeal.Facts] : Prop :=
  ∀ (m : (ℓ : Loc Cert.InPIdeal.nD Cert.InPIdeal.τ Cert.InPIdeal.sig) → Buf (Elt Ideal) ℓ) (g : Dev Cert.InPIdeal.nD → PrngReg), Pre_InPIdeal m →
    θ_run (Cert.InPIdeal.defs (F := Ideal)) (onTc (τ := Cert.InPIdeal.τ) (Cert.InPIdeal.main (F := Ideal))) ⟨m, fun _ => 0, g⟩ (fun r => (∀ c : Dev Cert.InPIdeal.nD,
      r.2.mem ((c.tc : Thread Cert.InPIdeal.nD Cert.InPIdeal.τ).loc Cert.InPIdeal.main_arg0) = m ((c.tc : Thread Cert.InPIdeal.nD Cert.InPIdeal.τ).loc Cert.InPIdeal.main_arg0)
      ∧ r.2.mem ((c.tc : Thread Cert.InPIdeal.nD Cert.InPIdeal.τ).loc Cert.InPIdeal.main_arg1) = m ((c.tc : Thread Cert.InPIdeal.nD Cert.InPIdeal.τ).loc Cert.InPIdeal.main_arg1)
      ∧ r.2.mem ((c.tc : Thread Cert.InPIdeal.nD Cert.InPIdeal.τ).loc Cert.InPIdeal.main_arg2) = m ((c.tc : Thread Cert.InPIdeal.nD Cert.InPIdeal.τ).loc Cert.InPIdeal.main_arg2)
      ∧ r.2.mem ((c.tc : Thread Cert.InPIdeal.nD Cert.InPIdeal.τ).loc Cert.InPIdeal.main_arg3) = m ((c.tc : Thread Cert.InPIdeal.nD Cert.InPIdeal.τ).loc Cert.InPIdeal.main_arg3)
      ∧ r.2.mem ((c.tc : Thread Cert.InPIdeal.nD Cert.InPIdeal.τ).loc Cert.InPIdeal.main_arg4) = m ((c.tc : Thread Cert.InPIdeal.nD Cert.InPIdeal.τ).loc Cert.InPIdeal.main_arg4))
      ∧ r.2.sem = fun _ => 0)

def quiescent_InPRefIdeal [hInPRefIdeal : Cert.InPRefIdeal.Facts] : Prop :=
  ∀ (m : (ℓ : Loc Cert.InPRefIdeal.nD Cert.InPRefIdeal.τ Cert.InPRefIdeal.sig) → Buf (Elt Ideal) ℓ) (g : Dev Cert.InPRefIdeal.nD → PrngReg), Pre_InPRefIdeal m →
    θ_run (Cert.InPRefIdeal.defs (F := Ideal)) (onTc (τ := Cert.InPRefIdeal.τ) (Cert.InPRefIdeal.main (F := Ideal))) ⟨m, fun _ => 0, g⟩ (fun r => (∀ c : Dev Cert.InPRefIdeal.nD,
      r.2.mem ((c.tc : Thread Cert.InPRefIdeal.nD Cert.InPRefIdeal.τ).loc Cert.InPRefIdeal.main_arg0) = m ((c.tc : Thread Cert.InPRefIdeal.nD Cert.InPRefIdeal.τ).loc Cert.InPRefIdeal.main_arg0)
      ∧ r.2.mem ((c.tc : Thread Cert.InPRefIdeal.nD Cert.InPRefIdeal.τ).loc Cert.InPRefIdeal.main_arg1) = m ((c.tc : Thread Cert.InPRefIdeal.nD Cert.InPRefIdeal.τ).loc Cert.InPRefIdeal.main_arg1)
      ∧ r.2.mem ((c.tc : Thread Cert.InPRefIdeal.nD Cert.InPRefIdeal.τ).loc Cert.InPRefIdeal.main_arg2) = m ((c.tc : Thread Cert.InPRefIdeal.nD Cert.InPRefIdeal.τ).loc Cert.InPRefIdeal.main_arg2)
      ∧ r.2.mem ((c.tc : Thread Cert.InPRefIdeal.nD Cert.InPRefIdeal.τ).loc Cert.InPRefIdeal.main_arg3) = m ((c.tc : Thread Cert.InPRefIdeal.nD Cert.InPRefIdeal.τ).loc Cert.InPRefIdeal.main_arg3)
      ∧ r.2.mem ((c.tc : Thread Cert.InPRefIdeal.nD Cert.InPRefIdeal.τ).loc Cert.InPRefIdeal.main_arg4) = m ((c.tc : Thread Cert.InPRefIdeal.nD Cert.InPRefIdeal.τ).loc Cert.InPRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4)
      ∧ r.2.mem ((c.tc : Thread Cert.Cross.nD Cert.Cross.τ).loc Cert.Cross.main_arg5) = m ((c.tc : Thread Cert.Cross.nD Cert.Cross.τ).loc Cert.Cross.main_arg5))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5))
      ∧ r.2.sem = fun _ => 0)

def quiescent_CrossIdeal_pre_cross_finite [hCrossIdeal : Cert.CrossIdeal.Facts] [hPre_cross_finite : Cert.Pre_cross_finite.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_cross_finite m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5))
      ∧ r.2.sem = fun _ => 0)

def quiescent_CrossRefIdeal_pre_cross_finite [hCrossRefIdeal : Cert.CrossRefIdeal.Facts] [hPre_cross_finite : Cert.Pre_cross_finite.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal_cross_finite m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def preserves_Fox_FoxIdeal : Prop :=
  True

def preserves_Memkv_MemkvIdeal : Prop :=
  True

def algebraic_MemkvIdeal_MemkvRefIdeal [hMemkvIdeal : Cert.MemkvIdeal.Facts] [hMemkvRefIdeal : Cert.MemkvRefIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvRefIdeal.nD Cert.MemkvRefIdeal.τ Cert.MemkvRefIdeal.sig) → Buf (Elt Ideal) ℓ) (g' : Dev Cert.MemkvRefIdeal.nD → PrngReg), Pre_MemkvIdeal m →
    (∀ c : Dev Cert.MemkvIdeal.nD,
      m' ((c.tc : Thread Cert.MemkvRefIdeal.nD Cert.MemkvRefIdeal.τ).loc Cert.MemkvRefIdeal.main_arg0) = m ((c.tc : Thread Cert.MemkvIdeal.nD Cert.MemkvIdeal.τ).loc Cert.MemkvIdeal.main_arg0)
      ∧ m' ((c.tc : Thread Cert.MemkvRefIdeal.nD Cert.MemkvRefIdeal.τ).loc Cert.MemkvRefIdeal.main_arg1) = m ((c.tc : Thread Cert.MemkvIdeal.nD Cert.MemkvIdeal.τ).loc Cert.MemkvIdeal.main_arg1)
      ∧ m' ((c.tc : Thread Cert.MemkvRefIdeal.nD Cert.MemkvRefIdeal.τ).loc Cert.MemkvRefIdeal.main_arg2) = m ((c.tc : Thread Cert.MemkvIdeal.nD Cert.MemkvIdeal.τ).loc Cert.MemkvIdeal.main_arg2)
      ∧ m' ((c.tc : Thread Cert.MemkvRefIdeal.nD Cert.MemkvRefIdeal.τ).loc Cert.MemkvRefIdeal.main_arg3) = m ((c.tc : Thread Cert.MemkvIdeal.nD Cert.MemkvIdeal.τ).loc Cert.MemkvIdeal.main_arg3)) →
    ∃ (v0 : (c : Dev Cert.MemkvIdeal.nD) → Buf (Elt Ideal) ((c.tc : Thread Cert.MemkvIdeal.nD Cert.MemkvIdeal.τ).loc Cert.MemkvIdeal.main_v7_0)) (v1 : (c : Dev Cert.MemkvIdeal.nD) → Buf (Elt Ideal) ((c.tc : Thread Cert.MemkvIdeal.nD Cert.MemkvIdeal.τ).loc Cert.MemkvIdeal.main_v7_1)) (v2 : (c : Dev Cert.MemkvIdeal.nD) → Buf (Elt Ideal) ((c.tc : Thread Cert.MemkvIdeal.nD Cert.MemkvIdeal.τ).loc Cert.MemkvIdeal.main_v7_2)) (v3 : (c : Dev Cert.MemkvIdeal.nD) → Buf (Elt Ideal) ((c.tc : Thread Cert.MemkvIdeal.nD Cert.MemkvIdeal.τ).loc Cert.MemkvIdeal.main_v7_3)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v7_0) = v0 c
          ∧ r.2.mem ((c.tc : Thread Cert.MemkvIdeal.nD Cert.MemkvIdeal.τ).loc Cert.MemkvIdeal.main_v7_1) = v1 c
          ∧ r.2.mem ((c.tc : Thread Cert.MemkvIdeal.nD Cert.MemkvIdeal.τ).loc Cert.MemkvIdeal.main_v7_2) = v2 c
          ∧ r.2.mem ((c.tc : Thread Cert.MemkvIdeal.nD Cert.MemkvIdeal.τ).loc Cert.MemkvIdeal.main_v7_3) = v3 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
          ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3))
      ∧ θ_run (Cert.MemkvRefIdeal.defs (F := Ideal)) (onTc (τ := Cert.MemkvRefIdeal.τ) (Cert.MemkvRefIdeal.main (F := Ideal))) ⟨m', fun _ => 0, g'⟩ (fun r => ∀ c : Dev Cert.MemkvRefIdeal.nD,
          r.2.mem ((c.tc : Thread Cert.MemkvRefIdeal.nD Cert.MemkvRefIdeal.τ).loc Cert.MemkvRefIdeal.main_v16) = v0 c
          ∧ r.2.mem ((c.tc : Thread Cert.MemkvRefIdeal.nD Cert.MemkvRefIdeal.τ).loc Cert.MemkvRefIdeal.main_v19) = v1 c
          ∧ r.2.mem ((c.tc : Thread Cert.MemkvRefIdeal.nD Cert.MemkvRefIdeal.τ).loc Cert.MemkvRefIdeal.main_v20) = v2 c
          ∧ r.2.mem ((c.tc : Thread Cert.MemkvRefIdeal.nD Cert.MemkvRefIdeal.τ).loc Cert.MemkvRefIdeal.main_v21) = v3 c
          ∧ r.2.mem ((c.tc : Thread Cert.MemkvRefIdeal.nD Cert.MemkvRefIdeal.τ).loc Cert.MemkvRefIdeal.main_arg0) = m' ((c.tc : Thread Cert.MemkvRefIdeal.nD Cert.MemkvRefIdeal.τ).loc Cert.MemkvRefIdeal.main_arg0)
          ∧ r.2.mem ((c.tc : Thread Cert.MemkvRefIdeal.nD Cert.MemkvRefIdeal.τ).loc Cert.MemkvRefIdeal.main_arg1) = m' ((c.tc : Thread Cert.MemkvRefIdeal.nD Cert.MemkvRefIdeal.τ).loc Cert.MemkvRefIdeal.main_arg1)
          ∧ r.2.mem ((c.tc : Thread Cert.MemkvRefIdeal.nD Cert.MemkvRefIdeal.τ).loc Cert.MemkvRefIdeal.main_arg2) = m' ((c.tc : Thread Cert.MemkvRefIdeal.nD Cert.MemkvRefIdeal.τ).loc Cert.MemkvRefIdeal.main_arg2)
          ∧ r.2.mem ((c.tc : Thread Cert.MemkvRefIdeal.nD Cert.MemkvRefIdeal.τ).loc Cert.MemkvRefIdeal.main_arg3) = m' ((c.tc : Thread Cert.MemkvRefIdeal.nD Cert.MemkvRefIdeal.τ).loc Cert.MemkvRefIdeal.main_arg3))

def preserves_InS_InSIdeal : Prop :=
  True

def algebraic_InSIdeal_InSRefIdeal [hInSIdeal : Cert.InSIdeal.Facts] [hInSRefIdeal : Cert.InSRefIdeal.Facts] : Prop :=
  ∀ (m : (ℓ : Loc Cert.InSIdeal.nD Cert.InSIdeal.τ Cert.InSIdeal.sig) → Buf (Elt Ideal) ℓ) (g : Dev Cert.InSIdeal.nD → PrngReg)
    (m' : (ℓ : Loc Cert.InSRefIdeal.nD Cert.InSRefIdeal.τ Cert.InSRefIdeal.sig) → Buf (Elt Ideal) ℓ) (g' : Dev Cert.InSRefIdeal.nD → PrngReg), Pre_InSIdeal m →
    (∀ c : Dev Cert.InSIdeal.nD,
      m' ((c.tc : Thread Cert.InSRefIdeal.nD Cert.InSRefIdeal.τ).loc Cert.InSRefIdeal.main_arg0) = m ((c.tc : Thread Cert.InSIdeal.nD Cert.InSIdeal.τ).loc Cert.InSIdeal.main_arg0)
      ∧ m' ((c.tc : Thread Cert.InSRefIdeal.nD Cert.InSRefIdeal.τ).loc Cert.InSRefIdeal.main_arg1) = m ((c.tc : Thread Cert.InSIdeal.nD Cert.InSIdeal.τ).loc Cert.InSIdeal.main_arg1)
      ∧ m' ((c.tc : Thread Cert.InSRefIdeal.nD Cert.InSRefIdeal.τ).loc Cert.InSRefIdeal.main_arg2) = m ((c.tc : Thread Cert.InSIdeal.nD Cert.InSIdeal.τ).loc Cert.InSIdeal.main_arg2)
      ∧ m' ((c.tc : Thread Cert.InSRefIdeal.nD Cert.InSRefIdeal.τ).loc Cert.InSRefIdeal.main_arg3) = m ((c.tc : Thread Cert.InSIdeal.nD Cert.InSIdeal.τ).loc Cert.InSIdeal.main_arg3)
      ∧ m' ((c.tc : Thread Cert.InSRefIdeal.nD Cert.InSRefIdeal.τ).loc Cert.InSRefIdeal.main_arg4) = m ((c.tc : Thread Cert.InSIdeal.nD Cert.InSIdeal.τ).loc Cert.InSIdeal.main_arg4)) →
    ∃ (v0 : (c : Dev Cert.InSIdeal.nD) → Buf (Elt Ideal) ((c.tc : Thread Cert.InSIdeal.nD Cert.InSIdeal.τ).loc Cert.InSIdeal.main_v15_0)) (v1 : (c : Dev Cert.InSIdeal.nD) → Buf (Elt Ideal) ((c.tc : Thread Cert.InSIdeal.nD Cert.InSIdeal.τ).loc Cert.InSIdeal.main_v15_1)) (v2 : (c : Dev Cert.InSIdeal.nD) → Buf (Elt Ideal) ((c.tc : Thread Cert.InSIdeal.nD Cert.InSIdeal.τ).loc Cert.InSIdeal.main_v15_2)) (v3 : (c : Dev Cert.InSIdeal.nD) → Buf (Elt Ideal) ((c.tc : Thread Cert.InSIdeal.nD Cert.InSIdeal.τ).loc Cert.InSIdeal.main_v15_3)) (v4 : (c : Dev Cert.InSIdeal.nD) → Buf (Elt Ideal) ((c.tc : Thread Cert.InSIdeal.nD Cert.InSIdeal.τ).loc Cert.InSIdeal.main_v15_4)) (v5 : (c : Dev Cert.InSIdeal.nD) → Buf (Elt Ideal) ((c.tc : Thread Cert.InSIdeal.nD Cert.InSIdeal.τ).loc Cert.InSIdeal.main_v15_5)),
      θ_run (Cert.InSIdeal.defs (F := Ideal)) (onTc (τ := Cert.InSIdeal.τ) (Cert.InSIdeal.main (F := Ideal))) ⟨m, fun _ => 0, g⟩ (fun r => ∀ c : Dev Cert.InSIdeal.nD,
          r.2.mem ((c.tc : Thread Cert.InSIdeal.nD Cert.InSIdeal.τ).loc Cert.InSIdeal.main_v15_0) = v0 c
          ∧ r.2.mem ((c.tc : Thread Cert.InSIdeal.nD Cert.InSIdeal.τ).loc Cert.InSIdeal.main_v15_1) = v1 c
          ∧ r.2.mem ((c.tc : Thread Cert.InSIdeal.nD Cert.InSIdeal.τ).loc Cert.InSIdeal.main_v15_2) = v2 c
          ∧ r.2.mem ((c.tc : Thread Cert.InSIdeal.nD Cert.InSIdeal.τ).loc Cert.InSIdeal.main_v15_3) = v3 c
          ∧ r.2.mem ((c.tc : Thread Cert.InSIdeal.nD Cert.InSIdeal.τ).loc Cert.InSIdeal.main_v15_4) = v4 c
          ∧ r.2.mem ((c.tc : Thread Cert.InSIdeal.nD Cert.InSIdeal.τ).loc Cert.InSIdeal.main_v15_5) = v5 c
          ∧ r.2.mem ((c.tc : Thread Cert.InSIdeal.nD Cert.InSIdeal.τ).loc Cert.InSIdeal.main_arg0) = m ((c.tc : Thread Cert.InSIdeal.nD Cert.InSIdeal.τ).loc Cert.InSIdeal.main_arg0)
          ∧ r.2.mem ((c.tc : Thread Cert.InSIdeal.nD Cert.InSIdeal.τ).loc Cert.InSIdeal.main_arg1) = m ((c.tc : Thread Cert.InSIdeal.nD Cert.InSIdeal.τ).loc Cert.InSIdeal.main_arg1)
          ∧ r.2.mem ((c.tc : Thread Cert.InSIdeal.nD Cert.InSIdeal.τ).loc Cert.InSIdeal.main_arg2) = m ((c.tc : Thread Cert.InSIdeal.nD Cert.InSIdeal.τ).loc Cert.InSIdeal.main_arg2)
          ∧ r.2.mem ((c.tc : Thread Cert.InSIdeal.nD Cert.InSIdeal.τ).loc Cert.InSIdeal.main_arg3) = m ((c.tc : Thread Cert.InSIdeal.nD Cert.InSIdeal.τ).loc Cert.InSIdeal.main_arg3)
          ∧ r.2.mem ((c.tc : Thread Cert.InSIdeal.nD Cert.InSIdeal.τ).loc Cert.InSIdeal.main_arg4) = m ((c.tc : Thread Cert.InSIdeal.nD Cert.InSIdeal.τ).loc Cert.InSIdeal.main_arg4))
      ∧ θ_run (Cert.InSRefIdeal.defs (F := Ideal)) (onTc (τ := Cert.InSRefIdeal.τ) (Cert.InSRefIdeal.main (F := Ideal))) ⟨m', fun _ => 0, g'⟩ (fun r => ∀ c : Dev Cert.InSRefIdeal.nD,
          r.2.mem ((c.tc : Thread Cert.InSRefIdeal.nD Cert.InSRefIdeal.τ).loc Cert.InSRefIdeal.main_v67) = v0 c
          ∧ r.2.mem ((c.tc : Thread Cert.InSRefIdeal.nD Cert.InSRefIdeal.τ).loc Cert.InSRefIdeal.main_v68) = v1 c
          ∧ r.2.mem ((c.tc : Thread Cert.InSRefIdeal.nD Cert.InSRefIdeal.τ).loc Cert.InSRefIdeal.main_v69) = v2 c
          ∧ r.2.mem ((c.tc : Thread Cert.InSRefIdeal.nD Cert.InSRefIdeal.τ).loc Cert.InSRefIdeal.main_v70) = v3 c
          ∧ r.2.mem ((c.tc : Thread Cert.InSRefIdeal.nD Cert.InSRefIdeal.τ).loc Cert.InSRefIdeal.main_v71) = v4 c
          ∧ r.2.mem ((c.tc : Thread Cert.InSRefIdeal.nD Cert.InSRefIdeal.τ).loc Cert.InSRefIdeal.main_v72) = v5 c
          ∧ r.2.mem ((c.tc : Thread Cert.InSRefIdeal.nD Cert.InSRefIdeal.τ).loc Cert.InSRefIdeal.main_arg0) = m' ((c.tc : Thread Cert.InSRefIdeal.nD Cert.InSRefIdeal.τ).loc Cert.InSRefIdeal.main_arg0)
          ∧ r.2.mem ((c.tc : Thread Cert.InSRefIdeal.nD Cert.InSRefIdeal.τ).loc Cert.InSRefIdeal.main_arg1) = m' ((c.tc : Thread Cert.InSRefIdeal.nD Cert.InSRefIdeal.τ).loc Cert.InSRefIdeal.main_arg1)
          ∧ r.2.mem ((c.tc : Thread Cert.InSRefIdeal.nD Cert.InSRefIdeal.τ).loc Cert.InSRefIdeal.main_arg2) = m' ((c.tc : Thread Cert.InSRefIdeal.nD Cert.InSRefIdeal.τ).loc Cert.InSRefIdeal.main_arg2)
          ∧ r.2.mem ((c.tc : Thread Cert.InSRefIdeal.nD Cert.InSRefIdeal.τ).loc Cert.InSRefIdeal.main_arg3) = m' ((c.tc : Thread Cert.InSRefIdeal.nD Cert.InSRefIdeal.τ).loc Cert.InSRefIdeal.main_arg3)
          ∧ r.2.mem ((c.tc : Thread Cert.InSRefIdeal.nD Cert.InSRefIdeal.τ).loc Cert.InSRefIdeal.main_arg4) = m' ((c.tc : Thread Cert.InSRefIdeal.nD Cert.InSRefIdeal.τ).loc Cert.InSRefIdeal.main_arg4))

def preserves_InP_InPIdeal : Prop :=
  True

def algebraic_InPIdeal_InPRefIdeal [hInPIdeal : Cert.InPIdeal.Facts] [hInPRefIdeal : Cert.InPRefIdeal.Facts] : Prop :=
  ∀ (m : (ℓ : Loc Cert.InPIdeal.nD Cert.InPIdeal.τ Cert.InPIdeal.sig) → Buf (Elt Ideal) ℓ) (g : Dev Cert.InPIdeal.nD → PrngReg)
    (m' : (ℓ : Loc Cert.InPRefIdeal.nD Cert.InPRefIdeal.τ Cert.InPRefIdeal.sig) → Buf (Elt Ideal) ℓ) (g' : Dev Cert.InPRefIdeal.nD → PrngReg), Pre_InPIdeal m →
    (∀ c : Dev Cert.InPIdeal.nD,
      m' ((c.tc : Thread Cert.InPRefIdeal.nD Cert.InPRefIdeal.τ).loc Cert.InPRefIdeal.main_arg0) = m ((c.tc : Thread Cert.InPIdeal.nD Cert.InPIdeal.τ).loc Cert.InPIdeal.main_arg0)
      ∧ m' ((c.tc : Thread Cert.InPRefIdeal.nD Cert.InPRefIdeal.τ).loc Cert.InPRefIdeal.main_arg1) = m ((c.tc : Thread Cert.InPIdeal.nD Cert.InPIdeal.τ).loc Cert.InPIdeal.main_arg1)
      ∧ m' ((c.tc : Thread Cert.InPRefIdeal.nD Cert.InPRefIdeal.τ).loc Cert.InPRefIdeal.main_arg2) = m ((c.tc : Thread Cert.InPIdeal.nD Cert.InPIdeal.τ).loc Cert.InPIdeal.main_arg2)
      ∧ m' ((c.tc : Thread Cert.InPRefIdeal.nD Cert.InPRefIdeal.τ).loc Cert.InPRefIdeal.main_arg3) = m ((c.tc : Thread Cert.InPIdeal.nD Cert.InPIdeal.τ).loc Cert.InPIdeal.main_arg3)
      ∧ m' ((c.tc : Thread Cert.InPRefIdeal.nD Cert.InPRefIdeal.τ).loc Cert.InPRefIdeal.main_arg4) = m ((c.tc : Thread Cert.InPIdeal.nD Cert.InPIdeal.τ).loc Cert.InPIdeal.main_arg4)) →
    ∃ (v0 : (c : Dev Cert.InPIdeal.nD) → Buf (Elt Ideal) ((c.tc : Thread Cert.InPIdeal.nD Cert.InPIdeal.τ).loc Cert.InPIdeal.main_v19_0)) (v1 : (c : Dev Cert.InPIdeal.nD) → Buf (Elt Ideal) ((c.tc : Thread Cert.InPIdeal.nD Cert.InPIdeal.τ).loc Cert.InPIdeal.main_v19_1)) (v2 : (c : Dev Cert.InPIdeal.nD) → Buf (Elt Ideal) ((c.tc : Thread Cert.InPIdeal.nD Cert.InPIdeal.τ).loc Cert.InPIdeal.main_v19_2)) (v3 : (c : Dev Cert.InPIdeal.nD) → Buf (Elt Ideal) ((c.tc : Thread Cert.InPIdeal.nD Cert.InPIdeal.τ).loc Cert.InPIdeal.main_v19_3)) (v4 : (c : Dev Cert.InPIdeal.nD) → Buf (Elt Ideal) ((c.tc : Thread Cert.InPIdeal.nD Cert.InPIdeal.τ).loc Cert.InPIdeal.main_v19_4)) (v5 : (c : Dev Cert.InPIdeal.nD) → Buf (Elt Ideal) ((c.tc : Thread Cert.InPIdeal.nD Cert.InPIdeal.τ).loc Cert.InPIdeal.main_v19_5)) (v6 : (c : Dev Cert.InPIdeal.nD) → Buf (Elt Ideal) ((c.tc : Thread Cert.InPIdeal.nD Cert.InPIdeal.τ).loc Cert.InPIdeal.main_v19_6)) (v7 : (c : Dev Cert.InPIdeal.nD) → Buf (Elt Ideal) ((c.tc : Thread Cert.InPIdeal.nD Cert.InPIdeal.τ).loc Cert.InPIdeal.main_v19_7)) (v8 : (c : Dev Cert.InPIdeal.nD) → Buf (Elt Ideal) ((c.tc : Thread Cert.InPIdeal.nD Cert.InPIdeal.τ).loc Cert.InPIdeal.main_v19_8)),
      θ_run (Cert.InPIdeal.defs (F := Ideal)) (onTc (τ := Cert.InPIdeal.τ) (Cert.InPIdeal.main (F := Ideal))) ⟨m, fun _ => 0, g⟩ (fun r => ∀ c : Dev Cert.InPIdeal.nD,
          r.2.mem ((c.tc : Thread Cert.InPIdeal.nD Cert.InPIdeal.τ).loc Cert.InPIdeal.main_v19_0) = v0 c
          ∧ r.2.mem ((c.tc : Thread Cert.InPIdeal.nD Cert.InPIdeal.τ).loc Cert.InPIdeal.main_v19_1) = v1 c
          ∧ r.2.mem ((c.tc : Thread Cert.InPIdeal.nD Cert.InPIdeal.τ).loc Cert.InPIdeal.main_v19_2) = v2 c
          ∧ r.2.mem ((c.tc : Thread Cert.InPIdeal.nD Cert.InPIdeal.τ).loc Cert.InPIdeal.main_v19_3) = v3 c
          ∧ r.2.mem ((c.tc : Thread Cert.InPIdeal.nD Cert.InPIdeal.τ).loc Cert.InPIdeal.main_v19_4) = v4 c
          ∧ r.2.mem ((c.tc : Thread Cert.InPIdeal.nD Cert.InPIdeal.τ).loc Cert.InPIdeal.main_v19_5) = v5 c
          ∧ r.2.mem ((c.tc : Thread Cert.InPIdeal.nD Cert.InPIdeal.τ).loc Cert.InPIdeal.main_v19_6) = v6 c
          ∧ r.2.mem ((c.tc : Thread Cert.InPIdeal.nD Cert.InPIdeal.τ).loc Cert.InPIdeal.main_v19_7) = v7 c
          ∧ r.2.mem ((c.tc : Thread Cert.InPIdeal.nD Cert.InPIdeal.τ).loc Cert.InPIdeal.main_v19_8) = v8 c
          ∧ r.2.mem ((c.tc : Thread Cert.InPIdeal.nD Cert.InPIdeal.τ).loc Cert.InPIdeal.main_arg0) = m ((c.tc : Thread Cert.InPIdeal.nD Cert.InPIdeal.τ).loc Cert.InPIdeal.main_arg0)
          ∧ r.2.mem ((c.tc : Thread Cert.InPIdeal.nD Cert.InPIdeal.τ).loc Cert.InPIdeal.main_arg1) = m ((c.tc : Thread Cert.InPIdeal.nD Cert.InPIdeal.τ).loc Cert.InPIdeal.main_arg1)
          ∧ r.2.mem ((c.tc : Thread Cert.InPIdeal.nD Cert.InPIdeal.τ).loc Cert.InPIdeal.main_arg2) = m ((c.tc : Thread Cert.InPIdeal.nD Cert.InPIdeal.τ).loc Cert.InPIdeal.main_arg2)
          ∧ r.2.mem ((c.tc : Thread Cert.InPIdeal.nD Cert.InPIdeal.τ).loc Cert.InPIdeal.main_arg3) = m ((c.tc : Thread Cert.InPIdeal.nD Cert.InPIdeal.τ).loc Cert.InPIdeal.main_arg3)
          ∧ r.2.mem ((c.tc : Thread Cert.InPIdeal.nD Cert.InPIdeal.τ).loc Cert.InPIdeal.main_arg4) = m ((c.tc : Thread Cert.InPIdeal.nD Cert.InPIdeal.τ).loc Cert.InPIdeal.main_arg4))
      ∧ θ_run (Cert.InPRefIdeal.defs (F := Ideal)) (onTc (τ := Cert.InPRefIdeal.τ) (Cert.InPRefIdeal.main (F := Ideal))) ⟨m', fun _ => 0, g'⟩ (fun r => ∀ c : Dev Cert.InPRefIdeal.nD,
          r.2.mem ((c.tc : Thread Cert.InPRefIdeal.nD Cert.InPRefIdeal.τ).loc Cert.InPRefIdeal.main_v71) = v0 c
          ∧ r.2.mem ((c.tc : Thread Cert.InPRefIdeal.nD Cert.InPRefIdeal.τ).loc Cert.InPRefIdeal.main_v72) = v1 c
          ∧ r.2.mem ((c.tc : Thread Cert.InPRefIdeal.nD Cert.InPRefIdeal.τ).loc Cert.InPRefIdeal.main_v73) = v2 c
          ∧ r.2.mem ((c.tc : Thread Cert.InPRefIdeal.nD Cert.InPRefIdeal.τ).loc Cert.InPRefIdeal.main_v75) = v3 c
          ∧ r.2.mem ((c.tc : Thread Cert.InPRefIdeal.nD Cert.InPRefIdeal.τ).loc Cert.InPRefIdeal.main_v77) = v4 c
          ∧ r.2.mem ((c.tc : Thread Cert.InPRefIdeal.nD Cert.InPRefIdeal.τ).loc Cert.InPRefIdeal.main_v78) = v5 c
          ∧ r.2.mem ((c.tc : Thread Cert.InPRefIdeal.nD Cert.InPRefIdeal.τ).loc Cert.InPRefIdeal.main_v79) = v6 c
          ∧ r.2.mem ((c.tc : Thread Cert.InPRefIdeal.nD Cert.InPRefIdeal.τ).loc Cert.InPRefIdeal.main_v81) = v7 c
          ∧ r.2.mem ((c.tc : Thread Cert.InPRefIdeal.nD Cert.InPRefIdeal.τ).loc Cert.InPRefIdeal.main_v83) = v8 c
          ∧ r.2.mem ((c.tc : Thread Cert.InPRefIdeal.nD Cert.InPRefIdeal.τ).loc Cert.InPRefIdeal.main_arg0) = m' ((c.tc : Thread Cert.InPRefIdeal.nD Cert.InPRefIdeal.τ).loc Cert.InPRefIdeal.main_arg0)
          ∧ r.2.mem ((c.tc : Thread Cert.InPRefIdeal.nD Cert.InPRefIdeal.τ).loc Cert.InPRefIdeal.main_arg1) = m' ((c.tc : Thread Cert.InPRefIdeal.nD Cert.InPRefIdeal.τ).loc Cert.InPRefIdeal.main_arg1)
          ∧ r.2.mem ((c.tc : Thread Cert.InPRefIdeal.nD Cert.InPRefIdeal.τ).loc Cert.InPRefIdeal.main_arg2) = m' ((c.tc : Thread Cert.InPRefIdeal.nD Cert.InPRefIdeal.τ).loc Cert.InPRefIdeal.main_arg2)
          ∧ r.2.mem ((c.tc : Thread Cert.InPRefIdeal.nD Cert.InPRefIdeal.τ).loc Cert.InPRefIdeal.main_arg3) = m' ((c.tc : Thread Cert.InPRefIdeal.nD Cert.InPRefIdeal.τ).loc Cert.InPRefIdeal.main_arg3)
          ∧ r.2.mem ((c.tc : Thread Cert.InPRefIdeal.nD Cert.InPRefIdeal.τ).loc Cert.InPRefIdeal.main_arg4) = m' ((c.tc : Thread Cert.InPRefIdeal.nD Cert.InPRefIdeal.τ).loc Cert.InPRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v10_0)) (v1 : (c : Dev Cert.FfnIdeal.nD) → Buf (Elt Ideal) ((c.tc : Thread Cert.FfnIdeal.nD Cert.FfnIdeal.τ).loc Cert.FfnIdeal.main_v10_1)) (v2 : (c : Dev Cert.FfnIdeal.nD) → Buf (Elt Ideal) ((c.tc : Thread Cert.FfnIdeal.nD Cert.FfnIdeal.τ).loc Cert.FfnIdeal.main_v10_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10_0) = v0 c
          ∧ r.2.mem ((c.tc : Thread Cert.FfnIdeal.nD Cert.FfnIdeal.τ).loc Cert.FfnIdeal.main_v10_1) = v1 c
          ∧ r.2.mem ((c.tc : Thread Cert.FfnIdeal.nD Cert.FfnIdeal.τ).loc Cert.FfnIdeal.main_v10_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v67) = v0 c
          ∧ r.2.mem ((c.tc : Thread Cert.FfnRefIdeal.nD Cert.FfnRefIdeal.τ).loc Cert.FfnRefIdeal.main_v68) = v1 c
          ∧ r.2.mem ((c.tc : Thread Cert.FfnRefIdeal.nD Cert.FfnRefIdeal.τ).loc Cert.FfnRefIdeal.main_v69) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Cross_CrossIdeal : Prop :=
  True

def algebraic_CrossIdeal_CrossRefIdeal_pre_cross_finite [hCrossIdeal : Cert.CrossIdeal.Facts] [hCrossRefIdeal : Cert.CrossRefIdeal.Facts] [hPre_cross_finite : Cert.Pre_cross_finite.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal_cross_finite m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)
      ∧ m' ((c.tc : Thread Cert.CrossRefIdeal.nD Cert.CrossRefIdeal.τ).loc Cert.CrossRefIdeal.main_arg5) = m ((c.tc : Thread Cert.CrossIdeal.nD Cert.CrossIdeal.τ).loc Cert.CrossIdeal.main_arg5)) →
    ∃ (v0 : (c : Dev Cert.CrossIdeal.nD) → Buf (Elt Ideal) ((c.tc : Thread Cert.CrossIdeal.nD Cert.CrossIdeal.τ).loc Cert.CrossIdeal.main_v6)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v6) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
          ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v42) = v0 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4)
          ∧ r.2.mem ((c.tc : Thread Cert.CrossRefIdeal.nD Cert.CrossRefIdeal.τ).loc Cert.CrossRefIdeal.main_arg5) = m' ((c.tc : Thread Cert.CrossRefIdeal.nD Cert.CrossRefIdeal.τ).loc Cert.CrossRefIdeal.main_arg5))

def preserves_Merge_MergeIdeal : Prop :=
  True

def Claim : Prop :=
  ∃ (hFox : Cert.Fox.Facts) (hFoxIdeal : Cert.FoxIdeal.Facts) (hFoxRefIdeal : Cert.FoxRefIdeal.Facts) (hMemkv : Cert.Memkv.Facts) (hMemkvIdeal : Cert.MemkvIdeal.Facts) (hMemkvRefIdeal : Cert.MemkvRefIdeal.Facts) (hInS : Cert.InS.Facts) (hInSIdeal : Cert.InSIdeal.Facts) (hInSRefIdeal : Cert.InSRefIdeal.Facts) (hInP : Cert.InP.Facts) (hInPIdeal : Cert.InPIdeal.Facts) (hInPRefIdeal : Cert.InPRefIdeal.Facts) (hFfn : Cert.Ffn.Facts) (hFfnIdeal : Cert.FfnIdeal.Facts) (hFfnRefIdeal : Cert.FfnRefIdeal.Facts) (hCross : Cert.Cross.Facts) (hCrossIdeal : Cert.CrossIdeal.Facts) (hCrossRefIdeal : Cert.CrossRefIdeal.Facts) (hMerge : Cert.Merge.Facts) (hMergeIdeal : Cert.MergeIdeal.Facts) (hMergeRefIdeal : Cert.MergeRefIdeal.Facts) (hPre_cross_finite : Cert.Pre_cross_finite.Facts),
    quiescent_Fox (hFox := hFox)
    ∧ quiescent_FoxIdeal (hFoxIdeal := hFoxIdeal)
    ∧ quiescent_FoxRefIdeal (hFoxRefIdeal := hFoxRefIdeal)
    ∧ quiescent_Memkv (hMemkv := hMemkv)
    ∧ quiescent_MemkvIdeal (hMemkvIdeal := hMemkvIdeal)
    ∧ quiescent_MemkvRefIdeal (hMemkvRefIdeal := hMemkvRefIdeal)
    ∧ quiescent_InS (hInS := hInS)
    ∧ quiescent_InSIdeal (hInSIdeal := hInSIdeal)
    ∧ quiescent_InSRefIdeal (hInSRefIdeal := hInSRefIdeal)
    ∧ quiescent_InP (hInP := hInP)
    ∧ quiescent_InPIdeal (hInPIdeal := hInPIdeal)
    ∧ quiescent_InPRefIdeal (hInPRefIdeal := hInPRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Cross (hCross := hCross)
    ∧ quiescent_CrossIdeal (hCrossIdeal := hCrossIdeal)
    ∧ quiescent_CrossIdeal_pre_cross_finite (hCrossIdeal := hCrossIdeal) (hPre_cross_finite := hPre_cross_finite)
    ∧ quiescent_CrossRefIdeal (hCrossRefIdeal := hCrossRefIdeal)
    ∧ quiescent_CrossRefIdeal_pre_cross_finite (hCrossRefIdeal := hCrossRefIdeal) (hPre_cross_finite := hPre_cross_finite)
    ∧ quiescent_Merge (hMerge := hMerge)
    ∧ quiescent_MergeIdeal (hMergeIdeal := hMergeIdeal)
    ∧ quiescent_MergeRefIdeal (hMergeRefIdeal := hMergeRefIdeal)
    ∧ preserves_Fox_FoxIdeal
    ∧ preserves_Memkv_MemkvIdeal
    ∧ algebraic_MemkvIdeal_MemkvRefIdeal (hMemkvIdeal := hMemkvIdeal) (hMemkvRefIdeal := hMemkvRefIdeal)
    ∧ preserves_InS_InSIdeal
    ∧ algebraic_InSIdeal_InSRefIdeal (hInSIdeal := hInSIdeal) (hInSRefIdeal := hInSRefIdeal)
    ∧ preserves_InP_InPIdeal
    ∧ algebraic_InPIdeal_InPRefIdeal (hInPIdeal := hInPIdeal) (hInPRefIdeal := hInPRefIdeal)
    ∧ preserves_Ffn_FfnIdeal
    ∧ algebraic_FfnIdeal_FfnRefIdeal (hFfnIdeal := hFfnIdeal) (hFfnRefIdeal := hFfnRefIdeal)
    ∧ preserves_Cross_CrossIdeal
    ∧ algebraic_CrossIdeal_CrossRefIdeal_pre_cross_finite (hCrossIdeal := hCrossIdeal) (hCrossRefIdeal := hCrossRefIdeal) (hPre_cross_finite := hPre_cross_finite)
    ∧ preserves_Merge_MergeIdeal
-- ==== Pre_cross_finite.lean ====
abbrev S32768x1024 : Shape := ⟨2, ![32768, 1024]⟩
abbrev S4096x1024 : Shape := ⟨2, ![4096, 1024]⟩
abbrev S1x1024 : Shape := ⟨2, ![1, 1024]⟩
abbrev S1x1024x1024 : Shape := ⟨3, ![1, 1024, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1x1024x1024 : S_.BroadcastsInDim S1x1024x1024 (![] : Fin 0 → Fin S1x1024x1024.rank)

variable [Facts]

def fn {F : FTy → Type} [FloatOps F] (main_arg0 : FVec F S32768x1024 .f32) (main_arg1 : FVec F S4096x1024 .bf16) (main_arg2 : FVec F S4096x1024 .bf16) (main_arg3 : FVec F S1x1024 .f32) (main_arg4 : FVec F S1x1024x1024 .f32) (main_arg5 : FVec F S1x1024x1024 .f32) : IVec S4096x1024 1 × IVec S1x1024 1 × IVec S1x1024x1024 1 :=
  let main_v0 : FVec F S4096x1024 .f32 := (extf .f32 · bitsLt_bf16_f32) main_arg1
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S1x1024 .f32 := Host.absf main_arg3
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_v7 : FVec F S1x1024x1024 .f32 := Host.absf main_arg4
  let main_cst_1 : FVec F S_ .f32 := constant S_ .f32 0x7F800000#32
  let main_v8 : FVec F S1x1024x1024 .f32 := broadcastInDim S1x1024x1024 ![] bcast_S_S1x1024x1024 main_cst_1
  let main_v9 : IVec S1x1024x1024 1 := cmpf .olt main_v7 main_v8
  (main_v3, main_v6, main_v9)
-- ==== Fox.lean ====
abbrev S32768x512 : Shape := ⟨2, ![32768, 512]⟩
abbrev S8x32768 : Shape := ⟨2, ![8, 32768]⟩
abbrev S4x2x16x8x256 : Shape := ⟨5, ![4, 2, 16, 8, 256]⟩
abbrev S256x128 : Shape := ⟨2, ![256, 128]⟩
abbrev S2048x128 : Shape := ⟨2, ![2048, 128]⟩
abbrev S1x2x1x8x256 : Shape := ⟨5, ![1, 2, 1, 8, 256]⟩
abbrev S256x256 : Shape := ⟨2, ![256, 256]⟩
abbrev S256x1 : Shape := ⟨2, ![256, 1]⟩
abbrev S1x1x1x1x256 : Shape := ⟨5, ![1, 1, 1, 1, 256]⟩
abbrev S1x256 : Shape := ⟨2, ![1, 256]⟩
abbrev S256 : Shape := ⟨1, ![256]⟩

abbrev nBuf : Space → Nat
  | .hbm => 6
  | .vmem => 10
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S8x32768, .f32⟩
  | .hbm, ⟨4, _⟩ => ⟨S4x2x16x8x256, .f32⟩
  | .hbm, ⟨5, _⟩ => ⟨S32768x512, .f32⟩
  | .local _ .vmem, ⟨0, _⟩ => ⟨S256x128, .bf16⟩
  | .local _ .vmem, ⟨1, _⟩ => ⟨S256x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x2x1x8x256, .f32⟩
  | .local _ .vmem, ⟨7, _⟩ => ⟨S1x2x1x8x256, .f32⟩
  | .local _ .vmem, ⟨8, _⟩ => ⟨S256x128, .f32⟩
  | .local _ .vmem, ⟨9, _⟩ => ⟨S256x128, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 8], ![false, false, false]⟩

@[reducible] def k0_t1_loop (i : grid0.Coords) : Scf.Loop 32 :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_7 : BitVec 32 := 1#32
  ⟨c0_i32, v20, c1_i32_7⟩
def k0_mult1 (i : grid0.Coords) (k0_t1 : Fin (k0_t1_loop i).trips) : BitVec 32 :=
  let c0_i32 : BitVec 32 := 0#32
  let c1_i32_7 : BitVec 32 := 1#32
  let arg8 : BitVec 32 := Scf.iv c0_i32 c1_i32_7 k0_t1
  let c256_i32_30 : BitVec 32 := 256#32
  let v85 : BitVec 32 := Scalar.muli arg8 c256_i32_30
  v85
def k0_off1 (i : grid0.Coords) (k0_t1 : Fin (k0_t1_loop i).trips) : Fin 2 → Nat :=
  let c0_i32 : BitVec 32 := 0#32
  let c1_i32_7 : BitVec 32 := 1#32
  let arg8 : BitVec 32 := Scf.iv c0_i32 c1_i32_7 k0_t1
  let c256_i32_30 : BitVec 32 := 256#32
  let v85 : BitVec 32 := Scalar.muli arg8 c256_i32_30
  let v86 : BitVec 32 := v85
  let v87 : Index := Scalar.indexCast v86
  let c0_31 : Index := 0#32
  ![v87.toNat, 0]
def k0_off2 (i : grid0.Coords) (k0_t1 : Fin (k0_t1_loop i).trips) : Fin 5 → Nat :=
  let c0_34 : Index := 0#32
  let c0_35 : Index := 0#32
  let c0_36 : Index := 0#32
  let c0_i32 : BitVec 32 := 0#32
  let c1_i32_7 : BitVec 32 := 1#32
  let arg8 : BitVec 32 := Scf.iv c0_i32 c1_i32_7 k0_t1
  let v92 : Index := Scalar.indexCast arg8
  let c0_37 : Index := 0#32
  ![0, 0, 0, v92.toNat, 0]
def k0_off3 (i : grid0.Coords) (k0_t1 : Fin (k0_t1_loop i).trips) : Fin 5 → Nat :=
  let c0_42 : Index := 0#32
  let c1_43 : Index := 1#32
  let c0_44 : Index := 0#32
  let c0_i32 : BitVec 32 := 0#32
  let c1_i32_7 : BitVec 32 := 1#32
  let arg8 : BitVec 32 := Scf.iv c0_i32 c1_i32_7 k0_t1
  let v115 : Index := Scalar.indexCast arg8
  let c0_45 : Index := 0#32
  ![0, 1, 0, v115.toNat, 0]
@[reducible] def k0_t2_loop (i : grid0.Coords) : Scf.Loop 32 :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let v17 : BitVec 32 := Scalar.addi c0_i32 v16
  let c1_i32_8 : BitVec 32 := 1#32
  ⟨v20, v17, c1_i32_8⟩
def k0_mult2 (i : grid0.Coords) (k0_t2 : Fin (k0_t2_loop i).trips) : BitVec 32 :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_8 : BitVec 32 := 1#32
  let arg8 : BitVec 32 := Scf.iv v20 c1_i32_8 k0_t2
  let c256_i32_30 : BitVec 32 := 256#32
  let v85 : BitVec 32 := Scalar.muli arg8 c256_i32_30
  v85
def k0_off4 (i : grid0.Coords) (k0_t2 : Fin (k0_t2_loop i).trips) : Fin 2 → Nat :=
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_8 : BitVec 32 := 1#32
  let arg8 : BitVec 32 := Scf.iv v20 c1_i32_8 k0_t2
  let c256_i32_30 : BitVec 32 := 256#32
  let v85 : BitVec 32 := Scalar.muli arg8 c256_i32_30
  let v86 : BitVec 32 := v85
  let v87 : Index := Scalar.indexCast v86
  let c0_31 : Index := 0#32
  ![v87.toNat, 0]
def k0_off5 (i : grid0.Coords) (k0_t2 : Fin (k0_t2_loop i).trips) : Fin 5 → Nat :=
  let c0_34 : Index := 0#32
  let c0_35 : Index := 0#32
  let c0_36 : Index := 0#32
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_8 : BitVec 32 := 1#32
  let arg8 : BitVec 32 := Scf.iv v20 c1_i32_8 k0_t2
  let v92 : Index := Scalar.indexCast arg8
  let c0_37 : Index := 0#32
  ![0, 0, 0, v92.toNat, 0]
def k0_off6 (i : grid0.Coords) (k0_t2 : Fin (k0_t2_loop i).trips) : Fin 5 → Nat :=
  let c0_42 : Index := 0#32
  let c1_43 : Index := 1#32
  let c0_44 : Index := 0#32
  let c0_i32 : BitVec 32 := 0#32
  let arg2 : BitVec 32 := BitVec.ofNat 32 (i 2).val
  let v16 : BitVec 32 := Scalar.subi arg2 c0_i32
  let c1_i32 : BitVec 32 := 1#32
  let v18 : BitVec 32 := Scalar.divsi v16 c1_i32
  let v19 : BitVec 32 := Scalar.muli v18 c1_i32
  let v20 : BitVec 32 := Scalar.addi c0_i32 v19
  let c1_i32_8 : BitVec 32 := 1#32
  let arg8 : BitVec 32 := Scf.iv v20 c1_i32_8 k0_t2
  let v115 : Index := Scalar.indexCast arg8
  let c0_45 : Index := 0#32
  ![0, 1, 0, v115.toNat, 0]
def k0_mult3 (i : grid0.Coords) : BitVec 32 :=
  let arg2 : BitVec 32 := BitVec.ofNat 32 (i 2).val
  let c256_i32 : BitVec 32 := 256#32
  let v23 : BitVec 32 := Scalar.muli arg2 c256_i32
  v23
def k0_off7 (i : grid0.Coords) : Fin 2 → Nat :=
  let arg2 : BitVec 32 := BitVec.ofNat 32 (i 2).val
  let c256_i32 : BitVec 32 := 256#32
  let v23 : BitVec 32 := Scalar.muli arg2 c256_i32
  let v24 : BitVec 32 := v23
  let v25 : Index := Scalar.indexCast v24
  let c0_9 : Index := 0#32
  ![v25.toNat, 0]
def k0_off8 (i : grid0.Coords) : Fin 5 → Nat :=
  let c0_12 : Index := 0#32
  let c0_13 : Index := 0#32
  let c0_14 : Index := 0#32
  let arg2 : BitVec 32 := BitVec.ofNat 32 (i 2).val
  let v30 : Index := Scalar.indexCast arg2
  let c0_15 : Index := 0#32
  ![0, 0, 0, v30.toNat, 0]
def k0_off9 (i : grid0.Coords) : Fin 5 → Nat :=
  let c0_21 : Index := 0#32
  let c1 : Index := 1#32
  let c0_22 : Index := 0#32
  let arg2 : BitVec 32 := BitVec.ofNat 32 (i 2).val
  let v55 : Index := Scalar.indexCast arg2
  let c0_23 : Index := 0#32
  ![0, 1, 0, v55.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, arg0.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x1x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== FoxRefIdeal.lean ====
abbrev S32768x512 : Shape := ⟨2, ![32768, 512]⟩
abbrev S8x32768 : Shape := ⟨2, ![8, 32768]⟩
abbrev S16x2048x8x64 : Shape := ⟨4, ![16, 2048, 8, 64]⟩
abbrev S8x16x2048 : Shape := ⟨3, ![8, 16, 2048]⟩
abbrev S16x2048x8 : Shape := ⟨3, ![16, 2048, 8]⟩
abbrev S2048 : Shape := ⟨1, ![2048]⟩
abbrev S16x8x2048x2048 : Shape := ⟨4, ![16, 8, 2048, 2048]⟩
abbrev S16x8x2048 : Shape := ⟨3, ![16, 8, 2048]⟩
abbrev S16x8x2048x1 : Shape := ⟨4, ![16, 8, 2048, 1]⟩
abbrev S16x8x1x2048 : Shape := ⟨4, ![16, 8, 1, 2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S16x8x64x2048 : Shape := ⟨4, ![16, 8, 64, 2048]⟩

abbrev nBuf : Space → Nat
  | .hbm => 50
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S8x32768, .f32⟩
  | .hbm, ⟨4, _⟩ => ⟨S32768x512, .f32⟩
  | .hbm, ⟨5, _⟩ => ⟨S16x2048x8x64, .f32⟩
  | .hbm, ⟨6, _⟩ => ⟨S32768x512, .f32⟩
  | .hbm, ⟨7, _⟩ => ⟨S16x2048x8x64, .f32⟩
  | .hbm, ⟨8, _⟩ => ⟨S32768x512, .f32⟩
  | .hbm, ⟨9, _⟩ => ⟨S16x2048x8x64, .f32⟩
  | .hbm, ⟨10, _⟩ => ⟨S8x16x2048, .f32⟩
  | .hbm, ⟨11, _⟩ => ⟨S16x2048x8, .f32⟩
  | .hbm, ⟨12, _⟩ => ⟨S2048, .i32⟩
  | .hbm, ⟨13, _⟩ => ⟨S2048, .i32⟩
  | .hbm, ⟨14, _⟩ => ⟨S16x8x2048x2048, .f32⟩
  | .hbm, ⟨15, _⟩ => ⟨S16x8x2048, .f32⟩
  | .hbm, ⟨16, _⟩ => ⟨S16x8x2048x1, .f32⟩
  | .hbm, ⟨17, _⟩ => ⟨S16x8x2048, .f32⟩
  | .hbm, ⟨18, _⟩ => ⟨S16x8x1x2048, .f32⟩
  | .hbm, ⟨19, _⟩ => ⟨S16x8x2048x2048, .f32⟩
  | .hbm, ⟨20, _⟩ => ⟨S16x8x2048x2048, .f32⟩
  | .hbm, ⟨21, _⟩ => ⟨S16x8x2048x2048, .f32⟩
  | .hbm, ⟨22, _⟩ => ⟨S16x8x2048x2048, .f32⟩
  | .hbm, ⟨23, _⟩ => ⟨S1x2048, .i32⟩
  | .hbm, ⟨24, _⟩ => ⟨S2048x1, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .f32⟩
  | .hbm, ⟨29, _⟩ => ⟨S_, .f32⟩
  | .hbm, ⟨30, _⟩ => ⟨S16x8x2048x2048, .i1⟩
  | .hbm, ⟨31, _⟩ => ⟨S16x8x2048x2048, .f32⟩
  | .hbm, ⟨32, _⟩ => ⟨S16x8x2048x2048, .f32⟩
  | .hbm, ⟨33, _⟩ => ⟨S_, .f32⟩
  | .hbm, ⟨34, _⟩ => ⟨S16x8x2048, .f32⟩
  | .hbm, ⟨35, _⟩ => ⟨S_, .f32⟩
  | .hbm, ⟨36, _⟩ => ⟨S16x8x2048, .f32⟩
  | .hbm, ⟨37, _⟩ => ⟨S16x8x2048, .f32⟩
  | .hbm, ⟨38, _⟩ => ⟨S16x8x2048x1, .f32⟩
  | .hbm, ⟨39, _⟩ => ⟨S16x8x2048x2048, .f32⟩
  | .hbm, ⟨40, _⟩ => ⟨S16x8x2048x2048, .f32⟩
  | .hbm, ⟨41, _⟩ => ⟨S16x8x2048x2048, .f32⟩
  | .hbm, ⟨42, _⟩ => ⟨S_, .f32⟩
  | .hbm, ⟨43, _⟩ => ⟨S16x8x2048, .f32⟩
  | .hbm, ⟨44, _⟩ => ⟨S16x8x2048x1, .f32⟩
  | .hbm, ⟨45, _⟩ => ⟨S16x8x2048x2048, .f32⟩
  | .hbm, ⟨46, _⟩ => ⟨S16x8x2048x2048, .f32⟩
  | .hbm, ⟨47, _⟩ => ⟨S16x8x64x2048, .f32⟩
  | .hbm, ⟨48, _⟩ => ⟨S16x2048x8x64, .f32⟩
  | .hbm, ⟨49, _⟩ => ⟨S32768x512, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Memkv.lean ====
abbrev S16x256x1024 : Shape := ⟨3, ![16, 256, 1024]⟩
abbrev S1x1024 : Shape := ⟨2, ![1, 1024]⟩
abbrev S1x1024x1024 : Shape := ⟨3, ![1, 1024, 1024]⟩
abbrev S4096x1024 : Shape := ⟨2, ![4096, 1024]⟩
abbrev S1024 : Shape := ⟨1, ![1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 13
  | .smem => 0
  | _ => 0

abbrev bufTy : (tb : Table) → Fin (tcTables nBuf tb) → BufTy
  | .hbm, ⟨0, _⟩ => ⟨S16x256x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S4096x1024, .f32⟩
  | .hbm, ⟨5, _⟩ => ⟨S1024, .f32⟩
  | .hbm, ⟨6, _⟩ => ⟨S1x1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S4096x1024, .f32⟩
  | .hbm, ⟨12, _⟩ => ⟨S4096x1024, .f32⟩
  | .hbm, ⟨13, _⟩ => ⟨S4096x1024, .bf16⟩
  | .hbm, ⟨14, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MemkvRefIdeal.lean ====
abbrev S16x256x1024 : Shape := ⟨3, ![16, 256, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S1024x1024 : Shape := ⟨2, ![1024, 1024]⟩
abbrev S4096x1024 : Shape := ⟨2, ![4096, 1024]⟩

abbrev nBuf : Space → Nat
  | .hbm => 29
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S1024, .f32⟩
  | .hbm, ⟨5, _⟩ => ⟨S16x256x1024, .f32⟩
  | .hbm, ⟨6, _⟩ => ⟨S_, .f32⟩
  | .hbm, ⟨7, _⟩ => ⟨S16x256, .f32⟩
  | .hbm, ⟨8, _⟩ => ⟨S16x256x1, .f32⟩
  | .hbm, ⟨9, _⟩ => ⟨S_, .f32⟩
  | .hbm, ⟨10, _⟩ => ⟨S16x256x1, .f32⟩
  | .hbm, ⟨11, _⟩ => ⟨S16x256x1, .f32⟩
  | .hbm, ⟨12, _⟩ => ⟨S_, .f32⟩
  | .hbm, ⟨13, _⟩ => ⟨S16x256x1, .f32⟩
  | .hbm, ⟨14, _⟩ => ⟨S16x256x1, .f32⟩
  | .hbm, ⟨15, _⟩ => ⟨S16x256x1, .f32⟩
  | .hbm, ⟨16, _⟩ => ⟨S16x256x1024, .f32⟩
  | .hbm, ⟨17, _⟩ => ⟨S16x256x1024, .f32⟩
  | .hbm, ⟨18, _⟩ => ⟨S1x1x1024, .f32⟩
  | .hbm, ⟨19, _⟩ => ⟨S16x256x1024, .f32⟩
  | .hbm, ⟨20, _⟩ => ⟨S16x256x1024, .f32⟩
  | .hbm, ⟨21, _⟩ => ⟨S1024x1024, .f32⟩
  | .hbm, ⟨22, _⟩ => ⟨S16x256x1024, .f32⟩
  | .hbm, ⟨23, _⟩ => ⟨S4096x1024, .f32⟩
  | .hbm, ⟨24, _⟩ => ⟨S1024x1024, .f32⟩
  | .hbm, ⟨25, _⟩ => ⟨S16x256x1024, .f32⟩
  | .hbm, ⟨26, _⟩ => ⟨S4096x1024, .f32⟩
  | .hbm, ⟨27, _⟩ => ⟨S4096x1024, .bf16⟩
  | .hbm, ⟨28, _⟩ => ⟨S4096x1024, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== InS.lean ====
abbrev S32x1x1024 : Shape := ⟨3, ![32, 1, 1024]⟩
abbrev S1x1024 : Shape := ⟨2, ![1, 1024]⟩
abbrev S1x1024x2568 : Shape := ⟨3, ![1, 1024, 2568]⟩
abbrev S1x8 : Shape := ⟨2, ![1, 8]⟩
abbrev S1x512 : Shape := ⟨2, ![1, 512]⟩
abbrev S8 : Shape := ⟨1, ![8]⟩
abbrev S_ : Shape := ⟨0, ![]⟩
abbrev S128 : Shape := ⟨1, ![128]⟩
abbrev S1x128 : Shape := ⟨2, ![1, 128]⟩
abbrev S32x1024 : Shape := ⟨2, ![32, 1024]⟩
abbrev S1024 : Shape := ⟨1, ![1024]⟩
abbrev S1024x2568 : Shape := ⟨2, ![1024, 2568]⟩
abbrev S1024x1536 : Shape := ⟨2, ![1024, 1536]⟩
abbrev S1024x1024 : Shape := ⟨2, ![1024, 1024]⟩
abbrev S1024x8 : Shape := ⟨2, ![1024, 8]⟩
abbrev S1024x128 : Shape := ⟨2, ![1024, 128]⟩
abbrev S1024x2688 : Shape := ⟨2, ![1024, 2688]⟩
abbrev S512 : Shape := ⟨1, ![512]⟩
abbrev S32x512 : Shape := ⟨2, ![32, 512]⟩
abbrev S32x8 : Shape := ⟨2, ![32, 8]⟩
abbrev S32 : Shape := ⟨1, ![32]⟩
abbrev S32x1 : Shape := ⟨2, ![32, 1]⟩
abbrev S1024x512 : Shape := ⟨2, ![1024, 512]⟩
abbrev S32x128 : Shape := ⟨2, ![32, 128]⟩

abbrev nBuf : Space → Nat
  | .hbm => 30
  | .vmem => 11
  | .smem => 0
  | _ => 0

abbrev bufTy : (tb : Table) → Fin (tcTables nBuf tb) → BufTy
  | .hbm, ⟨0, _⟩ => ⟨S32x1x1024, .f32⟩
  | .hbm, ⟨1, _⟩ => ⟨S1x1024, .f32⟩
  | .hbm, ⟨2, _⟩ => ⟨S1x1024x2568, .f32⟩
  | .hbm, ⟨3, _⟩ => ⟨S1x8, .f32⟩
  | .hbm, ⟨4, _⟩ => ⟨S1x512, .f32⟩
  | .hbm, ⟨5, _⟩ => ⟨S8, .f32⟩
  | .hbm, ⟨6, _⟩ => ⟨S_, .i32⟩
  | .hbm, ⟨7, _⟩ => ⟨S_, .f32⟩
  | .hbm, ⟨8, _⟩ => ⟨S128, .f32⟩
  | .hbm, ⟨9, _⟩ => ⟨S1x128, .f32⟩
  | .hbm, ⟨10, _⟩ => ⟨S32x1024, .f32⟩
  | .hbm, ⟨11, _⟩ => ⟨S1024, .f32⟩
  | .hbm, ⟨12, _⟩ => ⟨S1x1024, .f32⟩
  | .hbm, ⟨13, _⟩ => ⟨S1024x2568, .f32⟩
  | .hbm, ⟨14, _⟩ => ⟨S1024x1536, .f32⟩
  | .hbm, ⟨15, _⟩ => ⟨S1024x1024, .f32⟩
  | .hbm, ⟨16, _⟩ => ⟨S1024x8, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x2688, .f32⟩
  | .hbm, ⟨21, _⟩ => ⟨S1024x2688, .bf16⟩
  | .hbm, ⟨22, _⟩ => ⟨S512, .f32⟩
  | .hbm, ⟨23, _⟩ => ⟨S1x512, .f32⟩
  | .hbm, ⟨24, _⟩ => ⟨S32x512, .f32⟩
  | .hbm, ⟨25, _⟩ => ⟨S32x512, .f32⟩
  | .hbm, ⟨26, _⟩ => ⟨S32x512, .f32⟩
  | .hbm, ⟨27, _⟩ => ⟨S32x8, .f32⟩
  | .hbm, ⟨28, _⟩ => ⟨S32x512, .f32⟩
  | .hbm, ⟨29, _⟩ => ⟨S32x512, .f32⟩
  | .local _ .vmem, ⟨0, _⟩ => ⟨S32x1024, .f32⟩
  | .local _ .vmem, ⟨1, _⟩ => ⟨S1x1024, .f32⟩
  | .local _ .vmem, ⟨2, _⟩ => ⟨S1024x2688, .bf16⟩
  | .local _ .vmem, ⟨3, _⟩ => ⟨S1x128, .f32⟩
  | .local _ .vmem, ⟨4, _⟩ => ⟨S1x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S32x8, .f32⟩
  | .local _ .vmem, ⟨9, _⟩ => ⟨S32x512, .f32⟩
  | .local _ .vmem, ⟨10, _⟩ => ⟨S32x512, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_call1_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev main_v15_4 : Ref sig .tc := ⟨.hbm, 28, rfl⟩
abbrev main_v15_5 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S32x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== InSRefIdeal.lean ====
abbrev S32x1x1024 : Shape := ⟨3, ![32, 1, 1024]⟩
abbrev S1x1024 : Shape := ⟨2, ![1, 1024]⟩
abbrev S1x1024x2568 : Shape := ⟨3, ![1, 1024, 2568]⟩
abbrev S1x8 : Shape := ⟨2, ![1, 8]⟩
abbrev S1x512 : Shape := ⟨2, ![1, 512]⟩
abbrev S1024 : Shape := ⟨1, ![1024]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S1024x2568 : Shape := ⟨2, ![1024, 2568]⟩
abbrev S8 : Shape := ⟨1, ![8]⟩
abbrev S512 : Shape := ⟨1, ![512]⟩
abbrev S32x1x2568 : Shape := ⟨3, ![32, 1, 2568]⟩
abbrev S32x1x512 : Shape := ⟨3, ![32, 1, 512]⟩
abbrev S32x1x8 : Shape := ⟨3, ![32, 1, 8]⟩
abbrev S1x1x8 : Shape := ⟨3, ![1, 1, 8]⟩
abbrev S1x1x512 : Shape := ⟨3, ![1, 1, 512]⟩
abbrev S32x512 : Shape := ⟨2, ![32, 512]⟩
abbrev S32x8 : Shape := ⟨2, ![32, 8]⟩

abbrev nBuf : Space → Nat
  | .hbm => 107
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1x1024, .f32⟩
  | .hbm, ⟨2, _⟩ => ⟨S1x1024x2568, .f32⟩
  | .hbm, ⟨3, _⟩ => ⟨S1x8, .f32⟩
  | .hbm, ⟨4, _⟩ => ⟨S1x512, .f32⟩
  | .hbm, ⟨5, _⟩ => ⟨S1024, .f32⟩
  | .hbm, ⟨6, _⟩ => ⟨S32x1x1024, .f32⟩
  | .hbm, ⟨7, _⟩ => ⟨S_, .f32⟩
  | .hbm, ⟨8, _⟩ => ⟨S32x1, .f32⟩
  | .hbm, ⟨9, _⟩ => ⟨S32x1x1, .f32⟩
  | .hbm, ⟨10, _⟩ => ⟨S_, .f32⟩
  | .hbm, ⟨11, _⟩ => ⟨S32x1x1, .f32⟩
  | .hbm, ⟨12, _⟩ => ⟨S32x1x1, .f32⟩
  | .hbm, ⟨13, _⟩ => ⟨S_, .f32⟩
  | .hbm, ⟨14, _⟩ => ⟨S32x1x1, .f32⟩
  | .hbm, ⟨15, _⟩ => ⟨S32x1x1, .f32⟩
  | .hbm, ⟨16, _⟩ => ⟨S32x1x1, .f32⟩
  | .hbm, ⟨17, _⟩ => ⟨S32x1x1024, .f32⟩
  | .hbm, ⟨18, _⟩ => ⟨S32x1x1024, .f32⟩
  | .hbm, ⟨19, _⟩ => ⟨S1x1x1024, .f32⟩
  | .hbm, ⟨20, _⟩ => ⟨S32x1x1024, .f32⟩
  | .hbm, ⟨21, _⟩ => ⟨S32x1x1024, .f32⟩
  | .hbm, ⟨22, _⟩ => ⟨S1024x2568, .f32⟩
  | .hbm, ⟨23, _⟩ => ⟨S8, .f32⟩
  | .hbm, ⟨24, _⟩ => ⟨S512, .f32⟩
  | .hbm, ⟨25, _⟩ => ⟨S32x1x2568, .f32⟩
  | .hbm, ⟨26, _⟩ => ⟨S32x1x512, .f32⟩
  | .hbm, ⟨27, _⟩ => ⟨S32x1x512, .f32⟩
  | .hbm, ⟨28, _⟩ => ⟨S32x1x512, .f32⟩
  | .hbm, ⟨29, _⟩ => ⟨S32x1x8, .f32⟩
  | .hbm, ⟨30, _⟩ => ⟨S1x1x8, .f32⟩
  | .hbm, ⟨31, _⟩ => ⟨S32x1x8, .f32⟩
  | .hbm, ⟨32, _⟩ => ⟨S32x1x8, .f32⟩
  | .hbm, ⟨33, _⟩ => ⟨S32x1x8, .f32⟩
  | .hbm, ⟨34, _⟩ => ⟨S_, .f32⟩
  | .hbm, ⟨35, _⟩ => ⟨S32x1x8, .f32⟩
  | .hbm, ⟨36, _⟩ => ⟨S32x1x8, .f32⟩
  | .hbm, ⟨37, _⟩ => ⟨S32x1x8, .f32⟩
  | .hbm, ⟨38, _⟩ => ⟨S32x1x8, .f32⟩
  | .hbm, ⟨39, _⟩ => ⟨S32x1x8, .i1⟩
  | .hbm, ⟨40, _⟩ => ⟨S32x1x8, .f32⟩
  | .hbm, ⟨41, _⟩ => ⟨S32x1x8, .f32⟩
  | .hbm, ⟨42, _⟩ => ⟨S32x1x8, .f32⟩
  | .hbm, ⟨43, _⟩ => ⟨S32x1x8, .f32⟩
  | .hbm, ⟨44, _⟩ => ⟨S32x1x8, .f32⟩
  | .hbm, ⟨45, _⟩ => ⟨S32x1x8, .f32⟩
  | .hbm, ⟨46, _⟩ => ⟨S32x1x8, .f32⟩
  | .hbm, ⟨47, _⟩ => ⟨S32x1x8, .f32⟩
  | .hbm, ⟨48, _⟩ => ⟨S32x1x8, .f32⟩
  | .hbm, ⟨49, _⟩ => ⟨S32x1x512, .f32⟩
  | .hbm, ⟨50, _⟩ => ⟨S32x1x512, .f32⟩
  | .hbm, ⟨51, _⟩ => ⟨S32x1x512, .f32⟩
  | .hbm, ⟨52, _⟩ => ⟨S_, .f32⟩
  | .hbm, ⟨53, _⟩ => ⟨S32x1x512, .f32⟩
  | .hbm, ⟨54, _⟩ => ⟨S32x1x512, .f32⟩
  | .hbm, ⟨55, _⟩ => ⟨S32x1x512, .f32⟩
  | .hbm, ⟨56, _⟩ => ⟨S_, .f32⟩
  | .hbm, ⟨57, _⟩ => ⟨S32x1x512, .f32⟩
  | .hbm, ⟨58, _⟩ => ⟨S32x1x512, .f32⟩
  | .hbm, ⟨59, _⟩ => ⟨S32x1x512, .f32⟩
  | .hbm, ⟨60, _⟩ => ⟨S_, .f32⟩
  | .hbm, ⟨61, _⟩ => ⟨S32x1x512, .f32⟩
  | .hbm, ⟨62, _⟩ => ⟨S32x1x512, .f32⟩
  | .hbm, ⟨63, _⟩ => ⟨S_, .f32⟩
  | .hbm, ⟨64, _⟩ => ⟨S32x1x512, .f32⟩
  | .hbm, ⟨65, _⟩ => ⟨S32x1x512, .f32⟩
  | .hbm, ⟨66, _⟩ => ⟨S32x1x512, .f32⟩
  | .hbm, ⟨67, _⟩ => ⟨S32x1x512, .f32⟩
  | .hbm, ⟨68, _⟩ => ⟨S32x1x512, .f32⟩
  | .hbm, ⟨69, _⟩ => ⟨S32x1x512, .f32⟩
  | .hbm, ⟨70, _⟩ => ⟨S_, .f32⟩
  | .hbm, ⟨71, _⟩ => ⟨S32x1x512, .f32⟩
  | .hbm, ⟨72, _⟩ => ⟨S32x1x512, .f32⟩
  | .hbm, ⟨73, _⟩ => ⟨S32x1x512, .f32⟩
  | .hbm, ⟨74, _⟩ => ⟨S_, .f32⟩
  | .hbm, ⟨75, _⟩ => ⟨S32x1x512, .f32⟩
  | .hbm, ⟨76, _⟩ => ⟨S32x1x512, .f32⟩
  | .hbm, ⟨77, _⟩ => ⟨S32x1x512, .f32⟩
  | .hbm, ⟨78, _⟩ => ⟨S_, .f32⟩
  | .hbm, ⟨79, _⟩ => ⟨S32x1x512, .f32⟩
  | .hbm, ⟨80, _⟩ => ⟨S32x1x512, .f32⟩
  | .hbm, ⟨81, _⟩ => ⟨S_, .f32⟩
  | .hbm, ⟨82, _⟩ => ⟨S32x1x512, .f32⟩
  | .hbm, ⟨83, _⟩ => ⟨S32x1x512, .f32⟩
  | .hbm, ⟨84, _⟩ => ⟨S32x1x512, .f32⟩
  | .hbm, ⟨85, _⟩ => ⟨S32x1x512, .f32⟩
  | .hbm, ⟨86, _⟩ => ⟨S_, .f32⟩
  | .hbm, ⟨87, _⟩ => ⟨S32x1, .f32⟩
  | .hbm, ⟨88, _⟩ => ⟨S32x1x1, .f32⟩
  | .hbm, ⟨89, _⟩ => ⟨S_, .f32⟩
  | .hbm, ⟨90, _⟩ => ⟨S32x1x1, .f32⟩
  | .hbm, ⟨91, _⟩ => ⟨S32x1x1, .f32⟩
  | .hbm, ⟨92, _⟩ => ⟨S_, .f32⟩
  | .hbm, ⟨93, _⟩ => ⟨S32x1x1, .f32⟩
  | .hbm, ⟨94, _⟩ => ⟨S32x1x1, .f32⟩
  | .hbm, ⟨95, _⟩ => ⟨S32x1x1, .f32⟩
  | .hbm, ⟨96, _⟩ => ⟨S32x1x512, .f32⟩
  | .hbm, ⟨97, _⟩ => ⟨S32x1x512, .f32⟩
  | .hbm, ⟨98, _⟩ => ⟨S1x1x512, .f32⟩
  | .hbm, ⟨99, _⟩ => ⟨S32x1x512, .f32⟩
  | .hbm, ⟨100, _⟩ => ⟨S32x1x512, .f32⟩
  | .hbm, ⟨101, _⟩ => ⟨S32x512, .f32⟩
  | .hbm, ⟨102, _⟩ => ⟨S32x512, .f32⟩
  | .hbm, ⟨103, _⟩ => ⟨S32x512, .f32⟩
  | .hbm, ⟨104, _⟩ => ⟨S32x8, .f32⟩
  | .hbm, ⟨105, _⟩ => ⟨S32x512, .f32⟩
  | .hbm, ⟨106, _⟩ => ⟨S32x512, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_v0 : Ref sig .tc := ⟨.hbm, 33, rfl⟩
abbrev main_call0_call0_cst : Ref sig .tc := ⟨.hbm, 34, rfl⟩
abbrev main_call0_call0_v0 : Ref sig .tc := ⟨.hbm, 35, rfl⟩
abbrev main_call0_call0_v1 : Ref sig .tc := ⟨.hbm, 36, rfl⟩
abbrev main_call0_call0_v2 : Ref sig .tc := ⟨.hbm, 37, rfl⟩
abbrev main_call0_call0_v3 : Ref sig .tc := ⟨.hbm, 38, rfl⟩
abbrev main_call0_call0_v4 : Ref sig .tc := ⟨.hbm, 39, rfl⟩
abbrev main_call0_call0_v5 : Ref sig .tc := ⟨.hbm, 40, rfl⟩
abbrev main_call0_call0_v6 : Ref sig .tc := ⟨.hbm, 41, rfl⟩
abbrev main_call0_call0_v7 : Ref sig .tc := ⟨.hbm, 42, rfl⟩
abbrev main_call0_call0_v8 : Ref sig .tc := ⟨.hbm, 43, rfl⟩
abbrev main_call0_call0_v9 : Ref sig .tc := ⟨.hbm, 44, rfl⟩
abbrev main_call0_call0_v10 : Ref sig .tc := ⟨.hbm, 45, rfl⟩
abbrev main_call0_call0_v11 : Ref sig .tc := ⟨.hbm, 46, rfl⟩
abbrev main_call0_v1 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_2 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_3 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_4 : Ref sig .tc := ⟨.hbm, 60, rfl⟩
abbrev main_v35 : Ref sig .tc := ⟨.hbm, 61, rfl⟩
abbrev main_v36 : Ref sig .tc := ⟨.hbm, 62, rfl⟩
abbrev main_cst_5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_7 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_8 : Ref sig .tc := ⟨.hbm, 78, rfl⟩
abbrev main_v49 : Ref sig .tc := ⟨.hbm, 79, rfl⟩
abbrev main_v50 : Ref sig .tc := ⟨.hbm, 80, rfl⟩
abbrev main_cst_9 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_10 : Ref sig .tc := ⟨.hbm, 86, rfl⟩
abbrev main_v55 : Ref sig .tc := ⟨.hbm, 87, rfl⟩
abbrev main_v56 : Ref sig .tc := ⟨.hbm, 88, rfl⟩
abbrev main_cst_11 : Ref sig .tc := ⟨.hbm, 89, rfl⟩
abbrev main_v57 : Ref sig .tc := ⟨.hbm, 90, rfl⟩
abbrev main_v58 : Ref sig .tc := ⟨.hbm, 91, rfl⟩
abbrev main_cst_12 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩

abbrev nD : Nat := 1
abbrev τ : Topo := Topo.v7x

variable {F : FTy → Type} [FloatOps F]
-- ==== InP.lean ====
abbrev S16x2048x1024 : Shape := ⟨3, ![16, 2048, 1024]⟩
abbrev S1x1024 : Shape := ⟨2, ![1, 1024]⟩
abbrev S1x1024x2568 : Shape := ⟨3, ![1, 1024, 2568]⟩
abbrev S1x8 : Shape := ⟨2, ![1, 8]⟩
abbrev S1x512 : Shape := ⟨2, ![1, 512]⟩
abbrev S512x512 : Shape := ⟨2, ![512, 512]⟩
abbrev S8 : Shape := ⟨1, ![8]⟩
abbrev S_ : Shape := ⟨0, ![]⟩
abbrev S128 : Shape := ⟨1, ![128]⟩
abbrev S1x128 : Shape := ⟨2, ![1, 128]⟩
abbrev S32768x1024 : Shape := ⟨2, ![32768, 1024]⟩
abbrev S1024 : Shape := ⟨1, ![1024]⟩
abbrev S1024x2568 : Shape := ⟨2, ![1024, 2568]⟩
abbrev S1024x1536 : Shape := ⟨2, ![1024, 1536]⟩
abbrev S1024x1024 : Shape := ⟨2, ![1024, 1024]⟩
abbrev S1024x8 : Shape := ⟨2, ![1024, 8]⟩
abbrev S1024x128 : Shape := ⟨2, ![1024, 128]⟩
abbrev S1024x2688 : Shape := ⟨2, ![1024, 2688]⟩
abbrev S512 : Shape := ⟨1, ![512]⟩
abbrev S32768x512 : Shape := ⟨2, ![32768, 512]⟩
abbrev S32768x8 : Shape := ⟨2, ![32768, 8]⟩
abbrev S8x32768 : Shape := ⟨2, ![8, 32768]⟩
abbrev S512x1024 : Shape := ⟨2, ![512, 1024]⟩
abbrev S512x8 : Shape := ⟨2, ![512, 8]⟩
abbrev S8x512 : Shape := ⟨2, ![8, 512]⟩
abbrev S8x128 : Shape := ⟨2, ![8, 128]⟩
abbrev S512x1 : Shape := ⟨2, ![512, 1]⟩
abbrev S1024x512 : Shape := ⟨2, ![1024, 512]⟩
abbrev S512x128 : Shape := ⟨2, ![512, 128]⟩
abbrev S128x512 : Shape := ⟨2, ![128, 512]⟩
abbrev S8x1 : Shape := ⟨2, ![8, 1]⟩

abbrev nBuf : Space → Nat
  | .hbm => 37
  | .vmem => 26
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x2568, .f32⟩
  | .hbm, ⟨3, _⟩ => ⟨S1x8, .f32⟩
  | .hbm, ⟨4, _⟩ => ⟨S1x512, .f32⟩
  | .hbm, ⟨5, _⟩ => ⟨S512x512, .i32⟩
  | .hbm, ⟨6, _⟩ => ⟨S512x512, .i32⟩
  | .hbm, ⟨7, _⟩ => ⟨S512x512, .i1⟩
  | .hbm, ⟨8, _⟩ => ⟨S512x512, .bf16⟩
  | .hbm, ⟨9, _⟩ => ⟨S8, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S32768x1024, .f32⟩
  | .hbm, ⟨15, _⟩ => ⟨S1024, .f32⟩
  | .hbm, ⟨16, _⟩ => ⟨S1x1024, .f32⟩
  | .hbm, ⟨17, _⟩ => ⟨S1024x2568, .f32⟩
  | .hbm, ⟨18, _⟩ => ⟨S1024x1536, .f32⟩
  | .hbm, ⟨19, _⟩ => ⟨S1024x1024, .f32⟩
  | .hbm, ⟨20, _⟩ => ⟨S1024x8, .f32⟩
  | .hbm, ⟨21, _⟩ => ⟨S_, .i32⟩
  | .hbm, ⟨22, _⟩ => ⟨S_, .f32⟩
  | .hbm, ⟨23, _⟩ => ⟨S1024x128, .f32⟩
  | .hbm, ⟨24, _⟩ => ⟨S1024x2688, .f32⟩
  | .hbm, ⟨25, _⟩ => ⟨S1024x2688, .bf16⟩
  | .hbm, ⟨26, _⟩ => ⟨S512, .f32⟩
  | .hbm, ⟨27, _⟩ => ⟨S1x512, .f32⟩
  | .hbm, ⟨28, _⟩ => ⟨S32768x512, .bf16⟩
  | .hbm, ⟨29, _⟩ => ⟨S32768x512, .f32⟩
  | .hbm, ⟨30, _⟩ => ⟨S32768x512, .f32⟩
  | .hbm, ⟨31, _⟩ => ⟨S32768x512, .bf16⟩
  | .hbm, ⟨32, _⟩ => ⟨S32768x512, .bf16⟩
  | .hbm, ⟨33, _⟩ => ⟨S32768x8, .f32⟩
  | .hbm, ⟨34, _⟩ => ⟨S32768x512, .f32⟩
  | .hbm, ⟨35, _⟩ => ⟨S32768x512, .bf16⟩
  | .hbm, ⟨36, _⟩ => ⟨S8x32768, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2688, .bf16⟩
  | .local _ .vmem, ⟨4, _⟩ => ⟨S1x128, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x8, .f32⟩
  | .local _ .vmem, ⟨18, _⟩ => ⟨S512x8, .f32⟩
  | .local _ .vmem, ⟨19, _⟩ => ⟨S512x512, .f32⟩
  | .local _ .vmem, ⟨20, _⟩ => ⟨S512x512, .f32⟩
  | .local _ .vmem, ⟨21, _⟩ => ⟨S512x512, .bf16⟩
  | .local _ .vmem, ⟨22, _⟩ => ⟨S512x512, .bf16⟩
  | .local _ .vmem, ⟨23, _⟩ => ⟨S8x512, .f32⟩
  | .local _ .vmem, ⟨24, _⟩ => ⟨S8x512, .f32⟩
  | .local _ .vmem, ⟨25, _⟩ => ⟨S8x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_call1_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev main_v19_3 : Ref sig .tc := ⟨.hbm, 31, rfl⟩
abbrev main_v19_4 : Ref sig .tc := ⟨.hbm, 32, rfl⟩
abbrev main_v19_5 : Ref sig .tc := ⟨.hbm, 33, rfl⟩
abbrev main_v19_6 : Ref sig .tc := ⟨.hbm, 34, rfl⟩
abbrev main_v19_7 : Ref sig .tc := ⟨.hbm, 35, rfl⟩
abbrev main_v19_8 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== InPRefIdeal.lean ====
abbrev S16x2048x1024 : Shape := ⟨3, ![16, 2048, 1024]⟩
abbrev S1x1024 : Shape := ⟨2, ![1, 1024]⟩
abbrev S1x1024x2568 : Shape := ⟨3, ![1, 1024, 2568]⟩
abbrev S1x8 : Shape := ⟨2, ![1, 8]⟩
abbrev S1x512 : Shape := ⟨2, ![1, 512]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x2568 : Shape := ⟨2, ![1024, 2568]⟩
abbrev S8 : Shape := ⟨1, ![8]⟩
abbrev S512 : Shape := ⟨1, ![512]⟩
abbrev S16x2048x2568 : Shape := ⟨3, ![16, 2048, 2568]⟩
abbrev S16x2048x512 : Shape := ⟨3, ![16, 2048, 512]⟩
abbrev S16x2048x8 : Shape := ⟨3, ![16, 2048, 8]⟩
abbrev S1x1x8 : Shape := ⟨3, ![1, 1, 8]⟩
abbrev S1x1x512 : Shape := ⟨3, ![1, 1, 512]⟩
abbrev S32768x512 : Shape := ⟨2, ![32768, 512]⟩
abbrev S32768x8 : Shape := ⟨2, ![32768, 8]⟩
abbrev S8x16x2048 : Shape := ⟨3, ![8, 16, 2048]⟩
abbrev S8x32768 : Shape := ⟨2, ![8, 32768]⟩

abbrev nBuf : Space → Nat
  | .hbm => 121
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x2568, .f32⟩
  | .hbm, ⟨3, _⟩ => ⟨S1x8, .f32⟩
  | .hbm, ⟨4, _⟩ => ⟨S1x512, .f32⟩
  | .hbm, ⟨5, _⟩ => ⟨S1024, .f32⟩
  | .hbm, ⟨6, _⟩ => ⟨S16x2048x1024, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x1024, .f32⟩
  | .hbm, ⟨18, _⟩ => ⟨S16x2048x1024, .f32⟩
  | .hbm, ⟨19, _⟩ => ⟨S1x1x1024, .f32⟩
  | .hbm, ⟨20, _⟩ => ⟨S16x2048x1024, .f32⟩
  | .hbm, ⟨21, _⟩ => ⟨S16x2048x1024, .f32⟩
  | .hbm, ⟨22, _⟩ => ⟨S1024x2568, .f32⟩
  | .hbm, ⟨23, _⟩ => ⟨S8, .f32⟩
  | .hbm, ⟨24, _⟩ => ⟨S512, .f32⟩
  | .hbm, ⟨25, _⟩ => ⟨S16x2048x2568, .f32⟩
  | .hbm, ⟨26, _⟩ => ⟨S16x2048x512, .f32⟩
  | .hbm, ⟨27, _⟩ => ⟨S16x2048x512, .f32⟩
  | .hbm, ⟨28, _⟩ => ⟨S16x2048x512, .f32⟩
  | .hbm, ⟨29, _⟩ => ⟨S16x2048x8, .f32⟩
  | .hbm, ⟨30, _⟩ => ⟨S1x1x8, .f32⟩
  | .hbm, ⟨31, _⟩ => ⟨S16x2048x8, .f32⟩
  | .hbm, ⟨32, _⟩ => ⟨S16x2048x8, .f32⟩
  | .hbm, ⟨33, _⟩ => ⟨S16x2048x8, .f32⟩
  | .hbm, ⟨34, _⟩ => ⟨S_, .f32⟩
  | .hbm, ⟨35, _⟩ => ⟨S16x2048x8, .f32⟩
  | .hbm, ⟨36, _⟩ => ⟨S16x2048x8, .f32⟩
  | .hbm, ⟨37, _⟩ => ⟨S16x2048x8, .f32⟩
  | .hbm, ⟨38, _⟩ => ⟨S16x2048x8, .f32⟩
  | .hbm, ⟨39, _⟩ => ⟨S16x2048x8, .i1⟩
  | .hbm, ⟨40, _⟩ => ⟨S16x2048x8, .f32⟩
  | .hbm, ⟨41, _⟩ => ⟨S16x2048x8, .f32⟩
  | .hbm, ⟨42, _⟩ => ⟨S16x2048x8, .f32⟩
  | .hbm, ⟨43, _⟩ => ⟨S16x2048x8, .f32⟩
  | .hbm, ⟨44, _⟩ => ⟨S16x2048x8, .f32⟩
  | .hbm, ⟨45, _⟩ => ⟨S16x2048x8, .f32⟩
  | .hbm, ⟨46, _⟩ => ⟨S16x2048x8, .f32⟩
  | .hbm, ⟨47, _⟩ => ⟨S16x2048x8, .f32⟩
  | .hbm, ⟨48, _⟩ => ⟨S16x2048x8, .f32⟩
  | .hbm, ⟨49, _⟩ => ⟨S16x2048x512, .f32⟩
  | .hbm, ⟨50, _⟩ => ⟨S16x2048x512, .f32⟩
  | .hbm, ⟨51, _⟩ => ⟨S16x2048x512, .f32⟩
  | .hbm, ⟨52, _⟩ => ⟨S_, .f32⟩
  | .hbm, ⟨53, _⟩ => ⟨S16x2048x512, .f32⟩
  | .hbm, ⟨54, _⟩ => ⟨S16x2048x512, .f32⟩
  | .hbm, ⟨55, _⟩ => ⟨S16x2048x512, .f32⟩
  | .hbm, ⟨56, _⟩ => ⟨S_, .f32⟩
  | .hbm, ⟨57, _⟩ => ⟨S16x2048x512, .f32⟩
  | .hbm, ⟨58, _⟩ => ⟨S16x2048x512, .f32⟩
  | .hbm, ⟨59, _⟩ => ⟨S16x2048x512, .f32⟩
  | .hbm, ⟨60, _⟩ => ⟨S_, .f32⟩
  | .hbm, ⟨61, _⟩ => ⟨S16x2048x512, .f32⟩
  | .hbm, ⟨62, _⟩ => ⟨S16x2048x512, .f32⟩
  | .hbm, ⟨63, _⟩ => ⟨S_, .f32⟩
  | .hbm, ⟨64, _⟩ => ⟨S16x2048x512, .f32⟩
  | .hbm, ⟨65, _⟩ => ⟨S16x2048x512, .f32⟩
  | .hbm, ⟨66, _⟩ => ⟨S16x2048x512, .f32⟩
  | .hbm, ⟨67, _⟩ => ⟨S16x2048x512, .f32⟩
  | .hbm, ⟨68, _⟩ => ⟨S16x2048x512, .f32⟩
  | .hbm, ⟨69, _⟩ => ⟨S16x2048x512, .f32⟩
  | .hbm, ⟨70, _⟩ => ⟨S_, .f32⟩
  | .hbm, ⟨71, _⟩ => ⟨S16x2048x512, .f32⟩
  | .hbm, ⟨72, _⟩ => ⟨S16x2048x512, .f32⟩
  | .hbm, ⟨73, _⟩ => ⟨S16x2048x512, .f32⟩
  | .hbm, ⟨74, _⟩ => ⟨S_, .f32⟩
  | .hbm, ⟨75, _⟩ => ⟨S16x2048x512, .f32⟩
  | .hbm, ⟨76, _⟩ => ⟨S16x2048x512, .f32⟩
  | .hbm, ⟨77, _⟩ => ⟨S16x2048x512, .f32⟩
  | .hbm, ⟨78, _⟩ => ⟨S_, .f32⟩
  | .hbm, ⟨79, _⟩ => ⟨S16x2048x512, .f32⟩
  | .hbm, ⟨80, _⟩ => ⟨S16x2048x512, .f32⟩
  | .hbm, ⟨81, _⟩ => ⟨S_, .f32⟩
  | .hbm, ⟨82, _⟩ => ⟨S16x2048x512, .f32⟩
  | .hbm, ⟨83, _⟩ => ⟨S16x2048x512, .f32⟩
  | .hbm, ⟨84, _⟩ => ⟨S16x2048x512, .f32⟩
  | .hbm, ⟨85, _⟩ => ⟨S16x2048x512, .f32⟩
  | .hbm, ⟨86, _⟩ => ⟨S_, .f32⟩
  | .hbm, ⟨87, _⟩ => ⟨S16x2048, .f32⟩
  | .hbm, ⟨88, _⟩ => ⟨S16x2048x1, .f32⟩
  | .hbm, ⟨89, _⟩ => ⟨S_, .f32⟩
  | .hbm, ⟨90, _⟩ => ⟨S16x2048x1, .f32⟩
  | .hbm, ⟨91, _⟩ => ⟨S16x2048x1, .f32⟩
  | .hbm, ⟨92, _⟩ => ⟨S_, .f32⟩
  | .hbm, ⟨93, _⟩ => ⟨S16x2048x1, .f32⟩
  | .hbm, ⟨94, _⟩ => ⟨S16x2048x1, .f32⟩
  | .hbm, ⟨95, _⟩ => ⟨S16x2048x1, .f32⟩
  | .hbm, ⟨96, _⟩ => ⟨S16x2048x512, .f32⟩
  | .hbm, ⟨97, _⟩ => ⟨S16x2048x512, .f32⟩
  | .hbm, ⟨98, _⟩ => ⟨S1x1x512, .f32⟩
  | .hbm, ⟨99, _⟩ => ⟨S16x2048x512, .f32⟩
  | .hbm, ⟨100, _⟩ => ⟨S16x2048x512, .f32⟩
  | .hbm, ⟨101, _⟩ => ⟨S_, .f32⟩
  | .hbm, ⟨102, _⟩ => ⟨S_, .f32⟩
  | .hbm, ⟨103, _⟩ => ⟨S16x2048x8, .f32⟩
  | .hbm, ⟨104, _⟩ => ⟨S_, .f32⟩
  | .hbm, ⟨105, _⟩ => ⟨S16x2048x512, .f32⟩
  | .hbm, ⟨106, _⟩ => ⟨S16x2048x512, .f32⟩
  | .hbm, ⟨107, _⟩ => ⟨S32768x512, .f32⟩
  | .hbm, ⟨108, _⟩ => ⟨S32768x512, .bf16⟩
  | .hbm, ⟨109, _⟩ => ⟨S32768x512, .f32⟩
  | .hbm, ⟨110, _⟩ => ⟨S32768x512, .f32⟩
  | .hbm, ⟨111, _⟩ => ⟨S32768x512, .f32⟩
  | .hbm, ⟨112, _⟩ => ⟨S32768x512, .bf16⟩
  | .hbm, ⟨113, _⟩ => ⟨S32768x512, .f32⟩
  | .hbm, ⟨114, _⟩ => ⟨S32768x512, .bf16⟩
  | .hbm, ⟨115, _⟩ => ⟨S32768x8, .f32⟩
  | .hbm, ⟨116, _⟩ => ⟨S32768x512, .f32⟩
  | .hbm, ⟨117, _⟩ => ⟨S32768x512, .f32⟩
  | .hbm, ⟨118, _⟩ => ⟨S32768x512, .bf16⟩
  | .hbm, ⟨119, _⟩ => ⟨S8x16x2048, .f32⟩
  | .hbm, ⟨120, _⟩ => ⟨S8x32768, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_v0 : Ref sig .tc := ⟨.hbm, 33, rfl⟩
abbrev main_call0_call0_cst : Ref sig .tc := ⟨.hbm, 34, rfl⟩
abbrev main_call0_call0_v0 : Ref sig .tc := ⟨.hbm, 35, rfl⟩
abbrev main_call0_call0_v1 : Ref sig .tc := ⟨.hbm, 36, rfl⟩
abbrev main_call0_call0_v2 : Ref sig .tc := ⟨.hbm, 37, rfl⟩
abbrev main_call0_call0_v3 : Ref sig .tc := ⟨.hbm, 38, rfl⟩
abbrev main_call0_call0_v4 : Ref sig .tc := ⟨.hbm, 39, rfl⟩
abbrev main_call0_call0_v5 : Ref sig .tc := ⟨.hbm, 40, rfl⟩
abbrev main_call0_call0_v6 : Ref sig .tc := ⟨.hbm, 41, rfl⟩
abbrev main_call0_call0_v7 : Ref sig .tc := ⟨.hbm, 42, rfl⟩
abbrev main_call0_call0_v8 : Ref sig .tc := ⟨.hbm, 43, rfl⟩
abbrev main_call0_call0_v9 : Ref sig .tc := ⟨.hbm, 44, rfl⟩
abbrev main_call0_call0_v10 : Ref sig .tc := ⟨.hbm, 45, rfl⟩
abbrev main_call0_call0_v11 : Ref sig .tc := ⟨.hbm, 46, rfl⟩
abbrev main_call0_v1 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_2 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_3 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_4 : Ref sig .tc := ⟨.hbm, 60, rfl⟩
abbrev main_v35 : Ref sig .tc := ⟨.hbm, 61, rfl⟩
abbrev main_v36 : Ref sig .tc := ⟨.hbm, 62, rfl⟩
abbrev main_cst_5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_7 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_8 : Ref sig .tc := ⟨.hbm, 78, rfl⟩
abbrev main_v49 : Ref sig .tc := ⟨.hbm, 79, rfl⟩
abbrev main_v50 : Ref sig .tc := ⟨.hbm, 80, rfl⟩
abbrev main_cst_9 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_10 : Ref sig .tc := ⟨.hbm, 86, rfl⟩
abbrev main_v55 : Ref sig .tc := ⟨.hbm, 87, rfl⟩
abbrev main_v56 : Ref sig .tc := ⟨.hbm, 88, rfl⟩
abbrev main_cst_11 : Ref sig .tc := ⟨.hbm, 89, rfl⟩
abbrev main_v57 : Ref sig .tc := ⟨.hbm, 90, rfl⟩
abbrev main_v58 : Ref sig .tc := ⟨.hbm, 91, rfl⟩
abbrev main_cst_12 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_call1_call0_cst : Ref sig .tc := ⟨.hbm, 101, rfl⟩
abbrev main_call1_call0_v0 : Ref sig .tc := ⟨.hbm, 102, rfl⟩
abbrev main_v67 : Ref sig .tc := ⟨.hbm, 103, rfl⟩
abbrev main_cst_13 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩

abbrev nD : Nat := 1
abbrev τ : Topo := Topo.v7x

variable {F : FTy → Type} [FloatOps F]
-- ==== Ffn.lean ====
abbrev S32768x1024 : Shape := ⟨2, ![32768, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16x2x2816 : Shape := ⟨3, ![16, 2, 2816]⟩
abbrev S512x1024 : Shape := ⟨2, ![512, 1024]⟩
abbrev S16x1024 : Shape := ⟨2, ![16, 1024]⟩
abbrev S1x2x2816 : Shape := ⟨3, ![1, 2, 2816]⟩
abbrev S528x256 : Shape := ⟨2, ![528, 256]⟩
abbrev S512 : Shape := ⟨1, ![512]⟩
abbrev S512x1 : Shape := ⟨2, ![512, 1]⟩
abbrev S16 : Shape := ⟨1, ![16]⟩
abbrev S16x1 : Shape := ⟨2, ![16, 1]⟩
abbrev S1024x256 : Shape := ⟨2, ![1024, 256]⟩
abbrev S16x256 : Shape := ⟨2, ![16, 256]⟩
abbrev S512x256 : Shape := ⟨2, ![512, 256]⟩
abbrev S3x256 : Shape := ⟨2, ![3, 256]⟩
abbrev S1x256 : Shape := ⟨2, ![1, 256]⟩
abbrev S2x256 : Shape := ⟨2, ![2, 256]⟩
abbrev S1x2x256 : Shape := ⟨3, ![1, 2, 256]⟩
abbrev S256x1024 : Shape := ⟨2, ![256, 1024]⟩

abbrev nBuf : Space → Nat
  | .hbm => 20
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S1024x5632, .f32⟩
  | .hbm, ⟨10, _⟩ => ⟨S1024x5632, .bf16⟩
  | .hbm, ⟨11, _⟩ => ⟨S3x5632, .f32⟩
  | .hbm, ⟨12, _⟩ => ⟨S5632, .f32⟩
  | .hbm, ⟨13, _⟩ => ⟨S1x5632, .f32⟩
  | .hbm, ⟨14, _⟩ => ⟨S2816x1024, .f32⟩
  | .hbm, ⟨15, _⟩ => ⟨S2816x1024, .bf16⟩
  | .hbm, ⟨16, _⟩ => ⟨S1x1024, .f32⟩
  | .hbm, ⟨17, _⟩ => ⟨S32768x1024, .f32⟩
  | .hbm, ⟨18, _⟩ => ⟨S16x2x2816, .f32⟩
  | .hbm, ⟨19, _⟩ => ⟨S16x2x2816, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S1024x5632, .bf16⟩
  | .local _ .vmem, ⟨6, _⟩ => ⟨S3x5632, .f32⟩
  | .local _ .vmem, ⟨7, _⟩ => ⟨S1x5632, .f32⟩
  | .local _ .vmem, ⟨8, _⟩ => ⟨S2816x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x2x2816, .f32⟩
  | .local _ .vmem, ⟨13, _⟩ => ⟨S1x2x2816, .f32⟩
  | .local _ .vmem, ⟨14, _⟩ => ⟨S1x2x2816, .f32⟩
  | .local _ .vmem, ⟨15, _⟩ => ⟨S1x2x2816, .f32⟩
  | .local _ .vmem, ⟨16, _⟩ => ⟨S528x256, .f32⟩
  | .local _ .vmem, ⟨17, _⟩ => ⟨S528x256, .f32⟩
  | .local _ .vmem, ⟨18, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x2816 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FfnRefIdeal.lean ====
abbrev S32768x1024 : Shape := ⟨2, ![32768, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x5632 : Shape := ⟨2, ![1024, 5632]⟩
abbrev S16x2048x5632 : Shape := ⟨3, ![16, 2048, 5632]⟩
abbrev S16x2x5632 : Shape := ⟨3, ![16, 2, 5632]⟩
abbrev S16x2050x5632 : Shape := ⟨3, ![16, 2050, 5632]⟩
abbrev S5632 : Shape := ⟨1, ![5632]⟩
abbrev S3x5632 : Shape := ⟨2, ![3, 5632]⟩
abbrev S1x1x5632 : Shape := ⟨3, ![1, 1, 5632]⟩
abbrev S16x2048x2816 : Shape := ⟨3, ![16, 2048, 2816]⟩
abbrev S2816x1024 : Shape := ⟨2, ![2816, 1024]⟩
abbrev S16x2x2816 : Shape := ⟨3, ![16, 2, 2816]⟩

abbrev nBuf : Space → Nat
  | .hbm => 92
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1024, .f32⟩
  | .hbm, ⟨7, _⟩ => ⟨S16x2048x1024, .f32⟩
  | .hbm, ⟨8, _⟩ => ⟨S1024, .f32⟩
  | .hbm, ⟨9, _⟩ => ⟨S16x2048x1024, .f32⟩
  | .hbm, ⟨10, _⟩ => ⟨S_, .f32⟩
  | .hbm, ⟨11, _⟩ => ⟨S16x2048, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S16x2048x1, .f32⟩
  | .hbm, ⟨20, _⟩ => ⟨S16x2048x1024, .f32⟩
  | .hbm, ⟨21, _⟩ => ⟨S16x2048x1024, .f32⟩
  | .hbm, ⟨22, _⟩ => ⟨S1x1x1024, .f32⟩
  | .hbm, ⟨23, _⟩ => ⟨S16x2048x1024, .f32⟩
  | .hbm, ⟨24, _⟩ => ⟨S16x2048x1024, .f32⟩
  | .hbm, ⟨25, _⟩ => ⟨S1024x5632, .f32⟩
  | .hbm, ⟨26, _⟩ => ⟨S16x2048x5632, .f32⟩
  | .hbm, ⟨27, _⟩ => ⟨S_, .f32⟩
  | .hbm, ⟨28, _⟩ => ⟨S16x2x5632, .f32⟩
  | .hbm, ⟨29, _⟩ => ⟨S16x2050x5632, .f32⟩
  | .hbm, ⟨30, _⟩ => ⟨S5632, .f32⟩
  | .hbm, ⟨31, _⟩ => ⟨S3x5632, .f32⟩
  | .hbm, ⟨32, _⟩ => ⟨S1x5632, .f32⟩
  | .hbm, ⟨33, _⟩ => ⟨S5632, .f32⟩
  | .hbm, ⟨34, _⟩ => ⟨S16x2048x5632, .f32⟩
  | .hbm, ⟨35, _⟩ => ⟨S1x1x5632, .f32⟩
  | .hbm, ⟨36, _⟩ => ⟨S16x2048x5632, .f32⟩
  | .hbm, ⟨37, _⟩ => ⟨S16x2048x5632, .f32⟩
  | .hbm, ⟨38, _⟩ => ⟨S1x1x5632, .f32⟩
  | .hbm, ⟨39, _⟩ => ⟨S16x2048x5632, .f32⟩
  | .hbm, ⟨40, _⟩ => ⟨S16x2048x5632, .f32⟩
  | .hbm, ⟨41, _⟩ => ⟨S3x5632, .f32⟩
  | .hbm, ⟨42, _⟩ => ⟨S1x5632, .f32⟩
  | .hbm, ⟨43, _⟩ => ⟨S5632, .f32⟩
  | .hbm, ⟨44, _⟩ => ⟨S16x2048x5632, .f32⟩
  | .hbm, ⟨45, _⟩ => ⟨S1x1x5632, .f32⟩
  | .hbm, ⟨46, _⟩ => ⟨S16x2048x5632, .f32⟩
  | .hbm, ⟨47, _⟩ => ⟨S16x2048x5632, .f32⟩
  | .hbm, ⟨48, _⟩ => ⟨S16x2048x5632, .f32⟩
  | .hbm, ⟨49, _⟩ => ⟨S3x5632, .f32⟩
  | .hbm, ⟨50, _⟩ => ⟨S1x5632, .f32⟩
  | .hbm, ⟨51, _⟩ => ⟨S5632, .f32⟩
  | .hbm, ⟨52, _⟩ => ⟨S16x2048x5632, .f32⟩
  | .hbm, ⟨53, _⟩ => ⟨S1x1x5632, .f32⟩
  | .hbm, ⟨54, _⟩ => ⟨S16x2048x5632, .f32⟩
  | .hbm, ⟨55, _⟩ => ⟨S16x2048x5632, .f32⟩
  | .hbm, ⟨56, _⟩ => ⟨S16x2048x5632, .f32⟩
  | .hbm, ⟨57, _⟩ => ⟨S16x2048x2816, .f32⟩
  | .hbm, ⟨58, _⟩ => ⟨S16x2048x2816, .f32⟩
  | .hbm, ⟨59, _⟩ => ⟨S16x2048x2816, .f32⟩
  | .hbm, ⟨60, _⟩ => ⟨S16x2048x2816, .f32⟩
  | .hbm, ⟨61, _⟩ => ⟨S_, .f32⟩
  | .hbm, ⟨62, _⟩ => ⟨S16x2048x2816, .f32⟩
  | .hbm, ⟨63, _⟩ => ⟨S16x2048x2816, .f32⟩
  | .hbm, ⟨64, _⟩ => ⟨S_, .f32⟩
  | .hbm, ⟨65, _⟩ => ⟨S16x2048x2816, .f32⟩
  | .hbm, ⟨66, _⟩ => ⟨S16x2048x2816, .f32⟩
  | .hbm, ⟨67, _⟩ => ⟨S16x2048x2816, .f32⟩
  | .hbm, ⟨68, _⟩ => ⟨S16x2048x2816, .f32⟩
  | .hbm, ⟨69, _⟩ => ⟨S2816x1024, .f32⟩
  | .hbm, ⟨70, _⟩ => ⟨S16x2048x1024, .f32⟩
  | .hbm, ⟨71, _⟩ => ⟨S16x2048x1024, .f32⟩
  | .hbm, ⟨72, _⟩ => ⟨S16x2048x1024, .f32⟩
  | .hbm, ⟨73, _⟩ => ⟨S_, .f32⟩
  | .hbm, ⟨74, _⟩ => ⟨S16x2048, .f32⟩
  | .hbm, ⟨75, _⟩ => ⟨S16x2048x1, .f32⟩
  | .hbm, ⟨76, _⟩ => ⟨S_, .f32⟩
  | .hbm, ⟨77, _⟩ => ⟨S16x2048x1, .f32⟩
  | .hbm, ⟨78, _⟩ => ⟨S16x2048x1, .f32⟩
  | .hbm, ⟨79, _⟩ => ⟨S_, .f32⟩
  | .hbm, ⟨80, _⟩ => ⟨S16x2048x1, .f32⟩
  | .hbm, ⟨81, _⟩ => ⟨S16x2048x1, .f32⟩
  | .hbm, ⟨82, _⟩ => ⟨S16x2048x1, .f32⟩
  | .hbm, ⟨83, _⟩ => ⟨S16x2048x1024, .f32⟩
  | .hbm, ⟨84, _⟩ => ⟨S16x2048x1024, .f32⟩
  | .hbm, ⟨85, _⟩ => ⟨S1x1x1024, .f32⟩
  | .hbm, ⟨86, _⟩ => ⟨S16x2048x1024, .f32⟩
  | .hbm, ⟨87, _⟩ => ⟨S16x2048x1024, .f32⟩
  | .hbm, ⟨88, _⟩ => ⟨S16x2x5632, .f32⟩
  | .hbm, ⟨89, _⟩ => ⟨S32768x1024, .f32⟩
  | .hbm, ⟨90, _⟩ => ⟨S16x2x2816, .f32⟩
  | .hbm, ⟨91, _⟩ => ⟨S16x2x2816, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_3 : Ref sig .tc := ⟨.hbm, 73, rfl⟩
abbrev main_v54 : Ref sig .tc := ⟨.hbm, 74, rfl⟩
abbrev main_v55 : Ref sig .tc := ⟨.hbm, 75, rfl⟩
abbrev main_cst_4 : Ref sig .tc := ⟨.hbm, 76, rfl⟩
abbrev main_v56 : Ref sig .tc := ⟨.hbm, 77, rfl⟩
abbrev main_v57 : Ref sig .tc := ⟨.hbm, 78, rfl⟩
abbrev main_cst_5 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== Cross.lean ====
abbrev S32768x1024 : Shape := ⟨2, ![32768, 1024]⟩
abbrev S4096x1024 : Shape := ⟨2, ![4096, 1024]⟩
abbrev S1x1024 : Shape := ⟨2, ![1, 1024]⟩
abbrev S1x1024x1024 : Shape := ⟨3, ![1, 1024, 1024]⟩
abbrev S1024 : Shape := ⟨1, ![1024]⟩
abbrev S1024x1024 : Shape := ⟨2, ![1024, 1024]⟩
abbrev S512x1024 : Shape := ⟨2, ![512, 1024]⟩
abbrev S256x1024 : Shape := ⟨2, ![256, 1024]⟩
abbrev S512 : Shape := ⟨1, ![512]⟩
abbrev S512x1 : Shape := ⟨2, ![512, 1]⟩
abbrev S512x256 : Shape := ⟨2, ![512, 256]⟩
abbrev S256x256 : Shape := ⟨2, ![256, 256]⟩

abbrev nBuf : Space → Nat
  | .hbm => 13
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S4096x1024, .bf16⟩
  | .hbm, ⟨2, _⟩ => ⟨S4096x1024, .bf16⟩
  | .hbm, ⟨3, _⟩ => ⟨S1x1024, .f32⟩
  | .hbm, ⟨4, _⟩ => ⟨S1x1024x1024, .f32⟩
  | .hbm, ⟨5, _⟩ => ⟨S1x1024x1024, .f32⟩
  | .hbm, ⟨6, _⟩ => ⟨S1024, .f32⟩
  | .hbm, ⟨7, _⟩ => ⟨S1x1024, .f32⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== CrossRefIdeal.lean ====
abbrev S32768x1024 : Shape := ⟨2, ![32768, 1024]⟩
abbrev S4096x1024 : Shape := ⟨2, ![4096, 1024]⟩
abbrev S1x1024 : Shape := ⟨2, ![1, 1024]⟩
abbrev S1x1024x1024 : Shape := ⟨3, ![1, 1024, 1024]⟩
abbrev S16x2048x1024 : Shape := ⟨3, ![16, 2048, 1024]⟩
abbrev S16x256x4x256 : Shape := ⟨4, ![16, 256, 4, 256]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x1024 : Shape := ⟨2, ![1024, 1024]⟩
abbrev S16x2048x4x256 : Shape := ⟨4, ![16, 2048, 4, 256]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x256x2048 : Shape := ⟨4, ![16, 4, 256, 2048]⟩

abbrev nBuf : Space → Nat
  | .hbm => 56
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4096x1024, .bf16⟩
  | .hbm, ⟨2, _⟩ => ⟨S4096x1024, .bf16⟩
  | .hbm, ⟨3, _⟩ => ⟨S1x1024, .f32⟩
  | .hbm, ⟨4, _⟩ => ⟨S1x1024x1024, .f32⟩
  | .hbm, ⟨5, _⟩ => ⟨S1x1024x1024, .f32⟩
  | .hbm, ⟨6, _⟩ => ⟨S16x2048x1024, .f32⟩
  | .hbm, ⟨7, _⟩ => ⟨S4096x1024, .f32⟩
  | .hbm, ⟨8, _⟩ => ⟨S16x256x4x256, .f32⟩
  | .hbm, ⟨9, _⟩ => ⟨S4096x1024, .f32⟩
  | .hbm, ⟨10, _⟩ => ⟨S16x256x4x256, .f32⟩
  | .hbm, ⟨11, _⟩ => ⟨S1024, .f32⟩
  | .hbm, ⟨12, _⟩ => ⟨S16x2048x1024, .f32⟩
  | .hbm, ⟨13, _⟩ => ⟨S_, .f32⟩
  | .hbm, ⟨14, _⟩ => ⟨S16x2048, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S16x2048x1, .f32⟩
  | .hbm, ⟨23, _⟩ => ⟨S16x2048x1024, .f32⟩
  | .hbm, ⟨24, _⟩ => ⟨S16x2048x1024, .f32⟩
  | .hbm, ⟨25, _⟩ => ⟨S1x1x1024, .f32⟩
  | .hbm, ⟨26, _⟩ => ⟨S16x2048x1024, .f32⟩
  | .hbm, ⟨27, _⟩ => ⟨S16x2048x1024, .f32⟩
  | .hbm, ⟨28, _⟩ => ⟨S1024x1024, .f32⟩
  | .hbm, ⟨29, _⟩ => ⟨S16x2048x1024, .f32⟩
  | .hbm, ⟨30, _⟩ => ⟨S16x2048x4x256, .f32⟩
  | .hbm, ⟨31, _⟩ => ⟨S16x4x2048x256, .f32⟩
  | .hbm, ⟨32, _⟩ => ⟨S_, .f32⟩
  | .hbm, ⟨33, _⟩ => ⟨S16x4x2048x256, .f32⟩
  | .hbm, ⟨34, _⟩ => ⟨S16x4x2048x256, .f32⟩
  | .hbm, ⟨35, _⟩ => ⟨S_, .f32⟩
  | .hbm, ⟨36, _⟩ => ⟨S16x4x2048, .f32⟩
  | .hbm, ⟨37, _⟩ => ⟨S_, .f32⟩
  | .hbm, ⟨38, _⟩ => ⟨S16x4x2048, .f32⟩
  | .hbm, ⟨39, _⟩ => ⟨S16x4x2048, .f32⟩
  | .hbm, ⟨40, _⟩ => ⟨S16x4x2048x1, .f32⟩
  | .hbm, ⟨41, _⟩ => ⟨S16x4x2048x256, .f32⟩
  | .hbm, ⟨42, _⟩ => ⟨S16x4x2048x256, .f32⟩
  | .hbm, ⟨43, _⟩ => ⟨S16x4x2048x256, .f32⟩
  | .hbm, ⟨44, _⟩ => ⟨S_, .f32⟩
  | .hbm, ⟨45, _⟩ => ⟨S16x4x2048, .f32⟩
  | .hbm, ⟨46, _⟩ => ⟨S16x4x2048x1, .f32⟩
  | .hbm, ⟨47, _⟩ => ⟨S16x4x2048x256, .f32⟩
  | .hbm, ⟨48, _⟩ => ⟨S16x4x2048x256, .f32⟩
  | .hbm, ⟨49, _⟩ => ⟨S16x4x256x2048, .f32⟩
  | .hbm, ⟨50, _⟩ => ⟨S16x2048x4x256, .f32⟩
  | .hbm, ⟨51, _⟩ => ⟨S16x2048x1024, .f32⟩
  | .hbm, ⟨52, _⟩ => ⟨S1024x1024, .f32⟩
  | .hbm, ⟨53, _⟩ => ⟨S16x2048x1024, .f32⟩
  | .hbm, ⟨54, _⟩ => ⟨S16x2048x1024, .f32⟩
  | .hbm, ⟨55, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Merge.lean ====
abbrev S32768x512 : Shape := ⟨2, ![32768, 512]⟩
abbrev S32768x1024 : Shape := ⟨2, ![32768, 1024]⟩
abbrev S1x8x128x128 : Shape := ⟨4, ![1, 8, 128, 128]⟩
abbrev S1x8x128 : Shape := ⟨3, ![1, 8, 128]⟩
abbrev S1x512 : Shape := ⟨2, ![1, 512]⟩
abbrev S1x1024x1024 : Shape := ⟨3, ![1, 1024, 1024]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S8x128x128 : Shape := ⟨3, ![8, 128, 128]⟩
abbrev S512 : Shape := ⟨1, ![512]⟩
abbrev S1024x1024 : Shape := ⟨2, ![1024, 1024]⟩
abbrev S512x512 : Shape := ⟨2, ![512, 512]⟩
abbrev S512x1024 : Shape := ⟨2, ![512, 1024]⟩
abbrev S128x128 : Shape := ⟨2, ![128, 128]⟩
abbrev S1x128x128 : Shape := ⟨3, ![1, 128, 128]⟩
abbrev S512x1 : Shape := ⟨2, ![512, 1]⟩

abbrev nBuf : Space → Nat
  | .hbm => 21
  | .vmem => 16
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .bf16⟩
  | .hbm, ⟨3, _⟩ => ⟨S32768x1024, .f32⟩
  | .hbm, ⟨4, _⟩ => ⟨S1x8x128x128, .f32⟩
  | .hbm, ⟨5, _⟩ => ⟨S1x8x128, .f32⟩
  | .hbm, ⟨6, _⟩ => ⟨S1x512, .f32⟩
  | .hbm, ⟨7, _⟩ => ⟨S1x512, .f32⟩
  | .hbm, ⟨8, _⟩ => ⟨S1x1024x1024, .f32⟩
  | .hbm, ⟨9, _⟩ => ⟨S8x128, .f32⟩
  | .hbm, ⟨10, _⟩ => ⟨S128x8, .f32⟩
  | .hbm, ⟨11, _⟩ => ⟨S128x8x64, .f32⟩
  | .hbm, ⟨12, _⟩ => ⟨S128x512, .f32⟩
  | .hbm, ⟨13, _⟩ => ⟨S8x128x128, .f32⟩
  | .hbm, ⟨14, _⟩ => ⟨S512, .f32⟩
  | .hbm, ⟨15, _⟩ => ⟨S1x512, .f32⟩
  | .hbm, ⟨16, _⟩ => ⟨S512, .f32⟩
  | .hbm, ⟨17, _⟩ => ⟨S1x512, .f32⟩
  | .hbm, ⟨18, _⟩ => ⟨S1024x1024, .f32⟩
  | .hbm, ⟨19, _⟩ => ⟨S1024x1024, .bf16⟩
  | .hbm, ⟨20, _⟩ => ⟨S32768x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S8x128x128, .f32⟩
  | .local _ .vmem, ⟨9, _⟩ => ⟨S128x512, .f32⟩
  | .local _ .vmem, ⟨10, _⟩ => ⟨S1x512, .f32⟩
  | .local _ .vmem, ⟨11, _⟩ => ⟨S1x512, .f32⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | .local _ .vmem, ⟨15, _⟩ => ⟨S512x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S32768x512 : Shape := ⟨2, ![32768, 512]⟩
abbrev S32768x1024 : Shape := ⟨2, ![32768, 1024]⟩
abbrev S1x8x128x128 : Shape := ⟨4, ![1, 8, 128, 128]⟩
abbrev S1x8x128 : Shape := ⟨3, ![1, 8, 128]⟩
abbrev S1x512 : Shape := ⟨2, ![1, 512]⟩
abbrev S1x1024x1024 : Shape := ⟨3, ![1, 1024, 1024]⟩
abbrev S_ : Shape := ⟨0, ![]⟩
abbrev S128x128 : Shape := ⟨2, ![128, 128]⟩
abbrev S8x128x128 : Shape := ⟨3, ![8, 128, 128]⟩
abbrev S16x16x128x8x64 : Shape := ⟨5, ![16, 16, 128, 8, 64]⟩
abbrev S8x16x16x64x128 : Shape := ⟨5, ![8, 16, 16, 64, 128]⟩
abbrev S8x128 : Shape := ⟨2, ![8, 128]⟩
abbrev S128x8 : Shape := ⟨2, ![128, 8]⟩
abbrev S1x1x128x8x1 : Shape := ⟨5, ![1, 1, 128, 8, 1]⟩
abbrev S16x2048x512 : Shape := ⟨3, ![16, 2048, 512]⟩
abbrev S512 : Shape := ⟨1, ![512]⟩
abbrev S16x2048 : Shape := ⟨2, ![16, 2048]⟩
abbrev S16x2048x1 : Shape := ⟨3, ![16, 2048, 1]⟩
abbrev S1x1x512 : Shape := ⟨3, ![1, 1, 512]⟩
abbrev S16x2048x1024 : Shape := ⟨3, ![16, 2048, 1024]⟩
abbrev S1024x1024 : Shape := ⟨2, ![1024, 1024]⟩

abbrev nBuf : Space → Nat
  | .hbm => 79
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .bf16⟩
  | .hbm, ⟨3, _⟩ => ⟨S32768x1024, .f32⟩
  | .hbm, ⟨4, _⟩ => ⟨S1x8x128x128, .f32⟩
  | .hbm, ⟨5, _⟩ => ⟨S1x8x128, .f32⟩
  | .hbm, ⟨6, _⟩ => ⟨S1x512, .f32⟩
  | .hbm, ⟨7, _⟩ => ⟨S1x512, .f32⟩
  | .hbm, ⟨8, _⟩ => ⟨S1x1024x1024, .f32⟩
  | .hbm, ⟨9, _⟩ => ⟨S_, .i1⟩
  | .hbm, ⟨10, _⟩ => ⟨S128x128, .i1⟩
  | .hbm, ⟨11, _⟩ => ⟨S128x128, .i32⟩
  | .hbm, ⟨12, _⟩ => ⟨S_, .i32⟩
  | .hbm, ⟨13, _⟩ => ⟨S128x128, .i32⟩
  | .hbm, ⟨14, _⟩ => ⟨S128x128, .i32⟩
  | .hbm, ⟨15, _⟩ => ⟨S128x128, .i32⟩
  | .hbm, ⟨16, _⟩ => ⟨S128x128, .i1⟩
  | .hbm, ⟨17, _⟩ => ⟨S_, .i1⟩
  | .hbm, ⟨18, _⟩ => ⟨S128x128, .i1⟩
  | .hbm, ⟨19, _⟩ => ⟨S128x128, .i1⟩
  | .hbm, ⟨20, _⟩ => ⟨S8x128x128, .f32⟩
  | .hbm, ⟨21, _⟩ => ⟨S_, .f32⟩
  | .hbm, ⟨22, _⟩ => ⟨S_, .f32⟩
  | .hbm, ⟨23, _⟩ => ⟨S8x128x128, .i1⟩
  | .hbm, ⟨24, _⟩ => ⟨S8x128x128, .f32⟩
  | .hbm, ⟨25, _⟩ => ⟨S8x128x128, .f32⟩
  | .hbm, ⟨26, _⟩ => ⟨S32768x512, .f32⟩
  | .hbm, ⟨27, _⟩ => ⟨S16x16x128x8x64, .f32⟩
  | .hbm, ⟨28, _⟩ => ⟨S8x16x16x64x128, .f32⟩
  | .hbm, ⟨29, _⟩ => ⟨S16x16x128x8x64, .f32⟩
  | .hbm, ⟨30, _⟩ => ⟨S8x128, .f32⟩
  | .hbm, ⟨31, _⟩ => ⟨S128x8, .f32⟩
  | .hbm, ⟨32, _⟩ => ⟨S1x1x128x8x1, .f32⟩
  | .hbm, ⟨33, _⟩ => ⟨S16x16x128x8x64, .f32⟩
  | .hbm, ⟨34, _⟩ => ⟨S16x16x128x8x64, .f32⟩
  | .hbm, ⟨35, _⟩ => ⟨S16x2048x512, .f32⟩
  | .hbm, ⟨36, _⟩ => ⟨S16x2048x512, .f32⟩
  | .hbm, ⟨37, _⟩ => ⟨S16x2048x512, .f32⟩
  | .hbm, ⟨38, _⟩ => ⟨S16x2048x512, .f32⟩
  | .hbm, ⟨39, _⟩ => ⟨S512, .f32⟩
  | .hbm, ⟨40, _⟩ => ⟨S16x2048x512, .f32⟩
  | .hbm, ⟨41, _⟩ => ⟨S_, .f32⟩
  | .hbm, ⟨42, _⟩ => ⟨S16x2048, .f32⟩
  | .hbm, ⟨43, _⟩ => ⟨S16x2048x1, .f32⟩
  | .hbm, ⟨44, _⟩ => ⟨S_, .f32⟩
  | .hbm, ⟨45, _⟩ => ⟨S16x2048x1, .f32⟩
  | .hbm, ⟨46, _⟩ => ⟨S16x2048x1, .f32⟩
  | .hbm, ⟨47, _⟩ => ⟨S_, .f32⟩
  | .hbm, ⟨48, _⟩ => ⟨S16x2048x1, .f32⟩
  | .hbm, ⟨49, _⟩ => ⟨S16x2048x1, .f32⟩
  | .hbm, ⟨50, _⟩ => ⟨S16x2048x1, .f32⟩
  | .hbm, ⟨51, _⟩ => ⟨S16x2048x512, .f32⟩
  | .hbm, ⟨52, _⟩ => ⟨S16x2048x512, .f32⟩
  | .hbm, ⟨53, _⟩ => ⟨S1x1x512, .f32⟩
  | .hbm, ⟨54, _⟩ => ⟨S16x2048x512, .f32⟩
  | .hbm, ⟨55, _⟩ => ⟨S16x2048x512, .f32⟩
  | .hbm, ⟨56, _⟩ => ⟨S512, .f32⟩
  | .hbm, ⟨57, _⟩ => ⟨S16x2048x512, .f32⟩
  | .hbm, ⟨58, _⟩ => ⟨S_, .f32⟩
  | .hbm, ⟨59, _⟩ => ⟨S16x2048, .f32⟩
  | .hbm, ⟨60, _⟩ => ⟨S16x2048x1, .f32⟩
  | .hbm, ⟨61, _⟩ => ⟨S_, .f32⟩
  | .hbm, ⟨62, _⟩ => ⟨S16x2048x1, .f32⟩
  | .hbm, ⟨63, _⟩ => ⟨S16x2048x1, .f32⟩
  | .hbm, ⟨64, _⟩ => ⟨S_, .f32⟩
  | .hbm, ⟨65, _⟩ => ⟨S16x2048x1, .f32⟩
  | .hbm, ⟨66, _⟩ => ⟨S16x2048x1, .f32⟩
  | .hbm, ⟨67, _⟩ => ⟨S16x2048x1, .f32⟩
  | .hbm, ⟨68, _⟩ => ⟨S16x2048x512, .f32⟩
  | .hbm, ⟨69, _⟩ => ⟨S16x2048x512, .f32⟩
  | .hbm, ⟨70, _⟩ => ⟨S1x1x512, .f32⟩
  | .hbm, ⟨71, _⟩ => ⟨S16x2048x512, .f32⟩
  | .hbm, ⟨72, _⟩ => ⟨S16x2048x512, .f32⟩
  | .hbm, ⟨73, _⟩ => ⟨S16x2048x1024, .f32⟩
  | .hbm, ⟨74, _⟩ => ⟨S16x2048x1024, .f32⟩
  | .hbm, ⟨75, _⟩ => ⟨S1024x1024, .f32⟩
  | .hbm, ⟨76, _⟩ => ⟨S16x2048x1024, .f32⟩
  | .hbm, ⟨77, _⟩ => ⟨S16x2048x1024, .f32⟩
  | .hbm, ⟨78, _⟩ => ⟨S32768x1024, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_0 : Ref sig .tc := ⟨.hbm, 17, rfl⟩
abbrev main_call0_v5 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_0 : Ref sig .tc := ⟨.hbm, 41, rfl⟩
abbrev main_v19 : Ref sig .tc := ⟨.hbm, 42, rfl⟩
abbrev main_v20 : Ref sig .tc := ⟨.hbm, 43, rfl⟩
abbrev main_cst_1 : Ref sig .tc := ⟨.hbm, 44, rfl⟩
abbrev main_v21 : Ref sig .tc := ⟨.hbm, 45, rfl⟩
abbrev main_v22 : Ref sig .tc := ⟨.hbm, 46, rfl⟩
abbrev main_cst_2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_3 : Ref sig .tc := ⟨.hbm, 58, rfl⟩
abbrev main_v33 : Ref sig .tc := ⟨.hbm, 59, rfl⟩
abbrev main_v34 : Ref sig .tc := ⟨.hbm, 60, rfl⟩
abbrev main_cst_4 : Ref sig .tc := ⟨.hbm, 61, rfl⟩
abbrev main_v35 : Ref sig .tc := ⟨.hbm, 62, rfl⟩
abbrev main_v36 : Ref sig .tc := ⟨.hbm, 63, rfl⟩
abbrev main_cst_5 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩

abbrev nD : Nat := 1
abbrev τ : Topo := Topo.v7x

variable {F : FTy → Type} [FloatOps F]
-- ==== Proof.MemkvValue.lean ====
module

public import proofs.«01_k».proof.Defs
public import proofs.«01_k».proof.Proof.Gen.MemkvIdeal.Value
public import proofs.«01_k».proof.Proof.Gen.MemkvRefIdeal.Run
public import Idealize.ShloMosaic.Lib.Pipeline.ValueKit
public import Idealize.ShloMosaic.Lib.Pointwise

@[expose] public section

set_option maxRecDepth 16384

noncomputable section

namespace Cert.MemkvIdeal.Hand

open Cert.MemkvIdeal Cert.MemkvIdeal.Gen Idealize.ShloMosaic Idealize.ShloMosaic.TcCoe Idealize.SL.Sem

variable (m : (ℓ : Loc nD τ sig) → Buf (Elt Ideal) ℓ)

/-- One projected row entry: row `r` of the reshaped memory, normalised, against column `n` of a weight. -/
def proj (x : S16x256x1024.Idx → EReal) (g : S1x1024.Idx → EReal) (w : S1x1024x1024.Idx → EReal)
    (r : Fin 4096) (n : Fin 1024) : EReal :=
  ∑ k : Fin 1024, x (ix3 ⟨r.val / 256, by omega⟩ ⟨r.val % 256, by omega⟩ k)
    * Ideal.rsqrt (Ideal.div (∑ l : Fin 1024, x (ix3 ⟨r.val / 256, by omega⟩ ⟨r.val % 256, by omega⟩ l)
        * x (ix3 ⟨r.val / 256, by omega⟩ ⟨r.val % 256, by omega⟩ l)) (Ideal.ofBits .f32 0x44800000#32)
      + Ideal.ofBits .f32 0x358637BD#32)
    * g (ix2 0 k) * w (ix3 0 k n)

/-- The index maps of the five windows that the first result reads. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0]
    ∧ win0_6.index t = ![t.val, 0] ∧ win0_7.index t = ![t.val, 0] :=
  (by decide +kernel : ∀ t : Fin grid0.N, _)

theorem tlt (t : Fin cfg0.N) : t.val < 8 := lt_of_lt_of_eq t.isLt (by decide +kernel : cfg0.N = 8)

theorem blk0 (c : Dev nD) (t : Fin cfg0.N) (a : Fin 512) (k : Fin 1024) : iblk m c 0 t (ix2 a k)
    = m ((c : Thread nD τ).loc main_arg0) (ix3 ⟨(t.val * 512 + a.val) / 256, by have := tlt t; omega⟩ ⟨(t.val * 512 + a.val) % 256, by omega⟩ k) := by
  blk_ext! [iblk, V, idx t]

theorem blk1 (c : Dev nD) (t : Fin cfg0.N) (k : Fin 1024) : iblk m c 1 t (ix2 0 k) = m ((c : Thread nD τ).loc main_arg1) (ix2 0 k) := by
  blk_ext! [iblk, V, idx t]

theorem blk2 (c : Dev nD) (t : Fin cfg0.N) (a k : Fin 1024) : iblk m c 2 t (ix2 a k) = m ((c : Thread nD τ).loc main_arg2) (ix3 0 a k) := by
  blk_ext! [iblk, V, idx t]

theorem emb4 (t : Fin cfg0.N) (a : Fin 512) (k : Fin 1024) :
    (win0_4.blk t).view.emb (ix2 a k) = (ix2 ⟨t.val * 512 + a.val, by have := tlt t; omega⟩ k : S4096x1024.Idx) := by
  blk_ext [idx t]

theorem blk3 (c : Dev nD) (t : Fin cfg0.N) (a k : Fin 1024) : iblk m c 3 t (ix2 a k) = m ((c : Thread nD τ).loc main_arg3) (ix3 0 a k) := by
  blk_ext! [iblk, V, idx t]

/-- Result 0 after the run: the projection by the keys' weight. -/
theorem final4 (c : Dev nD) : (dats m 0 c).arrAt 4 (cfgs 0).N
    = fun i => proj (m ((c : Thread nD τ).loc main_arg0)) (m ((c : Thread nD τ).loc main_arg1)) (m ((c : Thread nD τ).loc main_arg2)) (i 0) (i 1) := by
  refine (dats m 0 c).arrAt_eq_of_covers 4 _ (by decide +kernel) fun t hf y => ?_
  blk_simp
  rw [after0_4]
  frame_out
  idx_vars y
  pointwise [k0_pay2, k0_pay1]
  simp only [blk0, blk1, blk2]
  unfold proj
  rw [show ((View.whole main_v7_0).slice (win0_4.rect t)).emb (ix2 y0 y1) = _ from emb4 t y0 y1]
  rfl

theorem emb5 (t : Fin cfg0.N) (a : Fin 512) (k : Fin 1024) :
    (win0_5.blk t).view.emb (ix2 a k) = (ix2 ⟨t.val * 512 + a.val, by have := tlt t; omega⟩ k : S4096x1024.Idx) := by
  blk_ext [idx t]

/-- Result 1 after the run: the projection by the values' weight. -/
theorem final5 (c : Dev nD) : (dats m 0 c).arrAt 5 (cfgs 0).N
    = fun i => proj (m ((c : Thread nD τ).loc main_arg0)) (m ((c : Thread nD τ).loc main_arg1)) (m ((c : Thread nD τ).loc main_arg3)) (i 0) (i 1) := by
  refine (dats m 0 c).arrAt_eq_of_covers 5 _ (by decide +kernel) fun t hf y => ?_
  blk_simp
  rw [after0_5]
  frame_out
  idx_vars y
  pointwise [k0_pay3, k0_pay1]
  simp only [blk0, blk1, blk3]
  unfold proj
  rw [show ((View.whole main_v7_1).slice (win0_5.rect t)).emb (ix2 y0 y1) = _ from emb5 t y0 y1]
  rfl

theorem emb6 (t : Fin cfg0.N) (a : Fin 512) (k : Fin 1024) :
    (win0_6.blk t).view.emb (ix2 a k) = (ix2 ⟨t.val * 512 + a.val, by have := tlt t; omega⟩ k : S4096x1024.Idx) := by
  blk_ext [idx t]

/-- Result 2 after the run: the projection by the keys' weight. -/
theorem final6 (c : Dev nD) : (dats m 0 c).arrAt 6 (cfgs 0).N
    = fun i => proj (m ((c : Thread nD τ).loc main_arg0)) (m ((c : Thread nD τ).loc main_arg1)) (m ((c : Thread nD τ).loc main_arg2)) (i 0) (i 1) := by
  refine (dats m 0 c).arrAt_eq_of_covers 6 _ (by decide +kernel) fun t hf y => ?_
  blk_simp
  rw [after0_6]
  frame_out
  idx_vars y
  pointwise [k0_pay4, k0_pay2, k0_pay1]
  simp only [blk0, blk1, blk2]
  unfold proj
  rw [show ((View.whole main_v7_2).slice (win0_6.rect t)).emb (ix2 y0 y1) = _ from emb6 t y0 y1]
  rfl

theorem emb7 (t : Fin cfg0.N) (a : Fin 512) (k : Fin 1024) :
    (win0_7.blk t).view.emb (ix2 a k) = (ix2 ⟨t.val * 512 + a.val, by have := tlt t; omega⟩ k : S4096x1024.Idx) := by
  blk_ext [idx t]

/-- Result 3 after the run: the projection by the values' weight. -/
theorem final7 (c : Dev nD) : (dats m 0 c).arrAt 7 (cfgs 0).N
    = fun i => proj (m ((c : Thread nD τ).loc main_arg0)) (m ((c : Thread nD τ).loc main_arg1)) (m ((c : Thread nD τ).loc main_arg3)) (i 0) (i 1) := by
  refine (dats m 0 c).arrAt_eq_of_covers 7 _ (by decide +kernel) fun t hf y => ?_
  blk_simp
  rw [after0_7]
  frame_out
  idx_vars y
  pointwise [k0_pay5, k0_pay3, k0_pay1]
  simp only [blk0, blk1, blk3]
  unfold proj
  rw [show ((View.whole main_v7_3).slice (win0_7.rect t)).emb (ix2 y0 y1) = _ from emb7 t y0 y1]
  rfl

end Cert.MemkvIdeal.Hand

end
-- ==== Proof.MemkvRef.lean ====
module

public import proofs.«01_k».proof.Defs
public import proofs.«01_k».proof.Proof.MemkvValue
public import proofs.«01_k».proof.Proof.Gen.MemkvRefIdeal.Run
public import Idealize.ShloMosaic.Lib.Pipeline.ValueKit
public import Idealize.ShloMosaic.Lib.Pointwise

@[expose] public section

set_option maxRecDepth 16384

noncomputable section

namespace Cert.MemkvRefIdeal.Hand

open Cert.MemkvRefIdeal Cert.MemkvRefIdeal.Gen Idealize.ShloMosaic Idealize.ShloMosaic.TcCoe Idealize.SL.Sem

/-- The reference's projection of the normalised memory rows, as one composed term. -/
def term (x : FVec Ideal S16x256x1024 .f32) (g : FVec Ideal S1x1024 .f32) (w : FVec Ideal S1x1024x1024 .f32) : FVec Ideal S4096x1024 .f32 :=
  shapeCast S4096x1024 (Host.dotGeneral dot_S16x256x1024_S1024x1024_S16x256x1024_2_0_01_1_n_n none (mulf (mulf x (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf x x) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 (shapeCast S1024 g shapeCasts_S1x1024_S1024)))) (shapeCast S1024x1024 w shapeCasts_S1x1024x1024_S1024x1024)) shapeCasts_S16x256x1024_S4096x1024

/-- The reference's projection at a position is the normalised row against the weight's column. -/
theorem term_eq (x : FVec Ideal S16x256x1024 .f32) (g : FVec Ideal S1x1024 .f32) (w : FVec Ideal S1x1024x1024 .f32) :
    term x g w = fun i => Cert.MemkvIdeal.Hand.proj x g w (i 0) (i 1) := by
  funext i
  unfold term
  idx_vars i
  pointwise
  rfl

end Cert.MemkvRefIdeal.Hand

end
-- ==== Proof.Memkv.lean ====
module

public import proofs.«01_k».proof.Defs
public import proofs.«01_k».proof.Proof.MemkvValue
public import proofs.«01_k».proof.Proof.MemkvRef
public import proofs.«01_k».proof.Proof.Gen.MemkvIdeal.Value
public import proofs.«01_k».proof.Proof.Gen.MemkvRefIdeal.Run
public import Idealize.ShloMosaic.Lib.Pipeline.ValueKit
public import Idealize.ShloMosaic.Lib.Pointwise

@[expose] public section

set_option maxRecDepth 16384

noncomputable section

namespace Cert.MemkvIdeal.Hand

open Cert.MemkvIdeal Cert.MemkvIdeal.Gen Idealize.ShloMosaic Idealize.ShloMosaic.TcCoe Idealize.SL.Sem

/-- Both programs project the same normalised rows. -/
theorem algebraic : Cert.algebraic_MemkvIdeal_MemkvRefIdeal (hMemkvIdeal := Cert.MemkvIdeal.Gen.facts) (hMemkvRefIdeal := Cert.MemkvRefIdeal.Gen.facts) := by
  intro m g m' g' _ hagree
  refine ⟨_, _, _, _, Cert.MemkvIdeal.Value.run_blocks m g, (θ_run _ _ _).mono (fun r h c => ?_) (Cert.MemkvRefIdeal.Value.run m' g')⟩
  obtain ⟨h0, h1, h2, h3, ha⟩ := h c
  rw [h0, h1, h2, h3, (hagree c).1, (hagree c).2.1, (hagree c).2.2.1, (hagree c).2.2.2]
  refine ⟨?_, ?_, ?_, ?_, ?_⟩
  · exact (Cert.MemkvRefIdeal.Hand.term_eq _ _ _).trans (final4 m c).symm
  · exact (Cert.MemkvRefIdeal.Hand.term_eq _ _ _).trans (final5 m c).symm
  · exact (Cert.MemkvRefIdeal.Hand.term_eq _ _ _).trans (final6 m c).symm
  · exact (Cert.MemkvRefIdeal.Hand.term_eq _ _ _).trans (final7 m c).symm
  · rw [← (hagree c).1, ← (hagree c).2.1, ← (hagree c).2.2.1, ← (hagree c).2.2.2]
    exact ha

end Cert.MemkvIdeal.Hand

end
-- ==== Proof.InputRows.lean ====
module

public import proofs.«01_k».proof.Defs
public import Idealize.ShloMosaic.Lib.Pipeline.ValueKit
public import Idealize.ShloMosaic.Lib.Pointwise

/-! The mixer's input projections, as plain functions of one row: what both programs compute, whatever their grids. -/

@[expose] public section

noncomputable section

namespace Cert.InputRows

open Idealize.ShloMosaic

/-- A row times the reciprocal root of its mean square, times a weight. -/
def hat (x g : Fin 1024 → EReal) (k : Fin 1024) : EReal :=
  x k * Ideal.rsqrt (Ideal.div (∑ l : Fin 1024, x l * x l) (Ideal.ofBits .f32 0x44800000#32) + Ideal.ofBits .f32 0x358637BD#32) * g k

/-- A normalised row against one column of a weight. -/
def proj (x g w : Fin 1024 → EReal) : EReal := ∑ k : Fin 1024, hat x g k * w k

/-- The hyperbolic-tangent form of the Gaussian error unit. -/
def gelu (a : EReal) : EReal :=
  a * (Ideal.ofBits .f32 0x3F000000#32 * (1 + Ideal.tanh (Ideal.ofBits .f32 0x3F4C422A#32 * (a + Ideal.ofBits .f32 0x3D372713#32 * (a * a * a)))))

/-- A row of 512 normalised by its root mean square and weighted. -/
def unit512 (f g : Fin 512 → EReal) (j : Fin 512) : EReal :=
  f j * Ideal.rsqrt (Ideal.div (∑ l : Fin 512, f l * f l) (Ideal.ofBits .f32 0x44000000#32) + Ideal.ofBits .f32 0x358637BD#32) * g j

/-- The logarithm of the logistic function, from the smaller of the argument and zero. -/
def logsig (a : EReal) : EReal := min a 0 - Ideal.log1p (Ideal.exp (-(max a (-a))))

theorem log1p_ne_bot (z : EReal) (h : 0 ≤ z) : Ideal.log1p z ≠ ⊥ := by
  induction z with
  | bot => exact absurd h (not_le_of_gt EReal.bot_lt_zero)
  | top =>
    show Ideal.log (1 + ⊤) ≠ ⊥
    rw [show (1 : EReal) + ⊤ = ⊤ from EReal.add_top_of_ne_bot (EReal.coe_ne_bot 1)]
    exact top_ne_bot
  | coe r =>
    have hr : 0 ≤ r := EReal.coe_nonneg.1 h
    show Ideal.log (((1 : ℝ) : EReal) + (r : EReal)) ≠ ⊥
    rw [← EReal.coe_add]
    show (if 1 + r ≤ 0 then (⊥ : EReal) else ((Real.log (1 + r) : ℝ) : EReal)) ≠ ⊥
    rw [if_neg (by linarith)]
    exact EReal.coe_ne_bot _

/-- The reference's form of the same: through the softplus of the negated argument. -/
theorem logsig_eq (a : EReal) :
    -(max (-a) 0 + Ideal.log1p (Ideal.exp (-(max (-a) (-(-a)))))) = logsig a := by
  have hexp : ∀ y : EReal, 0 ≤ Ideal.exp y := by
    intro y
    induction y with
    | bot => exact le_of_eq (by rfl)
    | top => exact le_top
    | coe r => exact EReal.coe_nonneg.2 (Real.exp_pos r).le
  have hlog : Ideal.log1p (Ideal.exp (-(max a (-a)))) ≠ ⊥ := by
    exact log1p_ne_bot _ (hexp _)
  unfold logsig
  rw [neg_neg, max_comm (-a) a]
  rw [EReal.neg_add (Or.inl (ne_of_gt (lt_of_lt_of_le EReal.bot_lt_zero (le_max_right _ _)))) (Or.inr hlog)]
  rw [show -(max (-a) 0) = min a 0 by
    rcases le_total a 0 with h | h
    · rw [min_eq_left h, max_eq_left (by rw [← neg_zero]; exact EReal.neg_le_neg_iff.2 h), neg_neg]
    · rw [min_eq_right h, max_eq_right (by rw [← neg_zero]; exact EReal.neg_le_neg_iff.2 h), neg_zero]]

/-- A read of a rectangle of a matrix. -/
theorem ld2 {R C p q : ℕ} {e : EltTy} (X : Vec Ideal (⟨2, ![R, C]⟩ : Shape) e) (a b : ℕ) (h : a + p ≤ R) (h' : b + q ≤ C) (i : Fin p) (j : Fin q) (hh) :
    View.ld X (Rect.unit (s := (⟨2, ![R, C]⟩ : Shape)) ![a, b] (![p, q] : Fin 2 → ℕ) hh) (ix2 i j : (⟨2, ![p, q]⟩ : Shape).Idx)
      = X (ix2 ⟨a + i.val, by omega⟩ ⟨b + j.val, by omega⟩) := by
  refine congrArg X ?_
  funext k; apply Fin.ext; revert k; rw [Fin.forall_fin_two]; constructor
  · show a + 1 * i.val = a + i.val; omega
  · show b + 1 * j.val = b + j.val; omega

end Cert.InputRows

end
-- ==== Proof.InSSpec.lean ====
module

public import proofs.«01_k».proof.Defs
public import proofs.«01_k».proof.Proof.Gen.InSIdeal.Skeleton
public import proofs.«01_k».proof.Proof.InputRows
public import Idealize.ShloMosaic.Lib.Pipeline.ValueKit
public import Idealize.ShloMosaic.Lib.Pointwise

@[expose] public section

set_option maxRecDepth 16384

noncomputable section

namespace Cert.InSIdeal.Hand

open Cert.InSIdeal Cert.InSIdeal.Gen Cert.InputRows Idealize.ShloMosaic Idealize.ShloMosaic.TcCoe Idealize.SL.Sem

/-- One entry of a projected sample row: row `r` against column `off + j` of the whole weight. -/
def col (x : S32x1x1024.Idx → EReal) (g : S1x1024.Idx → EReal) (w : S1x1024x2568.Idx → EReal) (off W : ℕ) (h : off + W ≤ 2568) (r : Fin 32) (j : Fin W) : EReal :=
  proj (fun k => x (ix3 r 0 k)) (fun k => g (ix2 0 k)) (fun k => w (ix3 0 k ⟨off + j.val, by omega⟩))

end Cert.InSIdeal.Hand

end
-- ==== Proof.InSBlocks.lean ====
module

public import proofs.«01_k».proof.Defs
public import proofs.«01_k».proof.Proof.Gen.InSIdeal.Value
public import proofs.«01_k».proof.Proof.InSSpec
public import Idealize.ShloMosaic.Lib.StableHlo.ReadAt
public import Idealize.ShloMosaic.Lib.Pipeline.ValueKit
public import Idealize.ShloMosaic.Lib.Pointwise

@[expose] public section

set_option maxRecDepth 16384

noncomputable section

namespace Cert.InSIdeal.Hand

open Cert.InSIdeal Cert.InSIdeal.Gen Cert.InputRows Idealize.ShloMosaic Idealize.ShloMosaic.TcCoe Idealize.SL.Sem

variable (m : (ℓ : Loc nD τ sig) → Buf (Elt Ideal) ℓ)

/-- The sample rows, as the region finds them. -/
theorem v3 (c : Dev nD) (a : Fin 32) (k : Fin 1024) : V m c main_v3 (ix2 a k)
    = m ((c : Thread nD τ).loc main_arg0) (ix3 a 0 k) := by
  simp only [V, hostOps0, hostOps0_1, hostOps0_2, hostOps0_3, hostOps0_4, List.flatten_cons, List.flatten_nil, List.append_nil, List.cons_append, List.nil_append]
  after_reads_at

/-- The norm's weight, as the region finds it. -/
theorem v5 (c : Dev nD) (z : Fin 1) (k : Fin 1024) : V m c main_v5 (ix2 z k)
    = m ((c : Thread nD τ).loc main_arg1) (ix2 0 k) := by
  simp only [V, hostOps0, hostOps0_1, hostOps0_2, hostOps0_3, hostOps0_4, List.flatten_cons, List.flatten_nil, List.append_nil, List.cons_append, List.nil_append]
  after_reads_at

/-- The gate norm's weight, as the region finds it. -/
theorem v14 (c : Dev nD) (z : Fin 1) (k : Fin 512) : V m c main_v14 (ix2 z k)
    = m ((c : Thread nD τ).loc main_arg4) (ix2 0 k) := by
  simp only [V, hostOps0, hostOps0_1, hostOps0_2, hostOps0_3, hostOps0_4, List.flatten_cons, List.flatten_nil, List.append_nil, List.cons_append, List.nil_append]
  after_reads_at

/-- The eight forget biases, padded to 128 lanes. -/
theorem v2 (c : Dev nD) (z : Fin 1) (k : Fin 128) (h : k.val < 8) : V m c main_v2 (ix2 z k)
    = m ((c : Thread nD τ).loc main_arg3) (ix2 0 ⟨k.val, h⟩) := by
  simp only [V, hostOps0, hostOps0_1, hostOps0_2, hostOps0_3, hostOps0_4, List.flatten_cons, List.flatten_nil, List.append_nil, List.cons_append, List.nil_append]
  after_reads_at
  rw [dif_pos h]

/-- The rearranged weight's columns up to 1536 are the weight's. -/
theorem v12a (c : Dev nD) (k : Fin 1024) (n : Fin 2688) (h : n.val < 1536) : V m c main_v12 (ix2 k n)
    = m ((c : Thread nD τ).loc main_arg2) (ix3 0 k ⟨n.val, by omega⟩) := by
  simp only [V, hostOps0, hostOps0_1, hostOps0_2, hostOps0_3, hostOps0_4, List.flatten_cons, List.flatten_nil, List.append_nil, List.cons_append, List.nil_append]
  after_reads_at
  rw [dif_pos h]
  after_reads_at

/-- The rearranged weight's next 1024 columns are the weight's, eight further on. -/
theorem v12b (c : Dev nD) (k : Fin 1024) (n : Fin 2688) (h : 1536 ≤ n.val) (h2 : n.val < 2560) : V m c main_v12 (ix2 k n)
    = m ((c : Thread nD τ).loc main_arg2) (ix3 0 k ⟨1544 + (n.val - 1536), by omega⟩) := by
  simp only [V, hostOps0, hostOps0_1, hostOps0_2, hostOps0_3, hostOps0_4, List.flatten_cons, List.flatten_nil, List.append_nil, List.cons_append, List.nil_append]
  after_reads_at
  rw [dif_neg (by omega), dif_pos (by omega)]
  after_reads_at

/-- The rearranged weight's last columns hold the eight forget columns. -/
theorem v12c (c : Dev nD) (k : Fin 1024) (n : Fin 2688) (h : 2560 ≤ n.val) (h2 : n.val < 2568) : V m c main_v12 (ix2 k n)
    = m ((c : Thread nD τ).loc main_arg2) (ix3 0 k ⟨1536 + (n.val - 1536 - 1024), by omega⟩) := by
  simp only [V, hostOps0, hostOps0_1, hostOps0_2, hostOps0_3, hostOps0_4, List.flatten_cons, List.flatten_nil, List.append_nil, List.cons_append, List.nil_append]
  after_reads_at
  rw [dif_neg (by omega), dif_neg (by omega)]
  after_reads_at
  rw [dif_pos (by omega)]

/-- The index maps of the windows: the grid has one point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0] ∧ win0_10.index t = ![0, 0] :=
  (by decide +kernel : ∀ t : Fin grid0.N, _)

theorem blk0 (c : Dev nD) (t : Fin cfg0.N) (a : Fin 32) (k : Fin 1024) : iblk m c 0 t (ix2 a k)
    = m ((c : Thread nD τ).loc main_arg0) (ix3 a 0 k) :=
  (by blk_ext [iblk, idx t] : iblk m c 0 t (ix2 a k) = V m c main_v3 (ix2 a k)).trans (v3 m c a k)

theorem blk1 (c : Dev nD) (t : Fin cfg0.N) (z : Fin 1) (k : Fin 1024) : iblk m c 1 t (ix2 z k) = m ((c : Thread nD τ).loc main_arg1) (ix2 0 k) :=
  (by blk_ext [iblk, idx t] : iblk m c 1 t (ix2 z k) = V m c main_v5 (ix2 z k)).trans (v5 m c z k)

theorem blk2 (c : Dev nD) (t : Fin cfg0.N) (k : Fin 1024) (n : Fin 2688) : iblk m c 2 t (ix2 k n) = V m c main_v12 (ix2 k n) := by
  blk_ext [iblk, idx t]

theorem blk3 (c : Dev nD) (t : Fin cfg0.N) (z : Fin 1) (k : Fin 128) (h : k.val < 8) : iblk m c 3 t (ix2 z k) = m ((c : Thread nD τ).loc main_arg3) (ix2 0 ⟨k.val, h⟩) :=
  (by blk_ext [iblk, idx t] : iblk m c 3 t (ix2 z k) = V m c main_v2 (ix2 z k)).trans (v2 m c z k h)

theorem blk4 (c : Dev nD) (t : Fin cfg0.N) (z : Fin 1) (k : Fin 512) : iblk m c 4 t (ix2 z k) = m ((c : Thread nD τ).loc main_arg4) (ix2 0 k) :=
  (by blk_ext [iblk, idx t] : iblk m c 4 t (ix2 z k) = V m c main_v14 (ix2 z k)).trans (v14 m c z k)

theorem ix3_congr {a b c : ℕ} {i i' : Fin a} {j j' : Fin b} {k k' : Fin c} (h : i = i') (h' : j = j') (h'' : k = k') : ix3 i j k = ix3 i' j' k' := by
  rw [h, h', h'']

theorem wq (c : Dev nD) (t : Fin cfg0.N) (k : Fin 1024) (j : Fin 512) (h : j.val < 2688) : iblk m c 2 t (ix2 k ⟨j.val, h⟩)
    = m ((c : Thread nD τ).loc main_arg2) (ix3 0 k ⟨0 + j.val, by omega⟩) := by
  exact (blk2 m c t k _).trans ((v12a m c k _ (by show j.val < 1536; omega)).trans (congrArg _ (ix3_congr rfl rfl (Fin.ext (by show j.val = 0 + j.val; omega)))))

theorem wk (c : Dev nD) (t : Fin cfg0.N) (k : Fin 1024) (j : Fin 512) (h : 512 + j.val < 2688) : iblk m c 2 t (ix2 k ⟨512 + j.val, h⟩)
    = m ((c : Thread nD τ).loc main_arg2) (ix3 0 k ⟨512 + j.val, by omega⟩) := by
  rw [blk2, v12a m c _ _ (by show 512 + j.val < 1536; omega)]

theorem wv (c : Dev nD) (t : Fin cfg0.N) (k : Fin 1024) (j : Fin 512) (h : 1024 + j.val < 2688) : iblk m c 2 t (ix2 k ⟨1024 + j.val, h⟩)
    = m ((c : Thread nD τ).loc main_arg2) (ix3 0 k ⟨1024 + j.val, by omega⟩) := by
  rw [blk2, v12a m c _ _ (by show 1024 + j.val < 1536; omega)]

theorem wu (c : Dev nD) (t : Fin cfg0.N) (k : Fin 1024) (j : Fin 512) (h : 1536 + j.val < 2688) : iblk m c 2 t (ix2 k ⟨1536 + j.val, h⟩)
    = m ((c : Thread nD τ).loc main_arg2) (ix3 0 k ⟨1544 + j.val, by omega⟩) := by
  rw [blk2, v12b m c _ _ (by show 1536 ≤ 1536 + j.val; omega) (by show 1536 + j.val < 2560; omega)]
  exact congrArg _ (ix3_congr rfl rfl (Fin.ext (by show 1544 + (1536 + j.val - 1536) = 1544 + j.val; omega)))

theorem wz (c : Dev nD) (t : Fin cfg0.N) (k : Fin 1024) (j : Fin 512) (h : 2048 + j.val < 2688) : iblk m c 2 t (ix2 k ⟨2048 + j.val, h⟩)
    = m ((c : Thread nD τ).loc main_arg2) (ix3 0 k ⟨2056 + j.val, by omega⟩) := by
  rw [blk2, v12b m c _ _ (by show 1536 ≤ 2048 + j.val; omega) (by show 2048 + j.val < 2560; omega)]
  exact congrArg _ (ix3_congr rfl rfl (Fin.ext (by show 1544 + (2048 + j.val - 1536) = 2056 + j.val; omega)))

theorem wf (c : Dev nD) (t : Fin cfg0.N) (k : Fin 1024) (j : Fin 8) (h : 2560 + j.val < 2688) : iblk m c 2 t (ix2 k ⟨2560 + j.val, h⟩)
    = m ((c : Thread nD τ).loc main_arg2) (ix3 0 k ⟨1536 + j.val, by omega⟩) := by
  rw [blk2, v12c m c _ _ (by show 2560 ≤ 2560 + j.val; omega) (by show 2560 + j.val < 2568; omega)]
  exact congrArg _ (ix3_congr rfl rfl (Fin.ext (by show 1536 + (2560 + j.val - 1536 - 1024) = 1536 + j.val; omega)))

end Cert.InSIdeal.Hand

end
-- ==== Proof.InSRows.lean ====
module

public import proofs.«01_k».proof.Defs
public import proofs.«01_k».proof.Proof.InSBlocks
public import Idealize.ShloMosaic.Lib.Pipeline.ValueKit
public import Idealize.ShloMosaic.Lib.Pointwise

@[expose] public section

set_option maxRecDepth 16384

noncomputable section

namespace Cert.InSIdeal.Hand

open Cert.InSIdeal Cert.InSIdeal.Gen Cert.InputRows Idealize.ShloMosaic Idealize.ShloMosaic.TcCoe Idealize.SL.Sem

variable (m : (ℓ : Loc nD τ sig) → Buf (Elt Ideal) ℓ)

theorem emb5 (t : Fin cfg0.N) (a : Fin 32) (k : Fin 512) :
    (win0_5.blk t).view.emb (ix2 a k) = (ix2 a k : S32x512.Idx) := by
  blk_ext [idx t]

set_option maxHeartbeats 2000000 in
/-- Result 0 after the run. -/
theorem final5 (c : Dev nD) : (dats m 0 c).arrAt 5 (cfgs 0).N
    = fun i => col (m ((c : Thread nD τ).loc main_arg0)) (m ((c : Thread nD τ).loc main_arg1)) (m ((c : Thread nD τ).loc main_arg2)) 0 512 (by decide) (i 0) (i 1) := by
  refine (dats m 0 c).arrAt_eq_of_covers 5 _ (by decide +kernel) fun t hf y => ?_
  blk_simp
  rw [after0_5]
  frame_out
  idx_vars y
  pointwise [k0_pay3, k0_pay2]
  simp only [blk0, blk1, wq]
  rw [show ((View.whole main_v15_0).slice (win0_5.rect t)).emb (ix2 y0 y1) = _ from emb5 t y0 y1]
  simp only [unit512, gelu, logsig, col, proj, hat]
  rfl

theorem emb6 (t : Fin cfg0.N) (a : Fin 32) (k : Fin 512) :
    (win0_6.blk t).view.emb (ix2 a k) = (ix2 a k : S32x512.Idx) := by
  blk_ext [idx t]

set_option maxHeartbeats 2000000 in
/-- Result 1 after the run. -/
theorem final6 (c : Dev nD) : (dats m 0 c).arrAt 6 (cfgs 0).N
    = fun i => col (m ((c : Thread nD τ).loc main_arg0)) (m ((c : Thread nD τ).loc main_arg1)) (m ((c : Thread nD τ).loc main_arg2)) 512 512 (by decide) (i 0) (i 1) := by
  refine (dats m 0 c).arrAt_eq_of_covers 6 _ (by decide +kernel) fun t hf y => ?_
  blk_simp
  rw [after0_6]
  frame_out
  idx_vars y
  pointwise [k0_pay4, k0_pay2]
  simp only [blk0, blk1, wk]
  rw [show ((View.whole main_v15_1).slice (win0_6.rect t)).emb (ix2 y0 y1) = _ from emb6 t y0 y1]
  simp only [unit512, gelu, logsig, col, proj, hat]
  rfl

theorem emb7 (t : Fin cfg0.N) (a : Fin 32) (k : Fin 512) :
    (win0_7.blk t).view.emb (ix2 a k) = (ix2 a k : S32x512.Idx) := by
  blk_ext [idx t]

set_option maxHeartbeats 2000000 in
/-- Result 2 after the run. -/
theorem final7 (c : Dev nD) : (dats m 0 c).arrAt 7 (cfgs 0).N
    = fun i => col (m ((c : Thread nD τ).loc main_arg0)) (m ((c : Thread nD τ).loc main_arg1)) (m ((c : Thread nD τ).loc main_arg2)) 1024 512 (by decide) (i 0) (i 1) := by
  refine (dats m 0 c).arrAt_eq_of_covers 7 _ (by decide +kernel) fun t hf y => ?_
  blk_simp
  rw [after0_7]
  frame_out
  idx_vars y
  pointwise [k0_pay5, k0_pay2]
  simp only [blk0, blk1, wv]
  rw [show ((View.whole main_v15_2).slice (win0_7.rect t)).emb (ix2 y0 y1) = _ from emb7 t y0 y1]
  simp only [unit512, gelu, logsig, col, proj, hat]
  rfl

end Cert.InSIdeal.Hand

end
-- ==== Proof.InSGates.lean ====
module

public import proofs.«01_k».proof.Defs
public import proofs.«01_k».proof.Proof.InSBlocks
public import Idealize.ShloMosaic.Lib.Pipeline.ValueKit
public import Idealize.ShloMosaic.Lib.Pointwise

@[expose] public section

set_option maxRecDepth 16384

noncomputable section

namespace Cert.InSIdeal.Hand

open Cert.InSIdeal Cert.InSIdeal.Gen Cert.InputRows Idealize.ShloMosaic Idealize.ShloMosaic.TcCoe Idealize.SL.Sem

variable (m : (ℓ : Loc nD τ sig) → Buf (Elt Ideal) ℓ)

theorem emb8 (t : Fin cfg0.N) (a : Fin 32) (k : Fin 8) :
    (win0_8.blk t).view.emb (ix2 a k) = (ix2 a k : S32x8.Idx) := by
  blk_ext [idx t]

set_option maxHeartbeats 2000000 in
/-- Result 3 after the run. -/
theorem final8 (c : Dev nD) : (dats m 0 c).arrAt 8 (cfgs 0).N
    = fun i => logsig (col (m ((c : Thread nD τ).loc main_arg0)) (m ((c : Thread nD τ).loc main_arg1)) (m ((c : Thread nD τ).loc main_arg2)) 1536 8 (by decide) (i 0) (i 1) + m ((c : Thread nD τ).loc main_arg3) (ix2 0 (i 1))) := by
  refine (dats m 0 c).arrAt_eq_of_covers 8 _ (by decide +kernel) fun t hf y => ?_
  blk_simp
  rw [after0_8]
  frame_out
  idx_vars y
  pointwise [k0_pay1, k0_pay10, k0_pay2]
  have e3 := blk3 m c t 0 ⟨y1.val, by omega⟩ y1.isLt
  simp only [blk0, blk1, wf, e3, zero_sub]
  rw [show ((View.whole main_v15_3).slice (win0_8.rect t)).emb (ix2 y0 y1) = _ from emb8 t y0 y1]
  simp only [unit512, gelu, logsig, col, proj, hat]
  rfl

theorem emb9 (t : Fin cfg0.N) (a : Fin 32) (k : Fin 512) :
    (win0_9.blk t).view.emb (ix2 a k) = (ix2 a k : S32x512.Idx) := by
  blk_ext [idx t]

set_option maxHeartbeats 2000000 in
/-- Result 4 after the run. -/
theorem final9 (c : Dev nD) : (dats m 0 c).arrAt 9 (cfgs 0).N
    = fun i => gelu (col (m ((c : Thread nD τ).loc main_arg0)) (m ((c : Thread nD τ).loc main_arg1)) (m ((c : Thread nD τ).loc main_arg2)) 1544 512 (by decide) (i 0) (i 1)) := by
  refine (dats m 0 c).arrAt_eq_of_covers 9 _ (by decide +kernel) fun t hf y => ?_
  blk_simp
  rw [after0_9]
  frame_out
  idx_vars y
  pointwise [k0_pay8, k0_pay7, k0_pay6, k0_pay2]
  simp only [blk0, blk1, wu]
  rw [show ((View.whole main_v15_4).slice (win0_9.rect t)).emb (ix2 y0 y1) = _ from emb9 t y0 y1]
  simp only [unit512, gelu, logsig, col, proj, hat]
  rfl

theorem emb10 (t : Fin cfg0.N) (a : Fin 32) (k : Fin 512) :
    (win0_10.blk t).view.emb (ix2 a k) = (ix2 a k : S32x512.Idx) := by
  blk_ext [idx t]

set_option maxHeartbeats 2000000 in
/-- Result 5 after the run. -/
theorem final10 (c : Dev nD) : (dats m 0 c).arrAt 10 (cfgs 0).N
    = fun i => unit512 (fun j => gelu (col (m ((c : Thread nD τ).loc main_arg0)) (m ((c : Thread nD τ).loc main_arg1)) (m ((c : Thread nD τ).loc main_arg2)) 2056 512 (by decide) (i 0) j)) (fun j => m ((c : Thread nD τ).loc main_arg4) (ix2 0 j)) (i 1) := by
  refine (dats m 0 c).arrAt_eq_of_covers 10 _ (by decide +kernel) fun t hf y => ?_
  blk_simp
  rw [after0_10]
  frame_out
  idx_vars y
  pointwise [k0_pay9, k0_pay10, k0_pay2]
  simp only [blk0, blk1, blk4, wz]
  rw [show ((View.whole main_v15_5).slice (win0_10.rect t)).emb (ix2 y0 y1) = _ from emb10 t y0 y1]
  simp only [unit512, gelu, logsig, col, proj, hat]
  rfl

end Cert.InSIdeal.Hand

end
-- ==== Proof.InSRef.lean ====
module

public import proofs.«01_k».proof.Defs
public import proofs.«01_k».proof.Proof.Gen.InSRefIdeal.Run
public import proofs.«01_k».proof.Proof.InSSpec
public import Idealize.ShloMosaic.Lib.Pipeline.ValueKit
public import Idealize.ShloMosaic.Lib.Pointwise

@[expose] public section

set_option maxRecDepth 16384

noncomputable section

namespace Cert.InSRefIdeal.Hand

open Cert.InSRefIdeal Cert.InSRefIdeal.Gen Cert.InputRows Idealize.ShloMosaic Idealize.ShloMosaic.TcCoe Idealize.SL.Sem

/-! The reference's stages, each read at an index. -/

/-- The normalised rows against the whole weight. -/
def allT (x : FVec Ideal S32x1x1024 .f32) (g : FVec Ideal S1x1024 .f32) (w : FVec Ideal S1x1024x2568 .f32) : FVec Ideal S32x1x2568 .f32 :=
  Host.dotGeneral dot_S32x1x1024_S1024x2568_S32x1x2568_2_0_01_1_n_n none (mulf (mulf x (broadcastInDim S32x1x1024 ![0, 1, 2] bcast_S32x1x1_S32x1x1024_0_1_2 (Host.rsqrt (addf (Host.divf (broadcastInDim S32x1x1 ![0, 1] bcast_S32x1_S32x1x1_0_1 (Host.reduceAdd (mulf x x) (constant S_ .f32 0x00000000#32) reducesTo_S32x1x1024_S32x1_d2 h_S_)) (broadcastInDim S32x1x1 ![] bcast_S_S32x1x1 (constant S_ .f32 0x44800000#32))) (broadcastInDim S32x1x1 ![] bcast_S_S32x1x1 (constant S_ .f32 0x358637BD#32)))))) (broadcastInDim S32x1x1024 ![0, 1, 2] bcast_S1x1x1024_S32x1x1024_0_1_2 (broadcastInDim S1x1x1024 ![2] bcast_S1024_S1x1x1024_2 (shapeCast S1024 g shapeCasts_S1x1024_S1024)))) (shapeCast S1024x2568 w shapeCasts_S1x1024x2568_S1024x2568)

theorem allT_apply (x : FVec Ideal S32x1x1024 .f32) (g : FVec Ideal S1x1024 .f32) (w : FVec Ideal S1x1024x2568 .f32) (s : Fin 32) (n : Fin 2568) :
    allT x g w (ix3 s 0 n) = proj (fun k => x (ix3 s 0 k)) (fun k => g (ix2 0 k)) (fun k => w (ix3 0 k n)) := by
  unfold allT
  pointwise
  rfl

/-- A slice of 512 columns, its rows flattened. -/
def colT (off : ℕ) (hs : Shape.Slices S32x1x2568 ![0, 0, off] S32x1x512) (H : FVec Ideal S32x1x2568 .f32) : FVec Ideal S32x512 .f32 :=
  shapeCast S32x512 (extractStridedSlice S32x1x512 ![0, 0, off] H hs) shapeCasts_S32x1x512_S32x512

theorem q_eq (x : FVec Ideal S32x1x1024 .f32) (g : FVec Ideal S1x1024 .f32) (w : FVec Ideal S1x1024x2568 .f32) : colT 0 slices_S32x1x2568_S32x1x512_0_0_0 (allT x g w)
    = fun i => Cert.InSIdeal.Hand.col x g w 0 512 (by decide) (i 0) (i 1) := by
  funext i
  unfold colT
  generalize hH : allT x g w = H
  idx_vars i
  pointwise
  rw [← hH, allT_apply]
  simp only [Cert.InSIdeal.Hand.col, Nat.zero_add]

theorem k_eq (x : FVec Ideal S32x1x1024 .f32) (g : FVec Ideal S1x1024 .f32) (w : FVec Ideal S1x1024x2568 .f32) : colT 512 slices_S32x1x2568_S32x1x512_0_0_512 (allT x g w)
    = fun i => Cert.InSIdeal.Hand.col x g w 512 512 (by decide) (i 0) (i 1) := by
  funext i
  unfold colT
  generalize hH : allT x g w = H
  idx_vars i
  pointwise
  rw [← hH, allT_apply]
  rfl

theorem v_eq (x : FVec Ideal S32x1x1024 .f32) (g : FVec Ideal S1x1024 .f32) (w : FVec Ideal S1x1024x2568 .f32) : colT 1024 slices_S32x1x2568_S32x1x512_0_0_1024 (allT x g w)
    = fun i => Cert.InSIdeal.Hand.col x g w 1024 512 (by decide) (i 0) (i 1) := by
  funext i
  unfold colT
  generalize hH : allT x g w = H
  idx_vars i
  pointwise
  rw [← hH, allT_apply]
  rfl

/-- The gate's activation of a slice of 512 columns. -/
def geluT (off : ℕ) (hs : Shape.Slices S32x1x2568 ![0, 0, off] S32x1x512) (H : FVec Ideal S32x1x2568 .f32) : FVec Ideal S32x1x512 .f32 :=
  mulf (extractStridedSlice S32x1x512 ![0, 0, off] H hs) (mulf (broadcastInDim S32x1x512 ![] bcast_S_S32x1x512 (constant S_ .f32 0x3F000000#32)) (addf (broadcastInDim S32x1x512 ![] bcast_S_S32x1x512 (constant S_ .f32 0x3F800000#32)) (Host.tanh (mulf (broadcastInDim S32x1x512 ![] bcast_S_S32x1x512 (constant S_ .f32 0x3F4C422A#32)) (addf (extractStridedSlice S32x1x512 ![0, 0, off] H hs) (mulf (broadcastInDim S32x1x512 ![] bcast_S_S32x1x512 (constant S_ .f32 0x3D372713#32)) (mulf (mulf (extractStridedSlice S32x1x512 ![0, 0, off] H hs) (extractStridedSlice S32x1x512 ![0, 0, off] H hs)) (extractStridedSlice S32x1x512 ![0, 0, off] H hs))))))))

theorem uT_apply (H : FVec Ideal S32x1x2568 .f32) (s : Fin 32) (j : Fin 512) :
    geluT 1544 slices_S32x1x2568_S32x1x512_0_0_1544 H (ix3 s 0 j) = gelu (H (ix3 s 0 ⟨1544 + j.val, by omega⟩)) := by
  unfold geluT
  pointwise
  simp only [gelu]

theorem zT_apply (H : FVec Ideal S32x1x2568 .f32) (s : Fin 32) (j : Fin 512) :
    geluT 2056 slices_S32x1x2568_S32x1x512_0_0_2056 H (ix3 s 0 j) = gelu (H (ix3 s 0 ⟨2056 + j.val, by omega⟩)) := by
  unfold geluT
  pointwise
  simp only [gelu]

theorem flat_apply (Y : FVec Ideal S32x1x512 .f32) (ρ : Fin 32) (j : Fin 512) :
    shapeCast S32x512 Y shapeCasts_S32x1x512_S32x512 (ix2 ρ j) = Y (ix3 ρ 0 j) := by
  pointwise

theorem u_eq (x : FVec Ideal S32x1x1024 .f32) (g : FVec Ideal S1x1024 .f32) (w : FVec Ideal S1x1024x2568 .f32) : shapeCast S32x512 (geluT 1544 slices_S32x1x2568_S32x1x512_0_0_1544 (allT x g w)) shapeCasts_S32x1x512_S32x512
    = fun i => gelu (Cert.InSIdeal.Hand.col x g w 1544 512 (by decide) (i 0) (i 1)) := by
  funext i
  idx_vars i
  rw [flat_apply, uT_apply, allT_apply]
  rfl

/-- The normalised second half of the gate. -/
def gateT (gz : FVec Ideal S1x512 .f32) (Y : FVec Ideal S32x1x512 .f32) : FVec Ideal S32x1x512 .f32 :=
  mulf (mulf Y (broadcastInDim S32x1x512 ![0, 1, 2] bcast_S32x1x1_S32x1x512_0_1_2 (Host.rsqrt (addf (Host.divf (broadcastInDim S32x1x1 ![0, 1] bcast_S32x1_S32x1x1_0_1 (Host.reduceAdd (mulf Y Y) (constant S_ .f32 0x00000000#32) reducesTo_S32x1x512_S32x1_d2 h_S_)) (broadcastInDim S32x1x1 ![] bcast_S_S32x1x1 (constant S_ .f32 0x44000000#32))) (broadcastInDim S32x1x1 ![] bcast_S_S32x1x1 (constant S_ .f32 0x358637BD#32)))))) (broadcastInDim S32x1x512 ![0, 1, 2] bcast_S1x1x512_S32x1x512_0_1_2 (broadcastInDim S1x1x512 ![2] bcast_S512_S1x1x512_2 (shapeCast S512 gz shapeCasts_S1x512_S512)))

theorem gateT_apply (gz : FVec Ideal S1x512 .f32) (Y : FVec Ideal S32x1x512 .f32) (s : Fin 32) (j : Fin 512) :
    gateT gz Y (ix3 s 0 j) = unit512 (fun j => Y (ix3 s 0 j)) (fun j => gz (ix2 0 j)) j := by
  unfold gateT
  pointwise
  simp only [unit512]

theorem z_eq (x : FVec Ideal S32x1x1024 .f32) (g : FVec Ideal S1x1024 .f32) (w : FVec Ideal S1x1024x2568 .f32) (gz : FVec Ideal S1x512 .f32) : shapeCast S32x512 (gateT gz (geluT 2056 slices_S32x1x2568_S32x1x512_0_0_2056 (allT x g w))) shapeCasts_S32x1x512_S32x512
    = fun i => unit512 (fun j => gelu (Cert.InSIdeal.Hand.col x g w 2056 512 (by decide) (i 0) j)) (fun j => gz (ix2 0 j)) (i 1) := by
  funext i
  idx_vars i
  rw [flat_apply, gateT_apply]
  simp only [zT_apply, allT_apply]
  rfl

/-- The forget gate's logit. -/
def logitT (bf : FVec Ideal S1x8 .f32) (H : FVec Ideal S32x1x2568 .f32) : FVec Ideal S32x1x8 .f32 :=
  addf (extractStridedSlice S32x1x8 ![0, 0, 1536] H slices_S32x1x2568_S32x1x8_0_0_1536) (broadcastInDim S32x1x8 ![0, 1, 2] bcast_S1x1x8_S32x1x8_0_1_2 (broadcastInDim S1x1x8 ![2] bcast_S8_S1x1x8_2 (shapeCast S8 bf shapeCasts_S1x8_S8)))

theorem logitT_apply (bf : FVec Ideal S1x8 .f32) (H : FVec Ideal S32x1x2568 .f32) (s : Fin 32) (h : Fin 8) :
    logitT bf H (ix3 s 0 h) = H (ix3 s 0 ⟨1536 + h.val, by omega⟩) + bf (ix2 0 h) := by
  unfold logitT
  pointwise

/-- The logarithm of the logistic function as the reference writes it. -/
def lsT (A : FVec Ideal S32x1x8 .f32) : FVec Ideal S32x1x8 .f32 :=
  Host.negf (select (cmpf .une (subf (Host.negf A) (broadcastInDim S32x1x8 ![] bcast_S_S32x1x8 (constant S_ .f32 0x00000000#32))) (subf (Host.negf A) (broadcastInDim S32x1x8 ![] bcast_S_S32x1x8 (constant S_ .f32 0x00000000#32)))) (addf (Host.negf A) (broadcastInDim S32x1x8 ![] bcast_S_S32x1x8 (constant S_ .f32 0x00000000#32))) (addf (maximumf (Host.negf A) (broadcastInDim S32x1x8 ![] bcast_S_S32x1x8 (constant S_ .f32 0x00000000#32))) (Host.log1p (Host.exp (Host.negf (Host.absf (subf (Host.negf A) (broadcastInDim S32x1x8 ![] bcast_S_S32x1x8 (constant S_ .f32 0x00000000#32)))))))))

theorem lsT_apply (A : FVec Ideal S32x1x8 .f32) (s : Fin 32) (h : Fin 8) : lsT A (ix3 s 0 h) = logsig (A (ix3 s 0 h)) := by
  unfold lsT
  generalize hA : A (ix3 s 0 h) = a
  pointwise
  simp only [hA]
  rw [if_neg (fun h => h rfl)]
  exact logsig_eq a

theorem flat8_apply (Y : FVec Ideal S32x1x8 .f32) (ρ : Fin 32) (h : Fin 8) :
    shapeCast S32x8 Y shapeCasts_S32x1x8_S32x8 (ix2 ρ h) = Y (ix3 ρ 0 h) := by
  pointwise

theorem lf_eq (x : FVec Ideal S32x1x1024 .f32) (g : FVec Ideal S1x1024 .f32) (w : FVec Ideal S1x1024x2568 .f32) (bf : FVec Ideal S1x8 .f32) : shapeCast S32x8 (lsT (logitT bf (allT x g w))) shapeCasts_S32x1x8_S32x8
    = fun i => logsig (Cert.InSIdeal.Hand.col x g w 1536 8 (by decide) (i 0) (i 1) + bf (ix2 0 (i 1))) := by
  funext i
  idx_vars i
  rw [flat8_apply, lsT_apply, logitT_apply, allT_apply]
  rfl

/-! The generated results are these stages. -/

theorem res_main_v70_eq (m : (ℓ : Loc nD τ sig) → Buf (Elt Ideal) ℓ) (c : Dev nD) : Cert.InSRefIdeal.Value.res_main_v70 m c
    = shapeCast S32x8 (lsT (logitT (m ((c : Thread nD τ).loc main_arg3)) (allT (m ((c : Thread nD τ).loc main_arg0)) (m ((c : Thread nD τ).loc main_arg1)) (m ((c : Thread nD τ).loc main_arg2))))) shapeCasts_S32x1x8_S32x8 := by
  unfold Cert.InSRefIdeal.Value.res_main_v70
  rfl

theorem res_main_v71_eq (m : (ℓ : Loc nD τ sig) → Buf (Elt Ideal) ℓ) (c : Dev nD) : Cert.InSRefIdeal.Value.res_main_v71 m c
    = shapeCast S32x512 (geluT 1544 slices_S32x1x2568_S32x1x512_0_0_1544 (allT (m ((c : Thread nD τ).loc main_arg0)) (m ((c : Thread nD τ).loc main_arg1)) (m ((c : Thread nD τ).loc main_arg2)))) shapeCasts_S32x1x512_S32x512 := by
  unfold Cert.InSRefIdeal.Value.res_main_v71
  rfl

theorem res_main_v72_eq (m : (ℓ : Loc nD τ sig) → Buf (Elt Ideal) ℓ) (c : Dev nD) : Cert.InSRefIdeal.Value.res_main_v72 m c
    = shapeCast S32x512 (gateT (m ((c : Thread nD τ).loc main_arg4)) (geluT 2056 slices_S32x1x2568_S32x1x512_0_0_2056 (allT (m ((c : Thread nD τ).loc main_arg0)) (m ((c : Thread nD τ).loc main_arg1)) (m ((c : Thread nD τ).loc main_arg2))))) shapeCasts_S32x1x512_S32x512 := by
  unfold Cert.InSRefIdeal.Value.res_main_v72
  rfl

end Cert.InSRefIdeal.Hand

end
-- ==== Proof.InS.lean ====
module

public import proofs.«01_k».proof.Defs
public import proofs.«01_k».proof.Proof.InSRows
public import proofs.«01_k».proof.Proof.InSGates
public import proofs.«01_k».proof.Proof.InSRef
public import proofs.«01_k».proof.Proof.Gen.InSIdeal.Value
public import proofs.«01_k».proof.Proof.Gen.InSRefIdeal.Run
public import Idealize.ShloMosaic.Lib.Pipeline.ValueKit
public import Idealize.ShloMosaic.Lib.Pointwise

@[expose] public section

set_option maxRecDepth 16384

noncomputable section

namespace Cert.InSIdeal.Hand

open Cert.InSIdeal Cert.InSIdeal.Gen Idealize.ShloMosaic Idealize.ShloMosaic.TcCoe Idealize.SL.Sem

/-- Both programs project the same normalised sample rows. -/
theorem algebraic : Cert.algebraic_InSIdeal_InSRefIdeal (hInSIdeal := Cert.InSIdeal.Gen.facts) (hInSRefIdeal := Cert.InSRefIdeal.Gen.facts) := by
  intro m g m' g' _ hagree
  refine ⟨_, _, _, _, _, _, Cert.InSIdeal.Value.run_blocks m g, (θ_run _ _ _).mono (fun r h c => ?_) (Cert.InSRefIdeal.Value.run m' g')⟩
  obtain ⟨h0, h1, h2, h3, h4, h5, ha⟩ := h c
  obtain ⟨a0, a1, a2, a3, a4⟩ := hagree c
  refine ⟨h0.trans ?_, h1.trans ?_, h2.trans ?_, h3.trans ?_, h4.trans ?_, h5.trans ?_, ?_⟩
  · rw [a0, a1, a2]
    exact (Cert.InSRefIdeal.Hand.q_eq _ _ _).trans (final5 m c).symm
  · rw [a0, a1, a2]
    exact (Cert.InSRefIdeal.Hand.k_eq _ _ _).trans (final6 m c).symm
  · rw [a0, a1, a2]
    exact (Cert.InSRefIdeal.Hand.v_eq _ _ _).trans (final7 m c).symm
  · rw [Cert.InSRefIdeal.Hand.res_main_v70_eq, a0, a1, a2, a3]
    exact (Cert.InSRefIdeal.Hand.lf_eq _ _ _ _).trans (final8 m c).symm
  · rw [Cert.InSRefIdeal.Hand.res_main_v71_eq, a0, a1, a2]
    exact (Cert.InSRefIdeal.Hand.u_eq _ _ _).trans (final9 m c).symm
  · rw [Cert.InSRefIdeal.Hand.res_main_v72_eq, a0, a1, a2, a4]
    exact (Cert.InSRefIdeal.Hand.z_eq _ _ _ _).trans (final10 m c).symm
  · exact ha

end Cert.InSIdeal.Hand

end
-- ==== Proof.InPSpec.lean ====
module

public import proofs.«01_k».proof.Defs
public import proofs.«01_k».proof.Proof.Gen.InPIdeal.Skeleton
public import proofs.«01_k».proof.Proof.InputRows
public import Idealize.ShloMosaic.Lib.Pipeline.ValueKit
public import Idealize.ShloMosaic.Lib.Pointwise

@[expose] public section

set_option maxRecDepth 16384

noncomputable section

namespace Cert.InPIdeal.Hand

open Cert.InPIdeal Cert.InPIdeal.Gen Cert.InputRows Idealize.ShloMosaic Idealize.ShloMosaic.TcCoe Idealize.SL.Sem

/-- One entry of a projected prompt row: row `r` against column `off + j` of the whole weight. -/
def col (x : S16x2048x1024.Idx → EReal) (g : S1x1024.Idx → EReal) (w : S1x1024x2568.Idx → EReal) (off W : ℕ) (h : off + W ≤ 2568) (r : Fin 32768) (j : Fin W) : EReal :=
  proj (fun k => x (ix3 ⟨r.val / 2048, by omega⟩ ⟨r.val % 2048, by omega⟩ k)) (fun k => g (ix2 0 k)) (fun k => w (ix3 0 k ⟨off + j.val, by omega⟩))

/-- The logarithm of the forget gate of row `r` and head `h`. -/
def lf (x : S16x2048x1024.Idx → EReal) (g : S1x1024.Idx → EReal) (w : S1x1024x2568.Idx → EReal) (bf : S1x8.Idx → EReal) (r : Fin 32768) (h : Fin 8) : EReal :=
  logsig (col x g w 1536 8 (by decide) r h + bf (ix2 0 h))

/-- Its running sum along the sequence that row `r` is in. -/
def cum (x : S16x2048x1024.Idx → EReal) (g : S1x1024.Idx → EReal) (w : S1x1024x2568.Idx → EReal) (bf : S1x8.Idx → EReal) (r : Fin 32768) (h : Fin 8) : EReal :=
  ∑ j : Fin 2048, if j.val ≤ r.val % 2048 then lf x g w bf ⟨r.val / 2048 * 2048 + j.val, by omega⟩ h else 0

/-- One when row `j` of a tile is not after row `i`. -/
def tri (j i : Fin 512) : EReal := if j.val ≤ i.val then 1 else 0

end Cert.InPIdeal.Hand

end
-- ==== Proof.InPBlocks.lean ====
module

public import proofs.«01_k».proof.Defs
public import proofs.«01_k».proof.Proof.Gen.InPIdeal.Value
public import proofs.«01_k».proof.Proof.InPSpec
public import Idealize.ShloMosaic.Lib.StableHlo.ReadAt
public import Idealize.ShloMosaic.Lib.Pipeline.ValueKit
public import Idealize.ShloMosaic.Lib.Pointwise

@[expose] public section

set_option maxRecDepth 16384

noncomputable section

namespace Cert.InPIdeal.Hand

open Cert.InPIdeal Cert.InPIdeal.Gen Cert.InputRows Idealize.ShloMosaic Idealize.ShloMosaic.TcCoe Idealize.SL.Sem

variable (m : (ℓ : Loc nD τ sig) → Buf (Elt Ideal) ℓ)

/-- The prompt rows, as the region finds them. -/
theorem v7 (c : Dev nD) (a : Fin 32768) (k : Fin 1024) : V m c main_v7 (ix2 a k)
    = m ((c : Thread nD τ).loc main_arg0) (ix3 ⟨a.val / 2048, by omega⟩ ⟨a.val % 2048, by omega⟩ k) := by
  simp only [V, hostOps0, hostOps0_1, hostOps0_2, hostOps0_3, hostOps0_4, List.flatten_cons, List.flatten_nil, List.append_nil, List.cons_append, List.nil_append]
  after_reads_at

/-- The norm's weight, as the region finds it. -/
theorem v9 (c : Dev nD) (z : Fin 1) (k : Fin 1024) : V m c main_v9 (ix2 z k)
    = m ((c : Thread nD τ).loc main_arg1) (ix2 0 k) := by
  simp only [V, hostOps0, hostOps0_1, hostOps0_2, hostOps0_3, hostOps0_4, List.flatten_cons, List.flatten_nil, List.append_nil, List.cons_append, List.nil_append]
  after_reads_at

/-- The gate norm's weight, as the region finds it. -/
theorem v18 (c : Dev nD) (z : Fin 1) (k : Fin 512) : V m c main_v18 (ix2 z k)
    = m ((c : Thread nD τ).loc main_arg4) (ix2 0 k) := by
  simp only [V, hostOps0, hostOps0_1, hostOps0_2, hostOps0_3, hostOps0_4, List.flatten_cons, List.flatten_nil, List.append_nil, List.cons_append, List.nil_append]
  after_reads_at

/-- The eight forget biases, padded to 128 lanes. -/
theorem v6 (c : Dev nD) (z : Fin 1) (k : Fin 128) (h : k.val < 8) : V m c main_v6 (ix2 z k)
    = m ((c : Thread nD τ).loc main_arg3) (ix2 0 ⟨k.val, h⟩) := by
  simp only [V, hostOps0, hostOps0_1, hostOps0_2, hostOps0_3, hostOps0_4, List.flatten_cons, List.flatten_nil, List.append_nil, List.cons_append, List.nil_append]
  after_reads_at
  rw [dif_pos h]

/-- The rearranged weight's columns up to 1536 are the weight's. -/
theorem v16a (c : Dev nD) (k : Fin 1024) (n : Fin 2688) (h : n.val < 1536) : V m c main_v16 (ix2 k n)
    = m ((c : Thread nD τ).loc main_arg2) (ix3 0 k ⟨n.val, by omega⟩) := by
  simp only [V, hostOps0, hostOps0_1, hostOps0_2, hostOps0_3, hostOps0_4, List.flatten_cons, List.flatten_nil, List.append_nil, List.cons_append, List.nil_append]
  after_reads_at
  rw [dif_pos h]
  after_reads_at

/-- The rearranged weight's next 1024 columns are the weight's, eight further on. -/
theorem v16b (c : Dev nD) (k : Fin 1024) (n : Fin 2688) (h : 1536 ≤ n.val) (h2 : n.val < 2560) : V m c main_v16 (ix2 k n)
    = m ((c : Thread nD τ).loc main_arg2) (ix3 0 k ⟨1544 + (n.val - 1536), by omega⟩) := by
  simp only [V, hostOps0, hostOps0_1, hostOps0_2, hostOps0_3, hostOps0_4, List.flatten_cons, List.flatten_nil, List.append_nil, List.cons_append, List.nil_append]
  after_reads_at
  rw [dif_neg (by omega), dif_pos (by omega)]
  after_reads_at

/-- The rearranged weight's last columns hold the eight forget columns. -/
theorem v16c (c : Dev nD) (k : Fin 1024) (n : Fin 2688) (h : 2560 ≤ n.val) (h2 : n.val < 2568) : V m c main_v16 (ix2 k n)
    = m ((c : Thread nD τ).loc main_arg2) (ix3 0 k ⟨1536 + (n.val - 1536 - 1024), by omega⟩) := by
  simp only [V, hostOps0, hostOps0_1, hostOps0_2, hostOps0_3, hostOps0_4, List.flatten_cons, List.flatten_nil, List.append_nil, List.cons_append, List.nil_append]
  after_reads_at
  rw [dif_neg (by omega), dif_neg (by omega)]
  after_reads_at
  rw [dif_pos (by omega)]

/-- The triangle of ones that sums the rows of a tile up to and including each. -/
theorem v3 (c : Dev nD) (j i : Fin 512) : V m c main_v3 (ix2 j i) = tri j i := by
  simp only [V, hostOps0, hostOps0_1, hostOps0_2, hostOps0_3, hostOps0_4, List.flatten_cons, List.flatten_nil, List.append_nil, List.cons_append, List.nil_append]
  after_reads_at
  unfold tri
  rw [Idealize.ShloMosaic.WordCmp.cmpi_sle_ofNat (by omega) (by omega)]
  split
  · rename_i h
    rw [decide_eq_true h]
    show (((1 : ℕ) : ℝ) : EReal) = 1
    norm_num
  · rename_i h
    rw [decide_eq_false h]
    show (((0 : ℕ) : ℝ) : EReal) = 0
    norm_num

/-- The index maps of the windows: tile `t` holds rows `512 t` and on. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0]
    ∧ win0_6.index t = ![t.val, 0] ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![0, t.val] :=
  (by decide +kernel : ∀ t : Fin grid0.N, _)

theorem tlt (t : Fin cfg0.N) : t.val < 64 := lt_of_lt_of_eq t.isLt (by decide +kernel : cfg0.N = 64)

/-- The row of the prompt that a tile's row `a` is. -/
def row (t : Fin cfg0.N) (a : Fin 512) : Fin 32768 := ⟨t.val * 512 + a.val, by have := tlt t; omega⟩

theorem blk0 (c : Dev nD) (t : Fin cfg0.N) (a : Fin 512) (k : Fin 1024) : iblk m c 0 t (ix2 a k)
    = m ((c : Thread nD τ).loc main_arg0) (ix3 ⟨(row t a).val / 2048, by omega⟩ ⟨(row t a).val % 2048, by omega⟩ k) :=
  (by blk_ext [iblk, idx t] : iblk m c 0 t (ix2 a k) = V m c main_v7 (ix2 ⟨t.val * 512 + a.val, by have := tlt t; omega⟩ k)).trans (v7 m c _ k)

theorem blk1 (c : Dev nD) (t : Fin cfg0.N) (z : Fin 1) (k : Fin 1024) : iblk m c 1 t (ix2 z k) = m ((c : Thread nD τ).loc main_arg1) (ix2 0 k) :=
  (by blk_ext [iblk, idx t] : iblk m c 1 t (ix2 z k) = V m c main_v9 (ix2 z k)).trans (v9 m c z k)

theorem blk2 (c : Dev nD) (t : Fin cfg0.N) (k : Fin 1024) (n : Fin 2688) : iblk m c 2 t (ix2 k n) = V m c main_v16 (ix2 k n) := by
  blk_ext [iblk, idx t]

theorem blk3 (c : Dev nD) (t : Fin cfg0.N) (z : Fin 1) (k : Fin 128) (h : k.val < 8) : iblk m c 3 t (ix2 z k) = m ((c : Thread nD τ).loc main_arg3) (ix2 0 ⟨k.val, h⟩) :=
  (by blk_ext [iblk, idx t] : iblk m c 3 t (ix2 z k) = V m c main_v6 (ix2 z k)).trans (v6 m c z k h)

theorem blk4 (c : Dev nD) (t : Fin cfg0.N) (z : Fin 1) (k : Fin 512) : iblk m c 4 t (ix2 z k) = m ((c : Thread nD τ).loc main_arg4) (ix2 0 k) :=
  (by blk_ext [iblk, idx t] : iblk m c 4 t (ix2 z k) = V m c main_v18 (ix2 z k)).trans (v18 m c z k)

theorem blk5 (c : Dev nD) (t : Fin cfg0.N) (j i : Fin 512) : iblk m c 5 t (ix2 j i) = tri j i :=
  (by blk_ext [iblk, idx t] : iblk m c 5 t (ix2 j i) = V m c main_v3 (ix2 j i)).trans (v3 m c j i)

theorem ix3_congr {a b c : ℕ} {i i' : Fin a} {j j' : Fin b} {k k' : Fin c} (h : i = i') (h' : j = j') (h'' : k = k') : ix3 i j k = ix3 i' j' k' := by
  rw [h, h', h'']

theorem wq (c : Dev nD) (t : Fin cfg0.N) (k : Fin 1024) (j : Fin 512) (h : j.val < 2688) : iblk m c 2 t (ix2 k ⟨j.val, h⟩)
    = m ((c : Thread nD τ).loc main_arg2) (ix3 0 k ⟨0 + j.val, by omega⟩) := by
  exact (blk2 m c t k _).trans ((v16a m c k _ (by show j.val < 1536; omega)).trans (congrArg _ (ix3_congr rfl rfl (Fin.ext (by show j.val = 0 + j.val; omega)))))

theorem wk (c : Dev nD) (t : Fin cfg0.N) (k : Fin 1024) (j : Fin 512) (h : 512 + j.val < 2688) : iblk m c 2 t (ix2 k ⟨512 + j.val, h⟩)
    = m ((c : Thread nD τ).loc main_arg2) (ix3 0 k ⟨512 + j.val, by omega⟩) := by
  rw [blk2, v16a m c _ _ (by show 512 + j.val < 1536; omega)]

theorem wv (c : Dev nD) (t : Fin cfg0.N) (k : Fin 1024) (j : Fin 512) (h : 1024 + j.val < 2688) : iblk m c 2 t (ix2 k ⟨1024 + j.val, h⟩)
    = m ((c : Thread nD τ).loc main_arg2) (ix3 0 k ⟨1024 + j.val, by omega⟩) := by
  rw [blk2, v16a m c _ _ (by show 1024 + j.val < 1536; omega)]

theorem wu (c : Dev nD) (t : Fin cfg0.N) (k : Fin 1024) (j : Fin 512) (h : 1536 + j.val < 2688) : iblk m c 2 t (ix2 k ⟨1536 + j.val, h⟩)
    = m ((c : Thread nD τ).loc main_arg2) (ix3 0 k ⟨1544 + j.val, by omega⟩) := by
  rw [blk2, v16b m c _ _ (by show 1536 ≤ 1536 + j.val; omega) (by show 1536 + j.val < 2560; omega)]
  exact congrArg _ (ix3_congr rfl rfl (Fin.ext (by show 1544 + (1536 + j.val - 1536) = 1544 + j.val; omega)))

theorem wz (c : Dev nD) (t : Fin cfg0.N) (k : Fin 1024) (j : Fin 512) (h : 2048 + j.val < 2688) : iblk m c 2 t (ix2 k ⟨2048 + j.val, h⟩)
    = m ((c : Thread nD τ).loc main_arg2) (ix3 0 k ⟨2056 + j.val, by omega⟩) := by
  rw [blk2, v16b m c _ _ (by show 1536 ≤ 2048 + j.val; omega) (by show 2048 + j.val < 2560; omega)]
  exact congrArg _ (ix3_congr rfl rfl (Fin.ext (by show 1544 + (2048 + j.val - 1536) = 2056 + j.val; omega)))

theorem wf (c : Dev nD) (t : Fin cfg0.N) (k : Fin 1024) (j : Fin 8) (h : 2560 + j.val < 2688) : iblk m c 2 t (ix2 k ⟨2560 + j.val, h⟩)
    = m ((c : Thread nD τ).loc main_arg2) (ix3 0 k ⟨1536 + j.val, by omega⟩) := by
  rw [blk2, v16c m c _ _ (by show 2560 ≤ 2560 + j.val; omega) (by show 2560 + j.val < 2568; omega)]
  exact congrArg _ (ix3_congr rfl rfl (Fin.ext (by show 1536 + (2560 + j.val - 1536 - 1024) = 1536 + j.val; omega)))

end Cert.InPIdeal.Hand

end
-- ==== Proof.InPQuery.lean ====
module

public import proofs.«01_k».proof.Defs
public import proofs.«01_k».proof.Proof.InPBlocks
public import Idealize.ShloMosaic.Lib.Pipeline.ValueKit
public import Idealize.ShloMosaic.Lib.Pointwise

@[expose] public section

set_option maxRecDepth 16384

noncomputable section

namespace Cert.InPIdeal.Hand

open Cert.InPIdeal Cert.InPIdeal.Gen Cert.InputRows Idealize.ShloMosaic Idealize.ShloMosaic.TcCoe Idealize.SL.Sem

variable (m : (ℓ : Loc nD τ sig) → Buf (Elt Ideal) ℓ)

theorem emb6 (t : Fin cfg0.N) (a : Fin 512) (k : Fin 512) :
    (win0_6.blk t).view.emb (ix2 a k) = (ix2 (row t a) k : S32768x512.Idx) :=
  (by blk_ext [idx t] : (win0_6.blk t).view.emb (ix2 a k) = (ix2 ⟨t.val * 512 + a.val, by have := tlt t; omega⟩ k : S32768x512.Idx))

set_option maxHeartbeats 4000000 in
/-- Result 0 after the run. -/
theorem final6 (c : Dev nD) : (dats m 0 c).arrAt 6 (cfgs 0).N
    = fun i => col (m ((c : Thread nD τ).loc main_arg0)) (m ((c : Thread nD τ).loc main_arg1)) (m ((c : Thread nD τ).loc main_arg2)) 0 512 (by decide) (i 0) (i 1) * Ideal.ofBits .f32 0x3E000000#32 := by
  refine (dats m 0 c).arrAt_eq_of_covers 6 _ (by decide +kernel) fun t hf y => ?_
  blk_simp
  rw [after0_6]
  by_cases h0 : t.val % 4 = 0
  · rw [outsAt0_A m c t h0]
    frame_out
    idx_vars y
    pointwise [k0_pay14, k0_pay5, k0_pay4]
    simp only [blk0, blk1, wq]
    rw [show ((View.whole main_v19_0).slice (win0_6.rect t)).emb (ix2 y0 y1) = _ from emb6 t y0 y1]
    simp only [unit512, gelu, lf, logsig, col, proj, hat]
    rfl
  · rw [outsAt0_B m c t h0]
    frame_out
    idx_vars y
    pointwise [k0_pay14, k0_pay5, k0_pay4]
    simp only [blk0, blk1, wq]
    rw [show ((View.whole main_v19_0).slice (win0_6.rect t)).emb (ix2 y0 y1) = _ from emb6 t y0 y1]
    simp only [unit512, gelu, lf, logsig, col, proj, hat]
    rfl

end Cert.InPIdeal.Hand

end
-- ==== Proof.InPRows.lean ====
module

public import proofs.«01_k».proof.Defs
public import proofs.«01_k».proof.Proof.InPBlocks
public import Idealize.ShloMosaic.Lib.Pipeline.ValueKit
public import Idealize.ShloMosaic.Lib.Pointwise

@[expose] public section

set_option maxRecDepth 16384

noncomputable section

namespace Cert.InPIdeal.Hand

open Cert.InPIdeal Cert.InPIdeal.Gen Cert.InputRows Idealize.ShloMosaic Idealize.ShloMosaic.TcCoe Idealize.SL.Sem

variable (m : (ℓ : Loc nD τ sig) → Buf (Elt Ideal) ℓ)

theorem emb7 (t : Fin cfg0.N) (a : Fin 512) (k : Fin 512) :
    (win0_7.blk t).view.emb (ix2 a k) = (ix2 (row t a) k : S32768x512.Idx) :=
  (by blk_ext [idx t] : (win0_7.blk t).view.emb (ix2 a k) = (ix2 ⟨t.val * 512 + a.val, by have := tlt t; omega⟩ k : S32768x512.Idx))

set_option maxHeartbeats 4000000 in
/-- Result 1 after the run. -/
theorem final7 (c : Dev nD) : (dats m 0 c).arrAt 7 (cfgs 0).N
    = fun i => col (m ((c : Thread nD τ).loc main_arg0)) (m ((c : Thread nD τ).loc main_arg1)) (m ((c : Thread nD τ).loc main_arg2)) 512 512 (by decide) (i 0) (i 1) := by
  refine (dats m 0 c).arrAt_eq_of_covers 7 _ (by decide +kernel) fun t hf y => ?_
  blk_simp
  rw [after0_7]
  by_cases h0 : t.val % 4 = 0
  · rw [outsAt0_A m c t h0]
    frame_out
    idx_vars y
    pointwise [k0_pay6, k0_pay4]
    simp only [blk0, blk1, wk]
    rw [show ((View.whole main_v19_1).slice (win0_7.rect t)).emb (ix2 y0 y1) = _ from emb7 t y0 y1]
    simp only [unit512, gelu, lf, logsig, col, proj, hat]
    rfl
  · rw [outsAt0_B m c t h0]
    frame_out
    idx_vars y
    pointwise [k0_pay6, k0_pay4]
    simp only [blk0, blk1, wk]
    rw [show ((View.whole main_v19_1).slice (win0_7.rect t)).emb (ix2 y0 y1) = _ from emb7 t y0 y1]
    simp only [unit512, gelu, lf, logsig, col, proj, hat]
    rfl

theorem emb8 (t : Fin cfg0.N) (a : Fin 512) (k : Fin 512) :
    (win0_8.blk t).view.emb (ix2 a k) = (ix2 (row t a) k : S32768x512.Idx) :=
  (by blk_ext [idx t] : (win0_8.blk t).view.emb (ix2 a k) = (ix2 ⟨t.val * 512 + a.val, by have := tlt t; omega⟩ k : S32768x512.Idx))

set_option maxHeartbeats 4000000 in
/-- Result 2 after the run. -/
theorem final8 (c : Dev nD) : (dats m 0 c).arrAt 8 (cfgs 0).N
    = fun i => col (m ((c : Thread nD τ).loc main_arg0)) (m ((c : Thread nD τ).loc main_arg1)) (m ((c : Thread nD τ).loc main_arg2)) 1024 512 (by decide) (i 0) (i 1) := by
  refine (dats m 0 c).arrAt_eq_of_covers 8 _ (by decide +kernel) fun t hf y => ?_
  blk_simp
  rw [after0_8]
  by_cases h0 : t.val % 4 = 0
  · rw [outsAt0_A m c t h0]
    frame_out
    idx_vars y
    pointwise [k0_pay7, k0_pay4]
    simp only [blk0, blk1, wv]
    rw [show ((View.whole main_v19_2).slice (win0_8.rect t)).emb (ix2 y0 y1) = _ from emb8 t y0 y1]
    simp only [unit512, gelu, lf, logsig, col, proj, hat]
    rfl
  · rw [outsAt0_B m c t h0]
    frame_out
    idx_vars y
    pointwise [k0_pay7, k0_pay4]
    simp only [blk0, blk1, wv]
    rw [show ((View.whole main_v19_2).slice (win0_8.rect t)).emb (ix2 y0 y1) = _ from emb8 t y0 y1]
    simp only [unit512, gelu, lf, logsig, col, proj, hat]
    rfl

end Cert.InPIdeal.Hand

end
-- ==== Proof.InPCopies.lean ====
module

public import proofs.«01_k».proof.Defs
public import proofs.«01_k».proof.Proof.InPBlocks
public import Idealize.ShloMosaic.Lib.Pipeline.ValueKit
public import Idealize.ShloMosaic.Lib.Pointwise

@[expose] public section

set_option maxRecDepth 16384

noncomputable section

namespace Cert.InPIdeal.Hand

open Cert.InPIdeal Cert.InPIdeal.Gen Cert.InputRows Idealize.ShloMosaic Idealize.ShloMosaic.TcCoe Idealize.SL.Sem

variable (m : (ℓ : Loc nD τ sig) → Buf (Elt Ideal) ℓ)

theorem emb9 (t : Fin cfg0.N) (a : Fin 512) (k : Fin 512) :
    (win0_9.blk t).view.emb (ix2 a k) = (ix2 (row t a) k : S32768x512.Idx) :=
  (by blk_ext [idx t] : (win0_9.blk t).view.emb (ix2 a k) = (ix2 ⟨t.val * 512 + a.val, by have := tlt t; omega⟩ k : S32768x512.Idx))

set_option maxHeartbeats 4000000 in
/-- Result 3 after the run. -/
theorem final9 (c : Dev nD) : (dats m 0 c).arrAt 9 (cfgs 0).N
    = fun i => col (m ((c : Thread nD τ).loc main_arg0)) (m ((c : Thread nD τ).loc main_arg1)) (m ((c : Thread nD τ).loc main_arg2)) 512 512 (by decide) (i 0) (i 1) := by
  refine (dats m 0 c).arrAt_eq_of_covers 9 _ (by decide +kernel) fun t hf y => ?_
  blk_simp
  rw [after0_9]
  by_cases h0 : t.val % 4 = 0
  · rw [outsAt0_A m c t h0]
    frame_out
    idx_vars y
    pointwise [k0_pay15, k0_pay6, k0_pay4]
    simp only [blk0, blk1, wk]
    rw [show ((View.whole main_v19_3).slice (win0_9.rect t)).emb (ix2 y0 y1) = _ from emb9 t y0 y1]
    simp only [unit512, gelu, lf, logsig, col, proj, hat]
    rfl
  · rw [outsAt0_B m c t h0]
    frame_out
    idx_vars y
    pointwise [k0_pay15, k0_pay6, k0_pay4]
    simp only [blk0, blk1, wk]
    rw [show ((View.whole main_v19_3).slice (win0_9.rect t)).emb (ix2 y0 y1) = _ from emb9 t y0 y1]
    simp only [unit512, gelu, lf, logsig, col, proj, hat]
    rfl

theorem emb10 (t : Fin cfg0.N) (a : Fin 512) (k : Fin 512) :
    (win0_10.blk t).view.emb (ix2 a k) = (ix2 (row t a) k : S32768x512.Idx) :=
  (by blk_ext [idx t] : (win0_10.blk t).view.emb (ix2 a k) = (ix2 ⟨t.val * 512 + a.val, by have := tlt t; omega⟩ k : S32768x512.Idx))

set_option maxHeartbeats 4000000 in
/-- Result 4 after the run. -/
theorem final10 (c : Dev nD) : (dats m 0 c).arrAt 10 (cfgs 0).N
    = fun i => col (m ((c : Thread nD τ).loc main_arg0)) (m ((c : Thread nD τ).loc main_arg1)) (m ((c : Thread nD τ).loc main_arg2)) 1024 512 (by decide) (i 0) (i 1) := by
  refine (dats m 0 c).arrAt_eq_of_covers 10 _ (by decide +kernel) fun t hf y => ?_
  blk_simp
  rw [after0_10]
  by_cases h0 : t.val % 4 = 0
  · rw [outsAt0_A m c t h0]
    frame_out
    idx_vars y
    pointwise [k0_pay16, k0_pay7, k0_pay4]
    simp only [blk0, blk1, wv]
    rw [show ((View.whole main_v19_4).slice (win0_10.rect t)).emb (ix2 y0 y1) = _ from emb10 t y0 y1]
    simp only [unit512, gelu, lf, logsig, col, proj, hat]
    rfl
  · rw [outsAt0_B m c t h0]
    frame_out
    idx_vars y
    pointwise [k0_pay16, k0_pay7, k0_pay4]
    simp only [blk0, blk1, wv]
    rw [show ((View.whole main_v19_4).slice (win0_10.rect t)).emb (ix2 y0 y1) = _ from emb10 t y0 y1]
    simp only [unit512, gelu, lf, logsig, col, proj, hat]
    rfl

end Cert.InPIdeal.Hand

end
-- ==== Proof.InPGates.lean ====
module

public import proofs.«01_k».proof.Defs
public import proofs.«01_k».proof.Proof.InPBlocks
public import Idealize.ShloMosaic.Lib.Pipeline.ValueKit
public import Idealize.ShloMosaic.Lib.Pointwise

@[expose] public section

set_option maxRecDepth 16384

noncomputable section

namespace Cert.InPIdeal.Hand

open Cert.InPIdeal Cert.InPIdeal.Gen Cert.InputRows Idealize.ShloMosaic Idealize.ShloMosaic.TcCoe Idealize.SL.Sem

variable (m : (ℓ : Loc nD τ sig) → Buf (Elt Ideal) ℓ)

theorem emb11 (t : Fin cfg0.N) (a : Fin 512) (k : Fin 8) :
    (win0_11.blk t).view.emb (ix2 a k) = (ix2 (row t a) k : S32768x8.Idx) :=
  (by blk_ext [idx t] : (win0_11.blk t).view.emb (ix2 a k) = (ix2 ⟨t.val * 512 + a.val, by have := tlt t; omega⟩ k : S32768x8.Idx))

set_option maxHeartbeats 4000000 in
/-- Result 5 after the run. -/
theorem final11 (c : Dev nD) : (dats m 0 c).arrAt 11 (cfgs 0).N
    = fun i => lf (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 11 _ (by decide +kernel) fun t hf y => ?_
  blk_simp
  rw [after0_11]
  by_cases h0 : t.val % 4 = 0
  · rw [outsAt0_A m c t h0]
    frame_out
    idx_vars y
    pointwise [k0_pay13, k0_pay12, k0_pay4]
    have e3 := blk3 m c t 0 ⟨y1.val, by omega⟩ y1.isLt
    simp only [blk0, blk1, wf, e3, zero_sub]
    rw [show ((View.whole main_v19_5).slice (win0_11.rect t)).emb (ix2 y0 y1) = _ from emb11 t y0 y1]
    simp only [unit512, gelu, lf, logsig, col, proj, hat]
    rfl
  · rw [outsAt0_B m c t h0]
    frame_out
    idx_vars y
    pointwise [k0_pay13, k0_pay12, k0_pay4]
    have e3 := blk3 m c t 0 ⟨y1.val, by omega⟩ y1.isLt
    simp only [blk0, blk1, wf, e3, zero_sub]
    rw [show ((View.whole main_v19_5).slice (win0_11.rect t)).emb (ix2 y0 y1) = _ from emb11 t y0 y1]
    simp only [unit512, gelu, lf, logsig, col, proj, hat]
    rfl

theorem emb12 (t : Fin cfg0.N) (a : Fin 512) (k : Fin 512) :
    (win0_12.blk t).view.emb (ix2 a k) = (ix2 (row t a) k : S32768x512.Idx) :=
  (by blk_ext [idx t] : (win0_12.blk t).view.emb (ix2 a k) = (ix2 ⟨t.val * 512 + a.val, by have := tlt t; omega⟩ k : S32768x512.Idx))

set_option maxHeartbeats 4000000 in
/-- Result 6 after the run. -/
theorem final12 (c : Dev nD) : (dats m 0 c).arrAt 12 (cfgs 0).N
    = fun i => gelu (col (m ((c : Thread nD τ).loc main_arg0)) (m ((c : Thread nD τ).loc main_arg1)) (m ((c : Thread nD τ).loc main_arg2)) 1544 512 (by decide) (i 0) (i 1)) := by
  refine (dats m 0 c).arrAt_eq_of_covers 12 _ (by decide +kernel) fun t hf y => ?_
  blk_simp
  rw [after0_12]
  by_cases h0 : t.val % 4 = 0
  · rw [outsAt0_A m c t h0]
    frame_out
    idx_vars y
    pointwise [k0_pay10, k0_pay9, k0_pay8, k0_pay4]
    simp only [blk0, blk1, wu]
    rw [show ((View.whole main_v19_6).slice (win0_12.rect t)).emb (ix2 y0 y1) = _ from emb12 t y0 y1]
    simp only [unit512, gelu, lf, logsig, col, proj, hat]
    rfl
  · rw [outsAt0_B m c t h0]
    frame_out
    idx_vars y
    pointwise [k0_pay10, k0_pay9, k0_pay8, k0_pay4]
    simp only [blk0, blk1, wu]
    rw [show ((View.whole main_v19_6).slice (win0_12.rect t)).emb (ix2 y0 y1) = _ from emb12 t y0 y1]
    simp only [unit512, gelu, lf, logsig, col, proj, hat]
    rfl

end Cert.InPIdeal.Hand

end
-- ==== Proof.InPNorm.lean ====
module

public import proofs.«01_k».proof.Defs
public import proofs.«01_k».proof.Proof.InPBlocks
public import Idealize.ShloMosaic.Lib.Pipeline.ValueKit
public import Idealize.ShloMosaic.Lib.Pointwise

@[expose] public section

set_option maxRecDepth 16384

noncomputable section

namespace Cert.InPIdeal.Hand

open Cert.InPIdeal Cert.InPIdeal.Gen Cert.InputRows Idealize.ShloMosaic Idealize.ShloMosaic.TcCoe Idealize.SL.Sem

variable (m : (ℓ : Loc nD τ sig) → Buf (Elt Ideal) ℓ)

theorem emb13 (t : Fin cfg0.N) (a : Fin 512) (k : Fin 512) :
    (win0_13.blk t).view.emb (ix2 a k) = (ix2 (row t a) k : S32768x512.Idx) :=
  (by blk_ext [idx t] : (win0_13.blk t).view.emb (ix2 a k) = (ix2 ⟨t.val * 512 + a.val, by have := tlt t; omega⟩ k : S32768x512.Idx))

set_option maxHeartbeats 4000000 in
/-- Result 7 after the run. -/
theorem final13 (c : Dev nD) : (dats m 0 c).arrAt 13 (cfgs 0).N
    = fun i => unit512 (fun j => gelu (col (m ((c : Thread nD τ).loc main_arg0)) (m ((c : Thread nD τ).loc main_arg1)) (m ((c : Thread nD τ).loc main_arg2)) 2056 512 (by decide) (i 0) j)) (fun j => m ((c : Thread nD τ).loc main_arg4) (ix2 0 j)) (i 1) := by
  refine (dats m 0 c).arrAt_eq_of_covers 13 _ (by decide +kernel) fun t hf y => ?_
  blk_simp
  rw [after0_13]
  by_cases h0 : t.val % 4 = 0
  · rw [outsAt0_A m c t h0]
    frame_out
    idx_vars y
    pointwise [k0_pay17, k0_pay11, k0_pay4]
    simp only [blk0, blk1, blk4, wz]
    rw [show ((View.whole main_v19_7).slice (win0_13.rect t)).emb (ix2 y0 y1) = _ from emb13 t y0 y1]
    simp only [unit512, gelu, lf, logsig, col, proj, hat]
    rfl
  · rw [outsAt0_B m c t h0]
    frame_out
    idx_vars y
    pointwise [k0_pay17, k0_pay11, k0_pay4]
    simp only [blk0, blk1, blk4, wz]
    rw [show ((View.whole main_v19_7).slice (win0_13.rect t)).emb (ix2 y0 y1) = _ from emb13 t y0 y1]
    simp only [unit512, gelu, lf, logsig, col, proj, hat]
    rfl

end Cert.InPIdeal.Hand

end
-- ==== Proof.InputBounds.lean ====
module

public import proofs.«01_k».proof.Defs
public import proofs.«01_k».proof.Proof.InputRows
public import Idealize.ShloMosaic.Lib.Pipeline.ValueKit
public import Idealize.ShloMosaic.Lib.Pointwise

@[expose] public section

set_option maxRecDepth 16384

noncomputable section

namespace Cert.InputRows

open Idealize.ShloMosaic

theorem exp_nonneg (y : EReal) : 0 ≤ Ideal.exp y := by
  induction y with
  | bot => exact le_of_eq (by rfl)
  | top => exact le_top
  | coe r => exact EReal.coe_nonneg.2 (Real.exp_pos r).le

theorem logsig_ne_top (a : EReal) : logsig a ≠ ⊤ := by
  unfold logsig
  rw [sub_eq_add_neg]
  refine EReal.add_ne_top (ne_of_lt (lt_of_le_of_lt (min_le_right _ _) EReal.zero_lt_top)) ?_
  rw [Ne, EReal.neg_eq_top_iff]
  exact log1p_ne_bot _ (exp_nonneg _)

end Cert.InputRows

end
-- ==== Proof.InPSums.lean ====
module

public import proofs.«01_k».proof.Defs
public import proofs.«01_k».proof.Proof.InPBlocks
public import proofs.«01_k».proof.Proof.InputBounds
public import Idealize.ShloMosaic.Lib.Pipeline.ReadBack
public import Idealize.ShloMosaic.Lib.Pipeline.ValueKit
public import Idealize.ShloMosaic.Lib.Pointwise

@[expose] public section

set_option maxRecDepth 16384

noncomputable section

namespace Cert.InPIdeal.Hand

open Cert.InPIdeal Cert.InPIdeal.Gen Cert.InputRows Idealize.ShloMosaic Idealize.ShloMosaic.TcCoe Idealize.SL.Sem

/-! The running sum of a tile, over whatever the tiles before left. -/

/-- A number that is not plus infinity, split in three by rounding that does nothing, weighted by one or zero. -/
theorem split_one (x : EReal) (h : x ≠ ⊤) (p : Prop) [Decidable p] :
    x * (if p then 1 else 0) + (x - x) * (if p then 1 else 0) + ((x - x) - (x - x)) * (if p then 1 else 0) = if p then x else 0 := by
  by_cases hp : p
  · simp only [hp, if_true, mul_one]
    induction x with
    | bot => rfl
    | top => exact absurd rfl h
    | coe r =>
      rw [← EReal.coe_sub, ← EReal.coe_sub, ← EReal.coe_add, ← EReal.coe_add]
      norm_num
  · simp only [hp, if_false, mul_zero, add_zero]

theorem pay2_apply (A : FVec Ideal S512x128 .f32) (T : Vec Ideal S512x512 .bf16) (C : Vec Ideal S8x1 .f32) (hT : ∀ j i, T (ix2 j i) = tri j i)
    (h : Fin 8) (hA : ∀ r : Fin 512, A (ix2 r ⟨h.val, by omega⟩) ≠ ⊤) (i : Fin 512) :
    k0_pay2 A T C (ix2 h i) = (∑ j : Fin 512, if j.val ≤ i.val then A (ix2 j ⟨h.val, by omega⟩) else 0) + C (ix2 h 0) := by
  pointwise [k0_pay2]
  refine congrArg (fun z => z + C (ix2 h 0)) ?_
  rw [← Finset.sum_add_distrib, ← Finset.sum_add_distrib]
  refine Finset.sum_congr rfl fun j _ => ?_
  rw [hT]
  exact split_one _ (hA j) _

theorem pay3_apply (A : FVec Ideal S512x128 .f32) (T : Vec Ideal S512x512 .bf16) (C : Vec Ideal S8x1 .f32) (h : Fin 8) (l : Fin 128) :
    k0_pay3 A T C (ix2 h l) = k0_pay2 A T C (ix2 h 511) := by
  pointwise [k0_pay3]

theorem pay1_apply (h : Fin 8) (l : Fin 128) : k0_pay1 (F := Ideal) (ix2 h l) = 0 := by
  pointwise [k0_pay1]

variable (m : (ℓ : Loc nD τ sig) → Buf (Elt Ideal) ℓ)

/-- The gates of a tile. -/
theorem pay12_apply (c : Dev nD) (t : Fin cfg0.N) (r : Fin 512) (h : Fin 8) (W : Vec Ideal S1024x128 .bf16)
    (hW : ∀ k : Fin 1024, W (ix2 k ⟨h.val, by omega⟩) = m ((c : Thread nD τ).loc main_arg2) (ix3 0 k ⟨1536 + h.val, by omega⟩)) :
    k0_pay12 (k0_pay4 (iblk m c 0 t) (iblk m c 1 t)) W (iblk m c 3 t) (ix2 r ⟨h.val, by omega⟩) = lf (m ((c : Thread nD τ).loc main_arg0)) (m ((c : Thread nD τ).loc main_arg1)) (m ((c : Thread nD τ).loc main_arg2)) (m ((c : Thread nD τ).loc main_arg3)) (row t r) h := by
  pointwise [k0_pay12, k0_pay4]
  have e3 := blk3 m c t 0 ⟨h.val, by omega⟩ h.isLt
  simp only [blk0, blk1, hW, e3, zero_sub]
  simp only [lf, logsig, col, proj, hat]
  rfl

/-- What a tile adds to the running sum: its gates up to row `i`. -/
def part (c : Dev nD) (t : Fin cfg0.N) (h : Fin 8) (i : Fin 512) : EReal :=
  ∑ j : Fin 512, if j.val ≤ i.val then lf (m ((c : Thread nD τ).loc main_arg0)) (m ((c : Thread nD τ).loc main_arg1)) (m ((c : Thread nD τ).loc main_arg2)) (m ((c : Thread nD τ).loc main_arg3)) (row t j) h else 0

theorem tile_apply (c : Dev nD) (t : Fin cfg0.N) (W : Vec Ideal S1024x128 .bf16)
    (hW : ∀ (k : Fin 1024) (h : Fin 8), W (ix2 k ⟨h.val, by omega⟩) = m ((c : Thread nD τ).loc main_arg2) (ix3 0 k ⟨1536 + h.val, by omega⟩)) (C : Vec Ideal S8x1 .f32) (h : Fin 8) (i : Fin 512) :
    k0_pay2 (k0_pay12 (k0_pay4 (iblk m c 0 t) (iblk m c 1 t)) W (iblk m c 3 t)) (iblk m c 5 t) C (ix2 h i) = part m c t h i + C (ix2 h 0) := by
  rw [pay2_apply _ _ _ (blk5 m c t) h (fun r => by rw [pay12_apply m c t r h W (fun k => hW k h)]; exact logsig_ne_top _) i]
  unfold part
  refine congrArg (fun z => z + C (ix2 h 0)) (Finset.sum_congr rfl fun j _ => ?_)
  rw [pay12_apply m c t j h W (fun k => hW k h)]

theorem wf' (c : Dev nD) (t : Fin cfg0.N) (k : Fin 1024) (h : Fin 8) (hh) :
    View.ld (iblk m c 2 t) (Rect.unit (s := S1024x2688) ![0, 2560] ![1024, 128] hh) (ix2 k ⟨h.val, by omega⟩) = m ((c : Thread nD τ).loc main_arg2) (ix3 0 k ⟨1536 + h.val, by omega⟩) := by
  refine (ld2 (iblk m c 2 t) 0 2560 (p := 1024) (q := 128) (by omega) (by omega) k ⟨h.val, by omega⟩ _).trans ?_
  exact (congrArg (iblk m c 2 t) (congrArg₂ ix2 (Fin.ext (by show 0 + k.val = k.val; omega)) rfl)).trans (wf m c t k h (by omega))

theorem next_carry (X : Vec Ideal S8x128 .f32) (h : Fin 8) (hh) : View.ld X (Rect.unit (s := S8x128) ![0, 0] ![8, 1] hh) (ix2 h 0) = X (ix2 h 0) :=
  (ld2 X 0 0 (p := 8) (q := 1) (by omega) (by omega) h 0 _).trans (congrArg X (congrArg₂ ix2 (Fin.ext (by show 0 + h.val = h.val; omega)) rfl))

/-- The running sum of a tile, from a sequence's first tile. -/
theorem tile_A (c : Dev nD) (t : Fin cfg0.N) (h0 : t.val % 4 = 0) (h : Fin 8) (i : Fin 512) :
    (outsAt0 m c t.val t.isLt).2.2.2.2.2.2.2.2.1 (ix2 h i) = part m c t h i + 0 := by
  rw [outsAt0_A m c t h0]
  frame_open
  simp (disch := decide) only [↓ View.readCov_skip, ↓ View.readCov_cons_toLoadRect, ↓ View.readCov_fill]
  frame_out
  rw [tile_apply m c t _ (fun k h => wf' m c t k h _)]
  exact congrArg (fun z => part m c t h i + z) ((next_carry _ h _).trans (pay1_apply _ _))

/-- The running sum of a tile, from a later tile. -/
theorem tile_B (c : Dev nD) (t : Fin cfg0.N) (h0 : ¬ t.val % 4 = 0) (h : Fin 8) (i : Fin 512) :
    (outsAt0 m c t.val t.isLt).2.2.2.2.2.2.2.2.1 (ix2 h i) = part m c t h i + (outsAt0 m c (t.val - 1) (Nat.lt_of_le_of_lt (Nat.sub_le _ _) t.isLt)).2.2.2.2.2.2.2.2.2 (ix2 h 0) := by
  rw [outsAt0_B m c t h0]
  frame_out
  rw [tile_apply m c t _ (fun k h => wf' m c t k h _), next_carry]
  exact congrArg (fun z => part m c t h i + z) (congrFun (Memref.IsWhole.read_unread (Memref.isWhole_whole _) _) _)

/-- What is carried on, from a sequence's first tile. -/
theorem carry_A (c : Dev nD) (t : Fin cfg0.N) (h0 : t.val % 4 = 0) (h : Fin 8) (l : Fin 128) :
    (outsAt0 m c t.val t.isLt).2.2.2.2.2.2.2.2.2 (ix2 h l) = part m c t h 511 + 0 := by
  rw [outsAt0_A m c t h0]
  frame_open
  simp (disch := decide) only [↓ View.readCov_skip, ↓ View.readCov_cons_toLoadRect, ↓ View.readCov_fill]
  frame_out
  rw [pay3_apply]
  rw [tile_apply m c t _ (fun k h => wf' m c t k h _)]
  exact congrArg (fun z => part m c t h 511 + z) ((next_carry _ h _).trans (pay1_apply _ _))

/-- What is carried on, from a later tile. -/
theorem carry_B (c : Dev nD) (t : Fin cfg0.N) (h0 : ¬ t.val % 4 = 0) (h : Fin 8) (l : Fin 128) :
    (outsAt0 m c t.val t.isLt).2.2.2.2.2.2.2.2.2 (ix2 h l) = part m c t h 511 + (outsAt0 m c (t.val - 1) (Nat.lt_of_le_of_lt (Nat.sub_le _ _) t.isLt)).2.2.2.2.2.2.2.2.2 (ix2 h 0) := by
  rw [outsAt0_B m c t h0]
  frame_out
  rw [pay3_apply]
  rw [tile_apply m c t _ (fun k h => wf' m c t k h _), next_carry]
  exact congrArg (fun z => part m c t h 511 + z) (congrFun (Memref.IsWhole.read_unread (Memref.isWhole_whole _) _) _)

/-- A sequence's gates by their place in it. -/
def seq (c : Dev nD) (s : ℕ) (h : Fin 8) (j : ℕ) : EReal :=
  if hj : s * 2048 + j < 32768 then lf (m ((c : Thread nD τ).loc main_arg0)) (m ((c : Thread nD τ).loc main_arg1)) (m ((c : Thread nD τ).loc main_arg2)) (m ((c : Thread nD τ).loc main_arg3)) ⟨s * 2048 + j, hj⟩ h else 0

theorem sum_le {N : ℕ} (p : ℕ) (hp : p < N) (f : ℕ → EReal) : (∑ j : Fin N, if j.val ≤ p then f j.val else 0) = ∑ j ∈ Finset.range (p + 1), f j := by
  rw [Fin.sum_univ_eq_sum_range (fun j => if j ≤ p then f j else 0) N, ← Finset.sum_filter]
  refine Finset.sum_congr (Finset.ext fun n => ?_) fun _ _ => rfl
  rw [Finset.mem_range, Finset.mem_filter, Finset.mem_range]
  omega

theorem part_eq (c : Dev nD) (t : Fin cfg0.N) (h : Fin 8) (i : Fin 512) :
    part m c t h i = ∑ j ∈ Finset.range (i.val + 1), seq m c (t.val / 4) h (t.val % 4 * 512 + j) := by
  have := tlt t
  rw [← sum_le (N := 512) i.val i.isLt (fun j => seq m c (t.val / 4) h (t.val % 4 * 512 + j))]
  unfold part
  refine Finset.sum_congr rfl fun j _ => ?_
  unfold seq
  have hj : t.val / 4 * 2048 + (t.val % 4 * 512 + j.val) < 32768 := by omega
  rw [dif_pos hj]
  have e : row t j = ⟨t.val / 4 * 2048 + (t.val % 4 * 512 + j.val), hj⟩ := Fin.ext (by show t.val * 512 + j.val = t.val / 4 * 2048 + (t.val % 4 * 512 + j.val); omega)
  rw [e]

theorem cum_eq (c : Dev nD) (t : Fin cfg0.N) (h : Fin 8) (i : Fin 512) :
    cum (m ((c : Thread nD τ).loc main_arg0)) (m ((c : Thread nD τ).loc main_arg1)) (m ((c : Thread nD τ).loc main_arg2)) (m ((c : Thread nD τ).loc main_arg3)) (row t i) h = ∑ j ∈ Finset.range (t.val % 4 * 512 + i.val + 1), seq m c (t.val / 4) h j := by
  have := tlt t
  rw [← sum_le (N := 2048) (t.val % 4 * 512 + i.val) (by omega) (seq m c (t.val / 4) h)]
  unfold cum
  refine Finset.sum_congr rfl fun j _ => ?_
  have hr : (row t i).val = t.val * 512 + i.val := rfl
  have e1 : (row t i).val % 2048 = t.val % 4 * 512 + i.val := by omega
  have hj : t.val / 4 * 2048 + j.val < 32768 := by omega
  have e2 : (⟨(row t i).val / 2048 * 2048 + j.val, by omega⟩ : Fin 32768) = ⟨t.val / 4 * 2048 + j.val, hj⟩ := Fin.ext (by show (row t i).val / 2048 * 2048 + j.val = t.val / 4 * 2048 + j.val; omega)
  unfold seq
  rw [dif_pos hj, e1, e2]

/-- What is carried past tile `t` is the sum of its sequence so far. -/
theorem carried (c : Dev nD) : ∀ (n : ℕ) (t : Fin cfg0.N), t.val = n → ∀ (h : Fin 8) (l : Fin 128),
    (outsAt0 m c t.val t.isLt).2.2.2.2.2.2.2.2.2 (ix2 h l) = ∑ j ∈ Finset.range (t.val % 4 * 512 + 512), seq m c (t.val / 4) h j := by
  intro n
  induction n using Nat.strong_induction_on with
  | _ n ih =>
    intro t ht h l
    have := tlt t
    by_cases h0 : t.val % 4 = 0
    · rw [carry_A m c t h0, part_eq, add_zero]
      simp only [h0, Nat.zero_mul, Nat.zero_add]
      rfl
    · rw [carry_B m c t h0, ih (t.val - 1) (by omega) ⟨t.val - 1, Nat.lt_of_le_of_lt (Nat.sub_le _ _) t.isLt⟩ rfl, part_eq, add_comm]
      have e1 : (t.val - 1) % 4 * 512 + 512 = t.val % 4 * 512 := by omega
      have e2 : (t.val - 1) / 4 = t.val / 4 := by omega
      show (∑ j ∈ Finset.range ((t.val - 1) % 4 * 512 + 512), seq m c ((t.val - 1) / 4) h j) + ∑ j ∈ Finset.range 512, seq m c (t.val / 4) h (t.val % 4 * 512 + j) = _
      rw [e1, e2, Finset.sum_range_add]

/-- The running sum of a tile's row is the whole sequence's. -/
theorem tile_cum (c : Dev nD) (t : Fin cfg0.N) (h : Fin 8) (i : Fin 512) :
    (outsAt0 m c t.val t.isLt).2.2.2.2.2.2.2.2.1 (ix2 h i) = cum (m ((c : Thread nD τ).loc main_arg0)) (m ((c : Thread nD τ).loc main_arg1)) (m ((c : Thread nD τ).loc main_arg2)) (m ((c : Thread nD τ).loc main_arg3)) (row t i) h := by
  have := tlt t
  rw [cum_eq]
  by_cases h0 : t.val % 4 = 0
  · rw [tile_A m c t h0, part_eq, add_zero]
    simp only [h0, Nat.zero_mul, Nat.zero_add]
  · rw [tile_B m c t h0, carried m c (t.val - 1) ⟨t.val - 1, Nat.lt_of_le_of_lt (Nat.sub_le _ _) t.isLt⟩ rfl, part_eq, add_comm]
    have e1 : (t.val - 1) % 4 * 512 + 512 = t.val % 4 * 512 := by omega
    have e2 : (t.val - 1) / 4 = t.val / 4 := by omega
    show (∑ j ∈ Finset.range ((t.val - 1) % 4 * 512 + 512), seq m c ((t.val - 1) / 4) h j) + ∑ j ∈ Finset.range (i.val + 1), seq m c (t.val / 4) h (t.val % 4 * 512 + j) = _
    rw [e1, e2, ← Finset.sum_range_add, Nat.add_assoc]

theorem emb14 (t : Fin cfg0.N) (h : Fin 8) (a : Fin 512) :
    (win0_14.blk t).view.emb (ix2 h a) = (ix2 h (row t a) : S8x32768.Idx) :=
  (by blk_ext [idx t] : (win0_14.blk t).view.emb (ix2 h a) = (ix2 h ⟨t.val * 512 + a.val, by have := tlt t; omega⟩ : S8x32768.Idx))

/-- The running sums after the run. -/
theorem final14 (c : Dev nD) : (dats m 0 c).arrAt 14 (cfgs 0).N
    = fun i => cum (m ((c : Thread nD τ).loc main_arg0)) (m ((c : Thread nD τ).loc main_arg1)) (m ((c : Thread nD τ).loc main_arg2)) (m ((c : Thread nD τ).loc main_arg3)) (i 1) (i 0) := by
  refine (dats m 0 c).arrAt_eq_of_covers 14 _ (by decide +kernel) fun t hf y => ?_
  blk_simp
  rw [after0_14]
  idx_vars y
  refine (tile_cum m c t y0 y1).trans ?_
  rw [show ((View.whole main_v19_8).slice (win0_14.rect t)).emb (ix2 y0 y1) = _ from emb14 t y0 y1]
  rfl

end Cert.InPIdeal.Hand

end
-- ==== Proof.InPWindow.lean ====
module

public import proofs.«01_k».proof.Defs
public import proofs.«01_k».proof.Proof.Gen.InPRefIdeal.Run
public import Idealize.ShloMosaic.Lib.Pipeline.ValueKit
public import Idealize.ShloMosaic.Lib.Pointwise

@[expose] public section

set_option maxRecDepth 16384

noncomputable section

namespace Cert.InPRefIdeal.Hand

open Cert.InPRefIdeal Cert.InPRefIdeal.Gen Idealize.ShloMosaic Idealize.ShloMosaic.TcCoe Idealize.SL.Sem

/-! The reference's running sum: a window as long as the sequence, padded in front by one less. -/

theorem foldl_add {α : Type} (f : α → EReal) : ∀ (l : List α) (r : EReal), l.foldl (fun r n => r + f n) r = r + (l.map f).sum
  | [], r => (add_zero r).symm
  | a :: l, r => by
    rw [List.foldl_cons, foldl_add f l, List.map_cons, List.sum_cons, add_assoc]

/-- A window sum, whatever its shapes, is a sum over the window's places. -/
theorem reduce_sum {s t u : Shape} (window strides lo hi : Fin s.rank → ℕ) (x : FVec Ideal s .f32) (init : FVec Ideal u .f32)
    (h : s.ReduceWindows window strides lo hi t) (hu : 0 < u.numel) (j : t.Idx) :
    Host.reduceWindowAdd window strides lo hi x init h hu j = init (Shape.Idx.first hu) + ∑ n : Fin (⟨s.rank, window⟩ : Shape).numel,
      (if hin : ∀ a, lo a ≤ (j (a.cast h.1.symm)).val * strides a + ((⟨s.rank, window⟩ : Shape).rowMajor.symm n a).val
        ∧ (j (a.cast h.1.symm)).val * strides a + ((⟨s.rank, window⟩ : Shape).rowMajor.symm n a).val - lo a < s.size a
      then x (fun a => ⟨(j (a.cast h.1.symm)).val * strides a + ((⟨s.rank, window⟩ : Shape).rowMajor.symm n a).val - lo a, (hin a).2⟩)
      else init (Shape.Idx.first hu) : EReal) := by
  rw [Fin.sum_univ_def]
  show Ideal.hostReduceWindowAdd window strides lo hi h x (init (Shape.Idx.first hu)) j = _
  unfold Ideal.hostReduceWindowAdd Host.reduceWindow
  dsimp only
  refine (foldl_add _ _ _).trans (congrArg (fun z => init (Shape.Idx.first hu) + z) (congrArg List.sum (List.map_congr_left fun n _ => ?_)))
  by_cases hin : ∀ a, lo a ≤ (j (a.cast h.1.symm)).val * strides a + ((⟨s.rank, window⟩ : Shape).rowMajor.symm n a).val
        ∧ (j (a.cast h.1.symm)).val * strides a + ((⟨s.rank, window⟩ : Shape).rowMajor.symm n a).val - lo a < s.size a
  · refine (dif_pos hin).trans ?_
    rw [dif_pos hin]
  · refine (dif_neg hin).trans ?_
    rw [dif_neg hin]

/-- The window's shape. -/
def W : Shape := ⟨3, ![1, 2048, 1]⟩

theorem numel_W : W.numel = 2048 := by decide +kernel

theorem lt_W (n : Fin W.numel) : n.val < 2048 := lt_of_lt_of_eq n.isLt numel_W

theorem symm_W (n : Fin W.numel) : W.rowMajor.symm n = (fun a => match a with
    | ⟨0, _⟩ => (⟨0, by decide⟩ : Fin 1)
    | ⟨1, _⟩ => (⟨n.val, lt_W n⟩ : Fin 2048)
    | ⟨2, _⟩ => (⟨0, by decide⟩ : Fin 1)) := by
  rw [Equiv.symm_apply_eq]
  refine Fin.ext ?_
  refine Eq.trans ?_ (Shape.rowMajor_val_three (d := ![1, 2048, 1]) _).symm
  show n.val = (0 * 2048 + n.val) * 1 + 0
  omega

theorem symm_W0 (n : Fin W.numel) : (W.rowMajor.symm n (0 : Fin 3)).val = 0 := congrArg (fun z : W.Idx => (z (0 : Fin 3)).val) (symm_W n)

theorem symm_W1 (n : Fin W.numel) : (W.rowMajor.symm n (1 : Fin 3)).val = n.val := congrArg (fun z : W.Idx => (z (1 : Fin 3)).val) (symm_W n)

theorem symm_W2 (n : Fin W.numel) : (W.rowMajor.symm n (2 : Fin 3)).val = 0 := congrArg (fun z : W.Idx => (z (2 : Fin 3)).val) (symm_W n)

/-- Summing the window's places that lie inside is summing up to the row. -/
theorem window_range (p : ℕ) (hp : p < 2048) (X : ℕ → EReal) :
    (∑ n ∈ Finset.range 2048, if 2047 ≤ p + n then X (p + n - 2047) else 0) = ∑ j ∈ Finset.range (p + 1), X j := by
  have e : 2048 = (2047 - p) + (p + 1) := by omega
  rw [e, Finset.sum_range_add]
  rw [Finset.sum_eq_zero fun n hn => if_neg (by have := Finset.mem_range.1 hn; omega), zero_add]
  refine Finset.sum_congr rfl fun j _ => ?_
  rw [if_pos (by omega)]
  exact congrArg X (by omega)

theorem range_le (p : ℕ) (hp : p < 2048) (X : ℕ → EReal) : (∑ j : Fin 2048, if j.val ≤ p then X j.val else 0) = ∑ j ∈ Finset.range (p + 1), X j := by
  rw [Fin.sum_univ_eq_sum_range (fun j => if j ≤ p then X j else 0) 2048, ← Finset.sum_filter]
  refine Finset.sum_congr (Finset.ext fun n => ?_) fun _ _ => rfl
  rw [Finset.mem_range, Finset.mem_filter, Finset.mem_range]
  omega

/-- The reference's running sum along the sequence. -/
theorem window_apply (x : FVec Ideal S16x2048x8 .f32) (init : FVec Ideal S_ .f32) (h0 : ∀ i, init i = 0) (s : Fin 16) (p : Fin 2048) (h : Fin 8) :
    Host.reduceWindowAdd ![1, 2048, 1] ![1, 1, 1] ![0, 2047, 0] ![0, 0, 0] x init reduceWindows_S16x2048x8_S16x2048x8_w1s1p0_0_w2048s1p2047_0_w1s1p0_0 h_S_ (ix3 s p h)
      = ∑ j : Fin 2048, if j.val ≤ p.val then x (ix3 s j h) else 0 := by
  have hp := p.isLt
  let X : ℕ → EReal := fun j => if hj : j < 2048 then x (ix3 s ⟨j, hj⟩ h) else 0
  have hX : ∀ j : Fin 2048, x (ix3 s j h) = X j.val := fun j => by
    show _ = if hj : j.val < 2048 then x (ix3 s ⟨j.val, hj⟩ h) else 0
    rw [dif_pos j.isLt]
  simp only [hX]
  rw [range_le p.val hp X, ← window_range p.val hp X]
  refine (reduce_sum _ _ _ _ x init _ h_S_ (ix3 s p h)).trans ?_
  rw [h0, zero_add]
  refine Eq.trans ?_ (Eq.trans (Fin.sum_univ_eq_sum_range (fun n => if 2047 ≤ p.val + n then X (p.val + n - 2047) else 0) W.numel) (by rw [numel_W]))
  refine Finset.sum_congr rfl fun n _ => ?_
  have hn : n.val < 2048 := lt_W n
  have w0 : (W.rowMajor.symm n (0 : Fin 3)).val = 0 := symm_W0 n
  have w1 : (W.rowMajor.symm n (1 : Fin 3)).val = n.val := symm_W1 n
  have w2 : (W.rowMajor.symm n (2 : Fin 3)).val = 0 := symm_W2 n
  by_cases hle : 2047 ≤ p.val + n.val
  · have hin : ∀ a : Fin 3, ![0, 2047, 0] a ≤ ((ix3 s p h : S16x2048x8.Idx) a).val * ![1, 1, 1] a + (W.rowMajor.symm n a).val
      ∧ ((ix3 s p h : S16x2048x8.Idx) a).val * ![1, 1, 1] a + (W.rowMajor.symm n a).val - ![0, 2047, 0] a < S16x2048x8.size a := fun a => by
      match a with
      | ⟨0, _⟩ =>
        show 0 ≤ s.val * 1 + (W.rowMajor.symm n (0 : Fin 3)).val ∧ s.val * 1 + (W.rowMajor.symm n (0 : Fin 3)).val - 0 < 16
        rw [w0]; omega
      | ⟨1, _⟩ =>
        show 2047 ≤ p.val * 1 + (W.rowMajor.symm n (1 : Fin 3)).val ∧ p.val * 1 + (W.rowMajor.symm n (1 : Fin 3)).val - 2047 < 2048
        rw [w1]; omega
      | ⟨2, _⟩ =>
        show 0 ≤ h.val * 1 + (W.rowMajor.symm n (2 : Fin 3)).val ∧ h.val * 1 + (W.rowMajor.symm n (2 : Fin 3)).val - 0 < 8
        rw [w2]; omega
    rw [if_pos hle]
    refine (dif_pos hin).trans ?_
    have hq : p.val + n.val - 2047 < 2048 := by omega
    refine Eq.trans (congrArg x (funext fun a => Fin.ext ?_)) (hX ⟨p.val + n.val - 2047, hq⟩)
    match a with
    | ⟨0, _⟩ =>
      show s.val * 1 + (W.rowMajor.symm n (0 : Fin 3)).val - 0 = s.val
      rw [w0]; omega
    | ⟨1, _⟩ =>
      show p.val * 1 + (W.rowMajor.symm n (1 : Fin 3)).val - 2047 = p.val + n.val - 2047
      rw [w1]; omega
    | ⟨2, _⟩ =>
      show h.val * 1 + (W.rowMajor.symm n (2 : Fin 3)).val - 0 = h.val
      rw [w2]; omega
  · refine (dif_neg fun hin => ?_).trans (if_neg hle).symm
    have h1 : 2047 ≤ p.val * 1 + (W.rowMajor.symm n (1 : Fin 3)).val := (hin 1).1
    rw [w1] at h1
    omega

end Cert.InPRefIdeal.Hand

end
-- ==== Proof.InPRef.lean ====
module

public import proofs.«01_k».proof.Defs
public import proofs.«01_k».proof.Proof.Gen.InPRefIdeal.Run
public import proofs.«01_k».proof.Proof.InPSpec
public import proofs.«01_k».proof.Proof.InPWindow
public import Idealize.ShloMosaic.Lib.Pipeline.ValueKit
public import Idealize.ShloMosaic.Lib.Pointwise

@[expose] public section

set_option maxRecDepth 16384

noncomputable section

namespace Cert.InPRefIdeal.Hand

open Cert.InPRefIdeal Cert.InPRefIdeal.Gen Cert.InputRows Idealize.ShloMosaic Idealize.ShloMosaic.TcCoe Idealize.SL.Sem

/-! The reference's stages, each read at an index. -/

/-- The normalised rows against the whole weight. -/
def allT (x : FVec Ideal S16x2048x1024 .f32) (g : FVec Ideal S1x1024 .f32) (w : FVec Ideal S1x1024x2568 .f32) : FVec Ideal S16x2048x2568 .f32 :=
  Host.dotGeneral dot_S16x2048x1024_S1024x2568_S16x2048x2568_2_0_01_1_n_n none (mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast S1024 g shapeCasts_S1x1024_S1024)))) (shapeCast S1024x2568 w shapeCasts_S1x1024x2568_S1024x2568)

theorem allT_apply (x : FVec Ideal S16x2048x1024 .f32) (g : FVec Ideal S1x1024 .f32) (w : FVec Ideal S1x1024x2568 .f32) (s : Fin 16) (p : Fin 2048) (n : Fin 2568) :
    allT x g w (ix3 s p n) = proj (fun k => x (ix3 s p k)) (fun k => g (ix2 0 k)) (fun k => w (ix3 0 k n)) := by
  unfold allT
  pointwise
  rfl

/-- A slice of 512 columns, its rows flattened. -/
def colT (off : ℕ) (hs : Shape.Slices S16x2048x2568 ![0, 0, off] S16x2048x512) (H : FVec Ideal S16x2048x2568 .f32) : FVec Ideal S32768x512 .f32 :=
  shapeCast S32768x512 (extractStridedSlice S16x2048x512 ![0, 0, off] H hs) shapeCasts_S16x2048x512_S32768x512

theorem q_eq (x : FVec Ideal S16x2048x1024 .f32) (g : FVec Ideal S1x1024 .f32) (w : FVec Ideal S1x1024x2568 .f32) : colT 0 slices_S16x2048x2568_S16x2048x512_0_0_0 (allT x g w)
    = fun i => Cert.InPIdeal.Hand.col x g w 0 512 (by decide) (i 0) (i 1) := by
  funext i
  unfold colT
  generalize hH : allT x g w = H
  idx_vars i
  pointwise
  rw [← hH, allT_apply]
  simp only [Cert.InPIdeal.Hand.col, Nat.zero_add]

theorem k_eq (x : FVec Ideal S16x2048x1024 .f32) (g : FVec Ideal S1x1024 .f32) (w : FVec Ideal S1x1024x2568 .f32) : colT 512 slices_S16x2048x2568_S16x2048x512_0_0_512 (allT x g w)
    = fun i => Cert.InPIdeal.Hand.col x g w 512 512 (by decide) (i 0) (i 1) := by
  funext i
  unfold colT
  generalize hH : allT x g w = H
  idx_vars i
  pointwise
  rw [← hH, allT_apply]
  rfl

theorem v_eq (x : FVec Ideal S16x2048x1024 .f32) (g : FVec Ideal S1x1024 .f32) (w : FVec Ideal S1x1024x2568 .f32) : colT 1024 slices_S16x2048x2568_S16x2048x512_0_0_1024 (allT x g w)
    = fun i => Cert.InPIdeal.Hand.col x g w 1024 512 (by decide) (i 0) (i 1) := by
  funext i
  unfold colT
  generalize hH : allT x g w = H
  idx_vars i
  pointwise
  rw [← hH, allT_apply]
  rfl

/-- The gate's activation of a slice of 512 columns. -/
def geluT (off : ℕ) (hs : Shape.Slices S16x2048x2568 ![0, 0, off] S16x2048x512) (H : FVec Ideal S16x2048x2568 .f32) : FVec Ideal S16x2048x512 .f32 :=
  mulf (extractStridedSlice S16x2048x512 ![0, 0, off] H hs) (mulf (broadcastInDim S16x2048x512 ![] bcast_S_S16x2048x512 (constant S_ .f32 0x3F000000#32)) (addf (broadcastInDim S16x2048x512 ![] bcast_S_S16x2048x512 (constant S_ .f32 0x3F800000#32)) (Host.tanh (mulf (broadcastInDim S16x2048x512 ![] bcast_S_S16x2048x512 (constant S_ .f32 0x3F4C422A#32)) (addf (extractStridedSlice S16x2048x512 ![0, 0, off] H hs) (mulf (broadcastInDim S16x2048x512 ![] bcast_S_S16x2048x512 (constant S_ .f32 0x3D372713#32)) (mulf (mulf (extractStridedSlice S16x2048x512 ![0, 0, off] H hs) (extractStridedSlice S16x2048x512 ![0, 0, off] H hs)) (extractStridedSlice S16x2048x512 ![0, 0, off] H hs))))))))

theorem uT_apply (H : FVec Ideal S16x2048x2568 .f32) (s : Fin 16) (p : Fin 2048) (j : Fin 512) :
    geluT 1544 slices_S16x2048x2568_S16x2048x512_0_0_1544 H (ix3 s p j) = gelu (H (ix3 s p ⟨1544 + j.val, by omega⟩)) := by
  unfold geluT
  pointwise
  simp only [gelu]

theorem zT_apply (H : FVec Ideal S16x2048x2568 .f32) (s : Fin 16) (p : Fin 2048) (j : Fin 512) :
    geluT 2056 slices_S16x2048x2568_S16x2048x512_0_0_2056 H (ix3 s p j) = gelu (H (ix3 s p ⟨2056 + j.val, by omega⟩)) := by
  unfold geluT
  pointwise
  simp only [gelu]

theorem flat_apply (Y : FVec Ideal S16x2048x512 .f32) (ρ : Fin 32768) (j : Fin 512) :
    shapeCast S32768x512 Y shapeCasts_S16x2048x512_S32768x512 (ix2 ρ j) = Y (ix3 ⟨ρ.val / 2048, by omega⟩ ⟨ρ.val % 2048, by omega⟩ j) := by
  pointwise

theorem u_eq (x : FVec Ideal S16x2048x1024 .f32) (g : FVec Ideal S1x1024 .f32) (w : FVec Ideal S1x1024x2568 .f32) : shapeCast S32768x512 (geluT 1544 slices_S16x2048x2568_S16x2048x512_0_0_1544 (allT x g w)) shapeCasts_S16x2048x512_S32768x512
    = fun i => gelu (Cert.InPIdeal.Hand.col x g w 1544 512 (by decide) (i 0) (i 1)) := by
  funext i
  idx_vars i
  rw [flat_apply, uT_apply, allT_apply]
  rfl

/-- The normalised second half of the gate. -/
def gateT (gz : FVec Ideal S1x512 .f32) (Y : FVec Ideal S16x2048x512 .f32) : FVec Ideal S16x2048x512 .f32 :=
  mulf (mulf Y (broadcastInDim S16x2048x512 ![0, 1, 2] bcast_S16x2048x1_S16x2048x512_0_1_2 (Host.rsqrt (addf (Host.divf (broadcastInDim S16x2048x1 ![0, 1] bcast_S16x2048_S16x2048x1_0_1 (Host.reduceAdd (mulf Y Y) (constant S_ .f32 0x00000000#32) reducesTo_S16x2048x512_S16x2048_d2 h_S_)) (broadcastInDim S16x2048x1 ![] bcast_S_S16x2048x1 (constant S_ .f32 0x44000000#32))) (broadcastInDim S16x2048x1 ![] bcast_S_S16x2048x1 (constant S_ .f32 0x358637BD#32)))))) (broadcastInDim S16x2048x512 ![0, 1, 2] bcast_S1x1x512_S16x2048x512_0_1_2 (broadcastInDim S1x1x512 ![2] bcast_S512_S1x1x512_2 (shapeCast S512 gz shapeCasts_S1x512_S512)))

theorem gateT_apply (gz : FVec Ideal S1x512 .f32) (Y : FVec Ideal S16x2048x512 .f32) (s : Fin 16) (p : Fin 2048) (j : Fin 512) :
    gateT gz Y (ix3 s p j) = unit512 (fun j => Y (ix3 s p j)) (fun j => gz (ix2 0 j)) j := by
  unfold gateT
  pointwise
  simp only [unit512]

theorem z_eq (x : FVec Ideal S16x2048x1024 .f32) (g : FVec Ideal S1x1024 .f32) (w : FVec Ideal S1x1024x2568 .f32) (gz : FVec Ideal S1x512 .f32) : shapeCast S32768x512 (gateT gz (geluT 2056 slices_S16x2048x2568_S16x2048x512_0_0_2056 (allT x g w))) shapeCasts_S16x2048x512_S32768x512
    = fun i => unit512 (fun j => gelu (Cert.InPIdeal.Hand.col x g w 2056 512 (by decide) (i 0) j)) (fun j => gz (ix2 0 j)) (i 1) := by
  funext i
  idx_vars i
  rw [flat_apply, gateT_apply]
  simp only [zT_apply, allT_apply]
  rfl

/-- The forget gate's logit. -/
def logitT (bf : FVec Ideal S1x8 .f32) (H : FVec Ideal S16x2048x2568 .f32) : FVec Ideal S16x2048x8 .f32 :=
  addf (extractStridedSlice S16x2048x8 ![0, 0, 1536] H slices_S16x2048x2568_S16x2048x8_0_0_1536) (broadcastInDim S16x2048x8 ![0, 1, 2] bcast_S1x1x8_S16x2048x8_0_1_2 (broadcastInDim S1x1x8 ![2] bcast_S8_S1x1x8_2 (shapeCast S8 bf shapeCasts_S1x8_S8)))

theorem logitT_apply (bf : FVec Ideal S1x8 .f32) (H : FVec Ideal S16x2048x2568 .f32) (s : Fin 16) (p : Fin 2048) (h : Fin 8) :
    logitT bf H (ix3 s p h) = H (ix3 s p ⟨1536 + h.val, by omega⟩) + bf (ix2 0 h) := by
  unfold logitT
  pointwise

/-- The logarithm of the logistic function as the reference writes it. -/
def lsT (A : FVec Ideal S16x2048x8 .f32) : FVec Ideal S16x2048x8 .f32 :=
  Host.negf (select (cmpf .une (subf (Host.negf A) (broadcastInDim S16x2048x8 ![] bcast_S_S16x2048x8 (constant S_ .f32 0x00000000#32))) (subf (Host.negf A) (broadcastInDim S16x2048x8 ![] bcast_S_S16x2048x8 (constant S_ .f32 0x00000000#32)))) (addf (Host.negf A) (broadcastInDim S16x2048x8 ![] bcast_S_S16x2048x8 (constant S_ .f32 0x00000000#32))) (addf (maximumf (Host.negf A) (broadcastInDim S16x2048x8 ![] bcast_S_S16x2048x8 (constant S_ .f32 0x00000000#32))) (Host.log1p (Host.exp (Host.negf (Host.absf (subf (Host.negf A) (broadcastInDim S16x2048x8 ![] bcast_S_S16x2048x8 (constant S_ .f32 0x00000000#32)))))))))

theorem lsT_apply (A : FVec Ideal S16x2048x8 .f32) (s : Fin 16) (p : Fin 2048) (h : Fin 8) : lsT A (ix3 s p h) = logsig (A (ix3 s p h)) := by
  unfold lsT
  generalize hA : A (ix3 s p h) = a
  pointwise
  simp only [hA]
  rw [if_neg (fun h => h rfl)]
  exact logsig_eq a

theorem flat8_apply (Y : FVec Ideal S16x2048x8 .f32) (ρ : Fin 32768) (h : Fin 8) :
    shapeCast S32768x8 Y shapeCasts_S16x2048x8_S32768x8 (ix2 ρ h) = Y (ix3 ⟨ρ.val / 2048, by omega⟩ ⟨ρ.val % 2048, by omega⟩ h) := by
  pointwise

theorem lf_eq (x : FVec Ideal S16x2048x1024 .f32) (g : FVec Ideal S1x1024 .f32) (w : FVec Ideal S1x1024x2568 .f32) (bf : FVec Ideal S1x8 .f32) : shapeCast S32768x8 (lsT (logitT bf (allT x g w))) shapeCasts_S16x2048x8_S32768x8
    = fun i => logsig (Cert.InPIdeal.Hand.col x g w 1536 8 (by decide) (i 0) (i 1) + bf (ix2 0 (i 1))) := by
  funext i
  idx_vars i
  rw [flat8_apply, lsT_apply, logitT_apply, allT_apply]
  rfl

/-- The scaled query. -/
def qT (H : FVec Ideal S16x2048x2568 .f32) : FVec Ideal S32768x512 .f32 :=
  shapeCast S32768x512 (mulf (extractStridedSlice S16x2048x512 ![0, 0, 0] H slices_S16x2048x2568_S16x2048x512_0_0_0) (broadcastInDim S16x2048x512 ![] bcast_S_S16x2048x512 (constant S_ .f32 0x3E000000#32))) shapeCasts_S16x2048x512_S32768x512

theorem qs_eq (x : FVec Ideal S16x2048x1024 .f32) (g : FVec Ideal S1x1024 .f32) (w : FVec Ideal S1x1024x2568 .f32) : qT (allT x g w)
    = fun i => Cert.InPIdeal.Hand.col x g w 0 512 (by decide) (i 0) (i 1) * Ideal.ofBits .f32 0x3E000000#32 := by
  funext i
  unfold qT
  generalize hH : allT x g w = H
  idx_vars i
  pointwise
  rw [← hH, allT_apply]
  simp only [Cert.InPIdeal.Hand.col, Nat.zero_add]

/-- The running sums, heads first. -/
def cT (Y : FVec Ideal S16x2048x8 .f32) : FVec Ideal S8x32768 .f32 :=
  shapeCast S8x32768 (transpose S8x16x2048 [2, 0, 1] (Host.reduceWindowAdd ![1, 2048, 1] ![1, 1, 1] ![0, 2047, 0] ![0, 0, 0] Y (broadcastInDim S_ ![] bcast_S_S_ (constant S_ .f32 0x00000000#32)) reduceWindows_S16x2048x8_S16x2048x8_w1s1p0_0_w2048s1p2047_0_w1s1p0_0 h_S_) transposes_S16x2048x8_S8x16x2048_2_0_1) shapeCasts_S8x16x2048_S8x32768

theorem zero_init (i : S_.Idx) : (broadcastInDim S_ ![] bcast_S_S_ (constant (F := Ideal) S_ .f32 0x00000000#32)) i = (0 : EReal) := by
  pointwise

theorem turned_apply (Z : FVec Ideal S16x2048x8 .f32) (h : Fin 8) (ρ : Fin 32768) :
    shapeCast S8x32768 (transpose S8x16x2048 [2, 0, 1] Z transposes_S16x2048x8_S8x16x2048_2_0_1) shapeCasts_S8x16x2048_S8x32768 (ix2 h ρ)
      = Z (ix3 ⟨ρ.val / 2048, by omega⟩ ⟨ρ.val % 2048, by omega⟩ h) := by
  pointwise

theorem c_eq (x : FVec Ideal S16x2048x1024 .f32) (g : FVec Ideal S1x1024 .f32) (w : FVec Ideal S1x1024x2568 .f32) (bf : FVec Ideal S1x8 .f32) : cT (lsT (logitT bf (allT x g w)))
    = fun i => Cert.InPIdeal.Hand.cum x g w bf (i 1) (i 0) := by
  funext i
  idx_vars i
  unfold cT
  rw [turned_apply, window_apply _ _ zero_init]
  show _ = Cert.InPIdeal.Hand.cum x g w bf i1 i0
  unfold Cert.InPIdeal.Hand.cum
  refine Finset.sum_congr rfl fun j _ => ?_
  rw [lsT_apply, logitT_apply, allT_apply]
  have e0 : (⟨(i1.val / 2048 * 2048 + j.val) / 2048, by omega⟩ : Fin 16) = ⟨i1.val / 2048, by omega⟩ := Fin.ext (by show (i1.val / 2048 * 2048 + j.val) / 2048 = i1.val / 2048; omega)
  have e1 : (⟨(i1.val / 2048 * 2048 + j.val) % 2048, by omega⟩ : Fin 2048) = j := Fin.ext (by show (i1.val / 2048 * 2048 + j.val) % 2048 = j.val; omega)
  unfold Cert.InPIdeal.Hand.lf Cert.InPIdeal.Hand.col
  simp only [e0, e1]

/-! The generated results are these stages. -/

theorem res_main_v78_eq (m : (ℓ : Loc nD τ sig) → Buf (Elt Ideal) ℓ) (c : Dev nD) : Cert.InPRefIdeal.Value.res_main_v78 m c
    = shapeCast S32768x8 (lsT (logitT (m ((c : Thread nD τ).loc main_arg3)) (allT (m ((c : Thread nD τ).loc main_arg0)) (m ((c : Thread nD τ).loc main_arg1)) (m ((c : Thread nD τ).loc main_arg2))))) shapeCasts_S16x2048x8_S32768x8 := by
  unfold Cert.InPRefIdeal.Value.res_main_v78
  rfl

theorem res_main_v79_eq (m : (ℓ : Loc nD τ sig) → Buf (Elt Ideal) ℓ) (c : Dev nD) : Cert.InPRefIdeal.Value.res_main_v79 m c
    = shapeCast S32768x512 (geluT 1544 slices_S16x2048x2568_S16x2048x512_0_0_1544 (allT (m ((c : Thread nD τ).loc main_arg0)) (m ((c : Thread nD τ).loc main_arg1)) (m ((c : Thread nD τ).loc main_arg2)))) shapeCasts_S16x2048x512_S32768x512 := by
  unfold Cert.InPRefIdeal.Value.res_main_v79
  rfl

theorem res_main_v81_eq (m : (ℓ : Loc nD τ sig) → Buf (Elt Ideal) ℓ) (c : Dev nD) : Cert.InPRefIdeal.Value.res_main_v81 m c
    = shapeCast S32768x512 (gateT (m ((c : Thread nD τ).loc main_arg4)) (geluT 2056 slices_S16x2048x2568_S16x2048x512_0_0_2056 (allT (m ((c : Thread nD τ).loc main_arg0)) (m ((c : Thread nD τ).loc main_arg1)) (m ((c : Thread nD τ).loc main_arg2))))) shapeCasts_S16x2048x512_S32768x512 := by
  unfold Cert.InPRefIdeal.Value.res_main_v81
  rfl

theorem res_main_v83_eq (m : (ℓ : Loc nD τ sig) → Buf (Elt Ideal) ℓ) (c : Dev nD) : Cert.InPRefIdeal.Value.res_main_v83 m c
    = cT (lsT (logitT (m ((c : Thread nD τ).loc main_arg3)) (allT (m ((c : Thread nD τ).loc main_arg0)) (m ((c : Thread nD τ).loc main_arg1)) (m ((c : Thread nD τ).loc main_arg2))))) := by
  unfold Cert.InPRefIdeal.Value.res_main_v83
  rfl

end Cert.InPRefIdeal.Hand

end
-- ==== Proof.InP.lean ====
module

public import proofs.«01_k».proof.Defs
public import proofs.«01_k».proof.Proof.InPQuery
public import proofs.«01_k».proof.Proof.InPRows
public import proofs.«01_k».proof.Proof.InPCopies
public import proofs.«01_k».proof.Proof.InPGates
public import proofs.«01_k».proof.Proof.InPNorm
public import proofs.«01_k».proof.Proof.InPSums
public import proofs.«01_k».proof.Proof.InPRef
public import proofs.«01_k».proof.Proof.Gen.InPIdeal.Value
public import proofs.«01_k».proof.Proof.Gen.InPRefIdeal.Run
public import Idealize.ShloMosaic.Lib.Pipeline.ValueKit
public import Idealize.ShloMosaic.Lib.Pointwise

@[expose] public section

set_option maxRecDepth 16384

noncomputable section

namespace Cert.InPIdeal.Hand

open Cert.InPIdeal Cert.InPIdeal.Gen Idealize.ShloMosaic Idealize.ShloMosaic.TcCoe Idealize.SL.Sem

set_option maxHeartbeats 4000000 in
/-- Both programs project the same normalised prompt rows and sum the same gates. -/
theorem algebraic : Cert.algebraic_InPIdeal_InPRefIdeal (hInPIdeal := Cert.InPIdeal.Gen.facts) (hInPRefIdeal := Cert.InPRefIdeal.Gen.facts) := by
  intro m g m' g' _ hagree
  refine ⟨_, _, _, _, _, _, _, _, _, Cert.InPIdeal.Value.run_blocks m g, (θ_run _ _ _).mono (fun r h c => ?_) (Cert.InPRefIdeal.Value.run m' g')⟩
  obtain ⟨h0, h1, h2, h3, h4, h5, h6, h7, h8, ha⟩ := h c
  obtain ⟨a0, a1, a2, a3, a4⟩ := hagree c
  refine ⟨h0.trans ?_, h1.trans ?_, h2.trans ?_, h3.trans ?_, h4.trans ?_, h5.trans ?_, h6.trans ?_, h7.trans ?_, h8.trans ?_, ?_⟩
  · rw [a0, a1, a2]
    exact (Cert.InPRefIdeal.Hand.qs_eq _ _ _).trans (final6 m c).symm
  · rw [a0, a1, a2]
    exact (Cert.InPRefIdeal.Hand.k_eq _ _ _).trans (final7 m c).symm
  · rw [a0, a1, a2]
    exact (Cert.InPRefIdeal.Hand.v_eq _ _ _).trans (final8 m c).symm
  · rw [a0, a1, a2]
    exact (Cert.InPRefIdeal.Hand.k_eq _ _ _).trans (final9 m c).symm
  · rw [a0, a1, a2]
    exact (Cert.InPRefIdeal.Hand.v_eq _ _ _).trans (final10 m c).symm
  · rw [Cert.InPRefIdeal.Hand.res_main_v78_eq, a0, a1, a2, a3]
    exact (Cert.InPRefIdeal.Hand.lf_eq _ _ _ _).trans (final11 m c).symm
  · rw [Cert.InPRefIdeal.Hand.res_main_v79_eq, a0, a1, a2]
    exact (Cert.InPRefIdeal.Hand.u_eq _ _ _).trans (final12 m c).symm
  · rw [Cert.InPRefIdeal.Hand.res_main_v81_eq, a0, a1, a2, a4]
    exact (Cert.InPRefIdeal.Hand.z_eq _ _ _ _).trans (final13 m c).symm
  · rw [Cert.InPRefIdeal.Hand.res_main_v83_eq, a0, a1, a2, a3]
    exact (Cert.InPRefIdeal.Hand.c_eq _ _ _ _).trans (final14 m c).symm
  · exact ha

end Cert.InPIdeal.Hand

end
-- ==== Proof.FfnSpec.lean ====
module

public import proofs.«01_k».proof.Defs
public import proofs.«01_k».proof.Proof.Gen.FfnIdeal.Value
public import Idealize.ShloMosaic.Lib.Pipeline.ValueKit
public import Idealize.ShloMosaic.Lib.Pointwise

@[expose] public section

set_option maxRecDepth 16384

noncomputable section

namespace Cert.FfnIdeal.Hand

open Cert.FfnIdeal Cert.FfnIdeal.Gen Idealize.ShloMosaic Idealize.ShloMosaic.TcCoe Idealize.SL.Sem

/-! The feed-forward layer's mathematics on whole arrays, row by row. -/

/-- Entry `d` of the normalised row `ρ`. -/
def norm (x : S32768x1024.Idx → EReal) (g : S1x1024.Idx → EReal) (ρ : Fin 32768) (d : Fin 1024) : EReal :=
  x (ix2 ρ d) * Ideal.rsqrt (Ideal.div (∑ l : Fin 1024, x (ix2 ρ l) * x (ix2 ρ l)) (Ideal.ofBits .f32 0x44800000#32)
    + Ideal.ofBits .f32 0x358637BD#32) * g (ix2 0 d)

/-- The up-projection of row `ρ` at column `n`. -/
def up (x : S32768x1024.Idx → EReal) (g : S1x1024.Idx → EReal) (w : S1x1024x5632.Idx → EReal) (ρ : Fin 32768) (n : Fin 5632) : EReal :=
  ∑ d : Fin 1024, norm x g ρ d * w (ix3 0 d n)

/-- The up-projection `k` rows earlier in the same sequence of 2048 rows, zero before its start. -/
def prev (x : S32768x1024.Idx → EReal) (g : S1x1024.Idx → EReal) (w : S1x1024x5632.Idx → EReal) (k : ℕ) (ρ : Fin 32768) (n : Fin 5632) : EReal :=
  if k ≤ ρ.val % 2048 then up x g w ⟨ρ.val - k, by omega⟩ n else 0

/-- The causal convolution of width three over the rows. -/
def conv (x : S32768x1024.Idx → EReal) (g : S1x1024.Idx → EReal) (w : S1x1024x5632.Idx → EReal) (cw : S1x3x5632.Idx → EReal) (cb : S1x5632.Idx → EReal)
    (ρ : Fin 32768) (n : Fin 5632) : EReal :=
  cb (ix2 0 n) + cw (ix3 0 0 n) * prev x g w 2 ρ n + cw (ix3 0 1 n) * prev x g w 1 ρ n + cw (ix3 0 2 n) * up x g w ρ n

/-- One gate: `a` times its logistic, times `b`. -/
def gate (a b : EReal) : EReal :=
  a * Ideal.div (Ideal.ofBits .f32 0x3F800000#32) (Ideal.ofBits .f32 0x3F800000#32 + Ideal.exp (-a)) * b

/-- The gated activation of row `ρ` at hidden column `n`. -/
def act (x : S32768x1024.Idx → EReal) (g : S1x1024.Idx → EReal) (w : S1x1024x5632.Idx → EReal) (cw : S1x3x5632.Idx → EReal) (cb : S1x5632.Idx → EReal)
    (ρ : Fin 32768) (n : Fin 2816) : EReal :=
  gate (conv x g w cw cb ρ ⟨n.val, by omega⟩) (conv x g w cw cb ρ ⟨2816 + n.val, by omega⟩)

/-- The residual row plus the down-projection. -/
def hid (x : S32768x1024.Idx → EReal) (g : S1x1024.Idx → EReal) (w : S1x1024x5632.Idx → EReal) (cw : S1x3x5632.Idx → EReal) (cb : S1x5632.Idx → EReal)
    (wd : S1x2816x1024.Idx → EReal) (ρ : Fin 32768) (k : Fin 1024) : EReal :=
  x (ix2 ρ k) + ∑ n : Fin 2816, act x g w cw cb ρ n * wd (ix3 0 n k)

/-- The layer's result: that row normalised with the final gain. -/
def fin (x : S32768x1024.Idx → EReal) (g : S1x1024.Idx → EReal) (w : S1x1024x5632.Idx → EReal) (cw : S1x3x5632.Idx → EReal) (cb : S1x5632.Idx → EReal)
    (wd : S1x2816x1024.Idx → EReal) (gf : S1024.Idx → EReal) (ρ : Fin 32768) (k : Fin 1024) : EReal :=
  hid x g w cw cb wd ρ k * Ideal.rsqrt (Ideal.div (∑ l : Fin 1024, hid x g w cw cb wd ρ l * hid x g w cw cb wd ρ l) (Ideal.ofBits .f32 0x44800000#32)
    + Ideal.ofBits .f32 0x358637BD#32) * gf (ix1 k)

/-- The last two rows of a sequence's up-projection, from column `off`. -/
def last (x : S32768x1024.Idx → EReal) (g : S1x1024.Idx → EReal) (w : S1x1024x5632.Idx → EReal) (off : ℕ) (h : off + 2816 ≤ 5632) (s : Fin 16) (j : Fin 2) (n : Fin 2816) : EReal :=
  up x g w ⟨s.val * 2048 + (2046 + j.val), by omega⟩ ⟨off + n.val, by omega⟩

end Cert.FfnIdeal.Hand

end
-- ==== Proof.FfnStep.lean ====
module

public import proofs.«01_k».proof.Defs
public import proofs.«01_k».proof.Proof.FfnSpec
public import Idealize.ShloMosaic.Lib.Pipeline.ReadBack
public import Idealize.ShloMosaic.Lib.Pipeline.ValueKit
public import Idealize.ShloMosaic.Lib.Pointwise

@[expose] public section

set_option maxRecDepth 16384

noncomputable section

namespace Cert.FfnIdeal.Hand

open Cert.FfnIdeal Cert.FfnIdeal.Gen Idealize.ShloMosaic Idealize.ShloMosaic.TcCoe Idealize.SL.Sem

/-- The body's test for the first tile of a sequence. -/
def firstBit (i : grid0.Coords) : BitVec 1 :=
  Scalar.cmpi CmpIPredicate.eq
    (Scalar.select
      (Scalar.andi
        (Scalar.xori (Scalar.cmpi CmpIPredicate.slt (Scalar.remsi (BitVec.ofNat 32 (i 0).val) 4#32) 0#32) 0#1)
        (Scalar.cmpi CmpIPredicate.ne (Scalar.remsi (BitVec.ofNat 32 (i 0).val) 4#32) 0#32))
      (Scalar.addi (Scalar.remsi (BitVec.ofNat 32 (i 0).val) 4#32) 4#32)
      (Scalar.remsi (BitVec.ofNat 32 (i 0).val) 4#32)) 0#32

/-- Rows `d …` of the scratch whose first 16 rows are `B` and whose other 512 rows are `A`. -/
def sh (d : ℕ) (hd : d ≤ 16) (A : FVec Ideal S512x256 .f32) (B : FVec Ideal S16x256 .f32) : FVec Ideal S512x256 .f32 :=
  fun j => if h : 16 ≤ d + (j 0).val then A (ix2 ⟨d + (j 0).val - 16, by have := (j 0).isLt; change (j 0).val < 512 at this; omega⟩ (j 1))
    else B (ix2 ⟨d + (j 0).val, by omega⟩ (j 1))

theorem canon_at (A : FVec Ideal S512x256 .f32) (B : FVec Ideal S16x256 .f32) (L : List (View.Piece (Elt Ideal) S528x256 .f32)) (h1 h2) (r : Fin 528) (n : Fin 256) :
    View.canon ((⟨Rect.unit (s := S528x256) ![16, 0] S512x256.size h1, A⟩ : View.Piece (Elt Ideal) S528x256 .f32) :: (⟨Rect.unit (s := S528x256) ![0, 0] S16x256.size h2, B⟩ : View.Piece (Elt Ideal) S528x256 .f32) :: L) (ix2 r n : S528x256.Idx)
      = if h : 16 ≤ r.val then A (ix2 ⟨r.val - 16, by omega⟩ n) else B (ix2 ⟨r.val, by omega⟩ n) := by
  split
  · rename_i h
    rw [show (ix2 r n : S528x256.Idx) = (Rect.unit (s := S528x256) ![16, 0] S512x256.size h1).emb (ix2 ⟨r.val - 16, by omega⟩ n) from ?_]
    · exact View.canon_cons_emb _ _ _ _
    · funext a; apply Fin.ext; revert a; rw [Fin.forall_fin_two]; constructor
      · show r.val = 16 + 1 * (r.val - 16); omega
      · simp [Rect.unit, Rect.emb]
  · rename_i h
    rw [View.canon_cons_of_not_mem]
    · rw [show (ix2 r n : S528x256.Idx) = (Rect.unit (s := S528x256) ![0, 0] S16x256.size h2).emb (ix2 ⟨r.val, by omega⟩ n) from ?_]
      · exact View.canon_cons_emb _ _ _ _
      · funext a; apply Fin.ext; revert a; rw [Fin.forall_fin_two]; constructor <;> simp [Rect.unit, Rect.emb]
    · intro hm
      have := (Rect.mem_set_unit (inb := h1).mp hm 0).1
      have h3 : (16:ℕ) ≤ r.val := this
      omega

theorem sh_apply (d : ℕ) (hd : d ≤ 16) (A : FVec Ideal S512x256 .f32) (B : FVec Ideal S16x256 .f32) (r : Fin 512) (n : Fin 256) :
    sh d hd A B (ix2 r n) = if h : 16 ≤ d + r.val then A (ix2 ⟨d + r.val - 16, by omega⟩ n) else B (ix2 ⟨d + r.val, by omega⟩ n) := rfl

/-- A load of 512 rows from row `d` of the scratch. -/
theorem readCov_rows {κ : Kind} {sp : Space} (v : View sig κ sp S528x256 .f32) (d : ℕ) (hd : d ≤ 16) (A : FVec Ideal S512x256 .f32) (B : FVec Ideal S16x256 .f32)
    (L : List (View.Piece (Elt Ideal) S528x256 .f32)) (h1 h2 h3) :
    v.readCov ((⟨Rect.unit (s := S528x256) ![16, 0] S512x256.size h1, A⟩ : View.Piece (Elt Ideal) S528x256 .f32) :: (⟨Rect.unit (s := S528x256) ![0, 0] S16x256.size h2, B⟩ : View.Piece (Elt Ideal) S528x256 .f32) :: L)
      (Rect.unit (s := S528x256) ![d, 0] S512x256.size h3).toLoadRect = sh d hd A B := by
  rw [View.readCov_eq_canon']
  funext j
  idx_vars j
  rw [show (Rect.unit (s := S528x256) ![d, 0] S512x256.size h3).toLoadRect.idx (ix2 j0 j1) = (ix2 ⟨d + j0.val, by omega⟩ j1 : S528x256.Idx) from ?_]
  · exact canon_at A B L h1 h2 _ _
  · funext a; apply Fin.ext; revert a; rw [Fin.forall_fin_two]; constructor
    · show d + 1 * j0.val = d + j0.val; omega
    · show 0 + 1 * j1.val = j1.val; omega

/-- A load of the scratch's last two rows. -/
theorem readCov_last {κ : Kind} {sp : Space} (v : View sig κ sp S528x256 .f32) (A : FVec Ideal S512x256 .f32)
    (L : List (View.Piece (Elt Ideal) S528x256 .f32)) (h1 h3) :
    v.readCov ((⟨Rect.unit (s := S528x256) ![16, 0] S512x256.size h1, A⟩ : View.Piece (Elt Ideal) S528x256 .f32) :: L)
      (Rect.unit (s := S528x256) ![526, 0] S2x256.size h3).toLoadRect = fun j => A (ix2 ⟨510 + (j 0).val, by have := (j 0).isLt; change (j 0).val < 2 at this; omega⟩ (j 1)) := by
  rw [View.readCov_eq_canon']
  funext j
  idx_vars j
  rw [show (Rect.unit (s := S528x256) ![526, 0] S2x256.size h3).toLoadRect.idx (ix2 j0 j1) = (Rect.unit (s := S528x256) ![16, 0] S512x256.size h1).emb (ix2 ⟨510 + j0.val, by omega⟩ j1) from ?_]
  · exact View.canon_cons_emb _ _ _ _
  · funext a; apply Fin.ext; revert a; rw [Fin.forall_fin_two]; constructor
    · show 526 + 1 * j0.val = 16 + 1 * (510 + j0.val); omega
    · rfl

/-- The convolution of one column tile of the up-projection, as the body computes it. -/
def convV (A : FVec Ideal S512x256 .f32) (B : FVec Ideal S16x256 .f32) (cw : Vec Ideal S3x256 .f32) (cb : Vec Ideal S1x256 .f32) : FVec Ideal S512x256 .f32 :=
  k0_pay10 cw cb (sh 14 (by omega) A B) (sh 15 (by omega) A B) A

/-- One column tile's contribution, added to the accumulator. -/
def step (hd : BitVec 1) (xpn : FVec Ideal S16x1024 .bf16) (xn : FVec Ideal S512x1024 .bf16) (wg wv : Vec Ideal S1024x256 .bf16)
    (cg cv : Vec Ideal S3x256 .f32) (bg bv : Vec Ideal S1x256 .f32) (wd : Vec Ideal S256x1024 .bf16) (acc : Vec Ideal S512x1024 .f32) : FVec Ideal S512x1024 .f32 :=
  let g := convV (k0_pay9 xn wg) (k0_pay13 hd xpn wg) cg bg
  let v := convV (k0_pay9 xn wv) (k0_pay13 hd xpn wv) cv bv
  shapeCast S512x1024 (addf acc (matmul dot_S512x256_S256x1024_S512x1024_1_0_0_1_n_n none
    (truncf .bf16 (mulf (mulf g (divf (broadcast S512x256 (Scalar.ofBits .f32 0x3F800000#32)) (addf (broadcast S512x256 (Scalar.ofBits .f32 0x3F800000#32))
      (exp (subf (broadcast S512x256 (Scalar.ofBits .f32 0x00000000#32)) g))))) v) bitsLt_bf16_f32)
    (shapeCast S256x1024 (wd : FVec Ideal S256x1024 .bf16) shapeCasts_S256x1024_S256x1024 : FVec Ideal S256x1024 .bf16) (constant S512x1024 .f32 0x00000000#32))) shapeCasts_S512x1024_S512x1024

theorem inb2 {R C a b p q : ℕ} (h : a + p ≤ R) (h' : b + q ≤ C) :
    ∀ i, (![a, b] : Fin 2 → ℕ) i + (⟨2, ![p, q]⟩ : Shape).size i ≤ (⟨2, ![R, C]⟩ : Shape).size i := by
  rw [Fin.forall_fin_two]; exact ⟨h, h'⟩

variable (m : (ℓ : Loc nD τ sig) → Buf (Elt Ideal) ℓ)

/-- The column tile that starts at hidden column `a`, at grid point `t`. -/
def tile (c : Dev nD) (t : Fin cfg0.N) (a : ℕ) (ha : a + 256 ≤ 2816) (acc : Vec Ideal S512x1024 .f32) : FVec Ideal S512x1024 .f32 :=
  step (firstBit (grid0.coords t)) (k0_pay5 (k0_pay4 (iblk m c 2 t) (iblk m c 1 t))) (k0_pay3 (iblk m c 0 t) (iblk m c 2 t))
    (View.ld (iblk m c 3 t) (Rect.unit (s := S1024x5632) ![0, a] ![1024, 256] (inb2 (by omega) (by omega))))
    (View.ld (iblk m c 3 t) (Rect.unit (s := S1024x5632) ![0, 2816 + a] ![1024, 256] (inb2 (by omega) (by omega))))
    (View.ld (iblk m c 4 t) (Rect.unit (s := S3x5632) ![0, a] ![3, 256] (inb2 (by omega) (by omega))))
    (View.ld (iblk m c 4 t) (Rect.unit (s := S3x5632) ![0, 2816 + a] ![3, 256] (inb2 (by omega) (by omega))))
    (View.ld (iblk m c 5 t) (Rect.unit (s := S1x5632) ![0, a] ![1, 256] (inb2 (by omega) (by omega))))
    (View.ld (iblk m c 5 t) (Rect.unit (s := S1x5632) ![0, 2816 + a] ![1, 256] (inb2 (by omega) (by omega))))
    (View.ld (iblk m c 6 t) (Rect.unit (s := S2816x1024) ![a, 0] ![256, 1024] (inb2 (by omega) (by omega)))) acc

/-- The accumulator after all eleven column tiles. -/
def total (c : Dev nD) (t : Fin cfg0.N) : FVec Ideal S512x1024 .f32 :=
  tile m c t 2560 (by omega) <| tile m c t 2304 (by omega) <| tile m c t 2048 (by omega) <| tile m c t 1792 (by omega) <|
  tile m c t 1536 (by omega) <| tile m c t 1280 (by omega) <| tile m c t 1024 (by omega) <| tile m c t 768 (by omega) <|
  tile m c t 512 (by omega) <| tile m c t 256 (by omega) <| tile m c t 0 (by omega) <| k0_pay6 (iblk m c 0 t)

set_option pp.proofs false
/-- What the body leaves in the result's block is the accumulator, normalised. -/
theorem after8 (c : Dev nD) (t : Fin cfg0.N) : (dats m 0 c).after 8 t = k0_pay1 (total m c t) (iblk m c 7 t) := by
  rw [after0_8]
  unfold outsAt0
  frame_open
  simp (disch := decide) only [↓ View.readCov_skip, ↓ View.readCov_cons_toLoadRect, ↓ View.readCov_fill]
  frame_out
  simp only [readCov_rows _ 14 (by omega), readCov_rows _ 15 (by omega)]
  show _ = k0_pay1 (total m c t) (iblk m c 7 t)
  refine congrArg (fun z => k0_pay1 z (iblk m c 7 t)) ?_
  rfl

end Cert.FfnIdeal.Hand

end
-- ==== Proof.FfnTile.lean ====
module

public import proofs.«01_k».proof.Defs
public import proofs.«01_k».proof.Proof.FfnStep
public import Idealize.ShloMosaic.Lib.Pipeline.ValueKit
public import Idealize.ShloMosaic.Lib.Pointwise

@[expose] public section

set_option maxRecDepth 16384

noncomputable section

namespace Cert.FfnIdeal.Hand

open Cert.FfnIdeal Cert.FfnIdeal.Gen Idealize.ShloMosaic Idealize.ShloMosaic.TcCoe Idealize.SL.Sem

/-! One column tile at an index. -/

theorem conv_apply (A : FVec Ideal S512x256 .f32) (B : FVec Ideal S16x256 .f32) (cw : Vec Ideal S3x256 .f32) (cb : Vec Ideal S1x256 .f32) (r : Fin 512) (n : Fin 256) :
    convV A B cw cb (ix2 r n) = cb (ix2 0 n) + cw (ix2 0 n) * sh 14 (by omega) A B (ix2 r n) + cw (ix2 1 n) * sh 15 (by omega) A B (ix2 r n) + cw (ix2 2 n) * A (ix2 r n) := by
  unfold convV
  pointwise [k0_pay10]

theorem hi_apply (xn : FVec Ideal S512x1024 .bf16) (w : Vec Ideal S1024x256 .bf16) (r : Fin 512) (n : Fin 256) :
    k0_pay9 xn w (ix2 r n) = ∑ d : Fin 1024, xn (ix2 r d) * w (ix2 d n) := by
  pointwise [k0_pay9, k0_pay7]

theorem lo_apply (hd : BitVec 1) (xpn : FVec Ideal S16x1024 .bf16) (w : Vec Ideal S1024x256 .bf16) (q : Fin 16) (n : Fin 256) :
    k0_pay13 hd xpn w (ix2 q n) = if hd = 1#1 then 0 else ∑ d : Fin 1024, xpn (ix2 q d) * w (ix2 d n) := by
  pointwise [k0_pay13, k0_pay12]
  rfl

theorem step_apply (hd : BitVec 1) (xpn : FVec Ideal S16x1024 .bf16) (xn : FVec Ideal S512x1024 .bf16) (wg wv : Vec Ideal S1024x256 .bf16)
    (cg cv : Vec Ideal S3x256 .f32) (bg bv : Vec Ideal S1x256 .f32) (wd : Vec Ideal S256x1024 .bf16) (acc : Vec Ideal S512x1024 .f32) (r : Fin 512) (k : Fin 1024) :
    step hd xpn xn wg wv cg cv bg bv wd acc (ix2 r k)
      = acc (ix2 r k) + ∑ n : Fin 256, gate (convV (k0_pay9 xn wg) (k0_pay13 hd xpn wg) cg bg (ix2 r n)) (convV (k0_pay9 xn wv) (k0_pay13 hd xpn wv) cv bv (ix2 r n)) * wd (ix2 n k) := by
  unfold step
  generalize convV (k0_pay9 xn wg) (k0_pay13 hd xpn wg) cg bg = g
  generalize convV (k0_pay9 xn wv) (k0_pay13 hd xpn wv) cv bv = v
  pointwise [gate]
  simp only [zero_sub]

variable (m : (ℓ : Loc nD τ sig) → Buf (Elt Ideal) ℓ)

theorem idx : ∀ t : Fin cfg0.N, win0_0.index t = ![t.val, 0] ∧ win0_1.index t = ![t.val * 32 - 1, 0] ∧ win0_2.index t = ![0, 0]
    ∧ win0_3.index t = ![0, 0] ∧ win0_4.index t = ![0, 0] ∧ win0_5.index t = ![0, 0]
    ∧ win0_6.index t = ![0, 0] ∧ win0_7.index t = ![0, 0] ∧ win0_8.index t = ![t.val, 0] ∧ win0_9.index t = ![t.val / 4, 0, 0] ∧ win0_10.index t = ![t.val / 4, 0, 0] :=
  (by decide +kernel : ∀ t : Fin grid0.N, _)

theorem first_eq : ∀ t : Fin cfg0.N, firstBit (grid0.coords t) = if t.val % 4 = 0 then 1#1 else 0#1 :=
  (by decide +kernel : ∀ t : Fin grid0.N, _)

theorem tlt (t : Fin cfg0.N) : t.val < 64 := lt_of_lt_of_eq t.isLt (by decide +kernel : cfg0.N = 64)

theorem blk0 (c : Dev nD) (t : Fin cfg0.N) (a : Fin 512) (k : Fin 1024) : iblk m c 0 t (ix2 a k)
    = m ((c : Thread nD τ).loc main_arg0) (ix2 ⟨t.val * 512 + a.val, by have := tlt t; omega⟩ k) := by
  blk_ext! [iblk, V, idx t]

theorem blk1 (c : Dev nD) (t : Fin cfg0.N) (a : Fin 16) (k : Fin 1024) : iblk m c 1 t (ix2 a k)
    = m ((c : Thread nD τ).loc main_arg0) (ix2 ⟨(t.val * 32 - 1) * 16 + a.val, by have := tlt t; omega⟩ k) := by
  blk_ext! [iblk, V, idx t]

theorem blk2 (c : Dev nD) (t : Fin cfg0.N) (k : Fin 1024) : iblk m c 2 t (ix2 0 k) = m ((c : Thread nD τ).loc main_arg1) (ix2 0 k) := by
  blk_ext! [iblk, V, idx t]

theorem blk3 (c : Dev nD) (t : Fin cfg0.N) (d : Fin 1024) (k : Fin 5632) : iblk m c 3 t (ix2 d k) = m ((c : Thread nD τ).loc main_arg2) (ix3 0 d k) := by
  blk_ext! [iblk, V, idx t]

theorem blk4 (c : Dev nD) (t : Fin cfg0.N) (d : Fin 3) (k : Fin 5632) : iblk m c 4 t (ix2 d k) = m ((c : Thread nD τ).loc main_arg3) (ix3 0 d k) := by
  blk_ext! [iblk, V, idx t]

theorem blk5 (c : Dev nD) (t : Fin cfg0.N) (k : Fin 5632) : iblk m c 5 t (ix2 0 k) = m ((c : Thread nD τ).loc main_arg4) (ix2 0 k) := by
  blk_ext! [iblk, V, idx t]

theorem blk6 (c : Dev nD) (t : Fin cfg0.N) (n : Fin 2816) (k : Fin 1024) : iblk m c 6 t (ix2 n k) = m ((c : Thread nD τ).loc main_arg5) (ix3 0 n k) := by
  blk_ext! [iblk, V, idx t]

theorem blk7 (c : Dev nD) (t : Fin cfg0.N) (k : Fin 1024) : iblk m c 7 t (ix2 0 k) = m ((c : Thread nD τ).loc main_arg6) (ix1 k) := by
  blk_ext! [iblk, V, idx t]

theorem ld2 {R C p q : ℕ} {e : EltTy} (X : Vec Ideal (⟨2, ![R, C]⟩ : Shape) e) (a b : ℕ) (h : a + p ≤ R) (h' : b + q ≤ C) (i : Fin p) (j : Fin q) (hh) :
    View.ld X (Rect.unit (s := (⟨2, ![R, C]⟩ : Shape)) ![a, b] (![p, q] : Fin 2 → ℕ) hh) (ix2 i j : (⟨2, ![p, q]⟩ : Shape).Idx)
      = X (ix2 ⟨a + i.val, by omega⟩ ⟨b + j.val, by omega⟩) := by
  refine congrArg X ?_
  funext k; apply Fin.ext; revert k; rw [Fin.forall_fin_two]; constructor
  · show a + 1 * i.val = a + i.val; omega
  · show b + 1 * j.val = b + j.val; omega

/-- The normalised rows of a tile. -/
theorem xn_apply (c : Dev nD) (t : Fin cfg0.N) (r : Fin 512) (d : Fin 1024) : k0_pay3 (iblk m c 0 t) (iblk m c 2 t) (ix2 r d)
    = norm (m ((c : Thread nD τ).loc main_arg0)) (m ((c : Thread nD τ).loc main_arg1)) ⟨t.val * 512 + r.val, by have := tlt t; omega⟩ d := by
  pointwise [k0_pay3, k0_pay2]
  simp only [blk0, blk2]
  rfl

/-- The normalised rows just before a tile. -/
theorem xpn_apply (c : Dev nD) (t : Fin cfg0.N) (r : Fin 16) (d : Fin 1024) : k0_pay5 (k0_pay4 (iblk m c 2 t) (iblk m c 1 t)) (ix2 r d)
    = norm (m ((c : Thread nD τ).loc main_arg0)) (m ((c : Thread nD τ).loc main_arg1)) ⟨(t.val * 32 - 1) * 16 + r.val, by have := tlt t; omega⟩ d := by
  pointwise [k0_pay5, k0_pay4, k0_pay2]
  simp only [blk1, blk2]
  rfl

end Cert.FfnIdeal.Hand

end
-- ==== Proof.FfnValue.lean ====
module

public import proofs.«01_k».proof.Defs
public import proofs.«01_k».proof.Proof.FfnTile
public import Idealize.ShloMosaic.Lib.Pipeline.ValueKit
public import Idealize.ShloMosaic.Lib.Pointwise

@[expose] public section

set_option maxRecDepth 16384

noncomputable section

namespace Cert.FfnIdeal.Hand

open Cert.FfnIdeal Cert.FfnIdeal.Gen Idealize.ShloMosaic Idealize.ShloMosaic.TcCoe Idealize.SL.Sem

/-! One column tile of one grid point, on the whole arrays. -/

variable (m : (ℓ : Loc nD τ sig) → Buf (Elt Ideal) ℓ)

/-- A column tile of the up-projection. -/
abbrev wcol (c : Dev nD) (t : Fin cfg0.N) (b : ℕ) (hb : b + 256 ≤ 5632) : Vec Ideal S1024x256 .bf16 :=
  View.ld (iblk m c 3 t) (Rect.unit (s := S1024x5632) ![0, b] ![1024, 256] (inb2 (by omega) (by omega)))

theorem wcol_apply (c : Dev nD) (t : Fin cfg0.N) (b : ℕ) (hb : b + 256 ≤ 5632) (d : Fin 1024) (n : Fin 256) :
    wcol m c t b hb (ix2 d n) = m ((c : Thread nD τ).loc main_arg2) (ix3 0 d ⟨b + n.val, by omega⟩) := by
  unfold wcol
  rw [ld2 _ 0 b (by omega) (by omega), blk3]
  simp only [Nat.zero_add]

theorem hi_up (c : Dev nD) (t : Fin cfg0.N) (b : ℕ) (hb : b + 256 ≤ 5632) (r : Fin 512) (n : Fin 256) :
    k0_pay9 (k0_pay3 (iblk m c 0 t) (iblk m c 2 t)) (wcol m c t b hb) (ix2 r n)
      = up (m ((c : Thread nD τ).loc main_arg0)) (m ((c : Thread nD τ).loc main_arg1)) (m ((c : Thread nD τ).loc main_arg2))
          ⟨t.val * 512 + r.val, by have := tlt t; omega⟩ ⟨b + n.val, by omega⟩ := by
  rw [hi_apply]
  unfold up
  refine Finset.sum_congr rfl fun d _ => ?_
  rw [xn_apply, wcol_apply]

theorem lo_up (c : Dev nD) (t : Fin cfg0.N) (b : ℕ) (hb : b + 256 ≤ 5632) (r : Fin 16) (n : Fin 256) :
    k0_pay13 (firstBit (grid0.coords t)) (k0_pay5 (k0_pay4 (iblk m c 2 t) (iblk m c 1 t))) (wcol m c t b hb) (ix2 r n)
      = if t.val % 4 = 0 then 0 else up (m ((c : Thread nD τ).loc main_arg0)) (m ((c : Thread nD τ).loc main_arg1)) (m ((c : Thread nD τ).loc main_arg2))
          ⟨(t.val * 32 - 1) * 16 + r.val, by have := tlt t; omega⟩ ⟨b + n.val, by omega⟩ := by
  rw [lo_apply, first_eq t]
  by_cases h : t.val % 4 = 0
  · simp only [h, if_true]
  · simp only [h, if_false]
    rw [if_neg (by decide)]
    unfold up
    refine Finset.sum_congr rfl fun d _ => ?_
    rw [xpn_apply, wcol_apply]

/-- The rows shifted back by `k` are the projection `k` rows earlier. -/
theorem sh_prev (c : Dev nD) (t : Fin cfg0.N) (b : ℕ) (hb : b + 256 ≤ 5632) (k : ℕ) (hk : k ≤ 16) (r : Fin 512) (n : Fin 256) :
    sh (16 - k) (by omega) (k0_pay9 (k0_pay3 (iblk m c 0 t) (iblk m c 2 t)) (wcol m c t b hb))
        (k0_pay13 (firstBit (grid0.coords t)) (k0_pay5 (k0_pay4 (iblk m c 2 t) (iblk m c 1 t))) (wcol m c t b hb)) (ix2 r n)
      = prev (m ((c : Thread nD τ).loc main_arg0)) (m ((c : Thread nD τ).loc main_arg1)) (m ((c : Thread nD τ).loc main_arg2)) k
          ⟨t.val * 512 + r.val, by have := tlt t; omega⟩ ⟨b + n.val, by omega⟩ := by
  have := tlt t
  rw [sh_apply]
  unfold prev
  split
  · rename_i h
    rw [hi_up, if_pos (by show k ≤ (t.val * 512 + r.val) % 2048; omega)]
    congr 1
    apply Fin.ext
    show t.val * 512 + (16 - k + r.val - 16) = t.val * 512 + r.val - k
    omega
  · rename_i h
    rw [lo_up]
    by_cases h4 : t.val % 4 = 0
    · rw [if_pos h4, if_neg (by show ¬ k ≤ (t.val * 512 + r.val) % 2048; omega)]
    · rw [if_neg h4, if_pos (by show k ≤ (t.val * 512 + r.val) % 2048; omega)]
      congr 1
      apply Fin.ext
      show (t.val * 32 - 1) * 16 + (16 - k + r.val) = t.val * 512 + r.val - k
      omega

/-- A column tile of the convolution. -/
theorem conv_tile (c : Dev nD) (t : Fin cfg0.N) (b : ℕ) (hb : b + 256 ≤ 5632) (r : Fin 512) (n : Fin 256) :
    convV (k0_pay9 (k0_pay3 (iblk m c 0 t) (iblk m c 2 t)) (wcol m c t b hb))
        (k0_pay13 (firstBit (grid0.coords t)) (k0_pay5 (k0_pay4 (iblk m c 2 t) (iblk m c 1 t))) (wcol m c t b hb))
        (View.ld (iblk m c 4 t) (Rect.unit (s := S3x5632) ![0, b] ![3, 256] (inb2 (by omega) (by omega))))
        (View.ld (iblk m c 5 t) (Rect.unit (s := S1x5632) ![0, b] ![1, 256] (inb2 (by omega) (by omega)))) (ix2 r n)
      = conv (m ((c : Thread nD τ).loc main_arg0)) (m ((c : Thread nD τ).loc main_arg1)) (m ((c : Thread nD τ).loc main_arg2))
          (m ((c : Thread nD τ).loc main_arg3)) (m ((c : Thread nD τ).loc main_arg4))
          ⟨t.val * 512 + r.val, by have := tlt t; omega⟩ ⟨b + n.val, by omega⟩ := by
  rw [conv_apply, hi_up]
  have e2 := sh_prev m c t b hb 2 (by omega) r n
  have e1 := sh_prev m c t b hb 1 (by omega) r n
  rw [show sh 14 _ _ _ (ix2 r n) = _ from e2, show sh 15 _ _ _ (ix2 r n) = _ from e1]
  rw [ld2 _ 0 b (by omega) (by omega) (0 : Fin 3) n, ld2 _ 0 b (by omega) (by omega) (1 : Fin 3) n, ld2 _ 0 b (by omega) (by omega) (2 : Fin 3) n, ld2 _ 0 b (by omega) (by omega) (0 : Fin 1) n]
  rw [blk4, blk4, blk4]
  rw [show iblk m c 5 t (ix2 ⟨0 + (0 : Fin 1).val, by omega⟩ ⟨b + n.val, by omega⟩) = _ from blk5 m c t ⟨b + n.val, by omega⟩]
  rfl

theorem tile_apply (c : Dev nD) (t : Fin cfg0.N) (a : ℕ) (ha : a + 256 ≤ 2816) (acc : Vec Ideal S512x1024 .f32) (r : Fin 512) (k : Fin 1024) :
    tile m c t a ha acc (ix2 r k) = acc (ix2 r k) + ∑ n : Fin 256,
      act (m ((c : Thread nD τ).loc main_arg0)) (m ((c : Thread nD τ).loc main_arg1)) (m ((c : Thread nD τ).loc main_arg2))
          (m ((c : Thread nD τ).loc main_arg3)) (m ((c : Thread nD τ).loc main_arg4))
          ⟨t.val * 512 + r.val, by have := tlt t; omega⟩ ⟨a + n.val, by omega⟩ * m ((c : Thread nD τ).loc main_arg5) (ix3 0 ⟨a + n.val, by omega⟩ k) := by
  unfold tile
  rw [step_apply]
  refine congrArg (fun z => acc (ix2 r k) + z) ?_
  refine Finset.sum_congr rfl fun n _ => ?_
  have e1 := conv_tile m c t a (by omega) r n
  have e2 := conv_tile m c t (2816 + a) (by omega) r n
  rw [e1, e2]
  rw [ld2 _ a 0 (by omega) (by omega), blk6]
  unfold act
  simp only [Nat.zero_add, Nat.add_assoc]

/-- A sum over `a + 256` columns is the sum over the first `a` and over the last 256. -/
theorem sum_next (f : ℕ → EReal) (a : ℕ) : ∑ n : Fin a, f n.val + ∑ n : Fin 256, f (a + n.val) = ∑ n : Fin (a + 256), f n.val := by
  rw [Fin.sum_univ_add]; rfl

theorem total_apply (c : Dev nD) (t : Fin cfg0.N) (r : Fin 512) (k : Fin 1024) :
    total m c t (ix2 r k) = hid (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          ⟨t.val * 512 + r.val, by have := tlt t; omega⟩ k := by
  unfold total hid
  simp only [tile_apply]
  rw [show k0_pay6 (iblk m c 0 t) (ix2 r k) = m ((c : Thread nD τ).loc main_arg0) (ix2 ⟨t.val * 512 + r.val, by have := tlt t; omega⟩ k) from by
    pointwise [k0_pay6, k0_pay2]; exact blk0 m c t r k]
  let f : ℕ → EReal := fun n => if h : n < 2816 then
      act (m ((c : Thread nD τ).loc main_arg0)) (m ((c : Thread nD τ).loc main_arg1)) (m ((c : Thread nD τ).loc main_arg2))
          (m ((c : Thread nD τ).loc main_arg3)) (m ((c : Thread nD τ).loc main_arg4))
          ⟨t.val * 512 + r.val, by have := tlt t; omega⟩ ⟨n, h⟩ * m ((c : Thread nD τ).loc main_arg5) (ix3 0 ⟨n, h⟩ k) else 0
  have hf : ∀ (a : ℕ) (ha : a + 256 ≤ 2816), ∑ n : Fin 256,
      act (m ((c : Thread nD τ).loc main_arg0)) (m ((c : Thread nD τ).loc main_arg1)) (m ((c : Thread nD τ).loc main_arg2))
          (m ((c : Thread nD τ).loc main_arg3)) (m ((c : Thread nD τ).loc main_arg4))
          ⟨t.val * 512 + r.val, by have := tlt t; omega⟩ ⟨a + n.val, by omega⟩ * m ((c : Thread nD τ).loc main_arg5) (ix3 0 ⟨a + n.val, by omega⟩ k)
        = ∑ n : Fin 256, f (a + n.val) := fun a ha => Finset.sum_congr rfl fun n _ => by
    show _ = dite _ _ _
    rw [dif_pos (by omega)]
  have hg : ∑ n : Fin 2816,
      act (m ((c : Thread nD τ).loc main_arg0)) (m ((c : Thread nD τ).loc main_arg1)) (m ((c : Thread nD τ).loc main_arg2))
          (m ((c : Thread nD τ).loc main_arg3)) (m ((c : Thread nD τ).loc main_arg4))
          ⟨t.val * 512 + r.val, by have := tlt t; omega⟩ n * m ((c : Thread nD τ).loc main_arg5) (ix3 0 n k)
        = ∑ n : Fin 2816, f n.val := Finset.sum_congr rfl fun n _ => by
    show _ = dite _ _ _
    rw [dif_pos n.isLt]
  rw [hg, hf 0 (by omega), hf 256 (by omega), hf 512 (by omega), hf 768 (by omega), hf 1024 (by omega), hf 1280 (by omega), hf 1536 (by omega),
    hf 1792 (by omega), hf 2048 (by omega), hf 2304 (by omega), hf 2560 (by omega)]
  rw [← sum_next f 2560, ← sum_next f 2304, ← sum_next f 2048, ← sum_next f 1792, ← sum_next f 1536, ← sum_next f 1280, ← sum_next f 1024,
    ← sum_next f 768, ← sum_next f 512, ← sum_next f 256, ← sum_next f 0]
  simp only [Finset.univ_eq_empty, Finset.sum_empty, zero_add, add_assoc]

theorem emb8 (t : Fin cfg0.N) (a : Fin 512) (k : Fin 1024) :
    (win0_8.blk t).view.emb (ix2 a k) = (ix2 ⟨t.val * 512 + a.val, by have := tlt t; omega⟩ k : S32768x1024.Idx) := by
  blk_ext [idx t]

/-- Result 0 after the run. -/
theorem final8 (c : Dev nD) : (dats m 0 c).arrAt 8 (cfgs 0).N
    = fun i => fin (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) (i 0) (i 1) := by
  refine (dats m 0 c).arrAt_eq_of_covers 8 _ (by decide +kernel) fun t hf y => ?_
  blk_simp
  rw [after8]
  idx_vars y
  pointwise [k0_pay1]
  simp only [total_apply, blk7]
  rw [show ((View.whole main_v10_0).slice (win0_8.rect t)).emb (ix2 y0 y1) = _ from emb8 t y0 y1]
  rfl

end Cert.FfnIdeal.Hand

end
-- ==== Proof.FfnLast.lean ====
module

public import proofs.«01_k».proof.Defs
public import proofs.«01_k».proof.Proof.FfnTile
public import proofs.«01_k».proof.Proof.FfnValue
public import Idealize.ShloMosaic.Lib.Pipeline.ValueKit
public import Idealize.ShloMosaic.Lib.Pointwise

@[expose] public section

set_option maxRecDepth 16384

noncomputable section

namespace Cert.FfnIdeal.Hand

open Cert.FfnIdeal Cert.FfnIdeal.Gen Idealize.ShloMosaic Idealize.ShloMosaic.TcCoe Idealize.SL.Sem

/-! The last two rows of a sequence's up-projection. -/

variable (m : (ℓ : Loc nD τ sig) → Buf (Elt Ideal) ℓ)

/-- One stored column piece: the last two rows of that column tile. -/
theorem piece_up (c : Dev nD) (t : Fin cfg0.N) (b : ℕ) (hb : b + 256 ≤ 5632) (x : S1x2x256.Idx) (j : Fin 2) (n : Fin 5632) (hj : j.val = (x 1).val) (hn : n.val = b + (x 2).val) :
    shapeCast S1x2x256 (fun j : S2x256.Idx => k0_pay9 (k0_pay3 (iblk m c 0 t) (iblk m c 2 t)) (wcol m c t b hb)
        (ix2 ⟨510 + (j 0).val, by have := (j 0).isLt; change (j 0).val < 2 at this; omega⟩ (j 1)) : FVec Ideal S2x256 .f32) shapeCasts_S2x256_S1x2x256 x
      = up (m ((c : Thread nD τ).loc main_arg0)) (m ((c : Thread nD τ).loc main_arg1)) (m ((c : Thread nD τ).loc main_arg2))
          ⟨t.val * 512 + (510 + j.val), by have := tlt t; omega⟩ n := by
  idx_vars x
  obtain rfl : j = x1 := Fin.ext hj
  rw [show n = (⟨b + x2.val, by omega⟩ : Fin 5632) from Fin.ext hn]
  pointwise
  exact hi_up m c t b hb _ _

set_option maxHeartbeats 1000000 in
/-- What the body leaves in result 1's block. -/
theorem after9 (c : Dev nD) (t : Fin cfg0.N) (y : S1x2x2816.Idx) : (dats m 0 c).after 9 t y
      = up (m ((c : Thread nD τ).loc main_arg0)) (m ((c : Thread nD τ).loc main_arg1)) (m ((c : Thread nD τ).loc main_arg2))
          ⟨t.val * 512 + (510 + (y 1).val), by have := tlt t; have := (y 1).isLt; change (y 1).val < 2 at this; omega⟩
          ⟨0 + (y 2).val, by have := (y 2).isLt; change (y 2).val < 2816 at this; omega⟩ := by
  rw [after0_9]
  unfold outsAt0
  frame_open
  simp (disch := decide) only [↓ View.readCov_skip, ↓ View.readCov_cons_toLoadRect, ↓ View.readCov_fill]
  frame_out
  canon_tiles x h
  · erw [readCov_last]; exact piece_up m c t 2560 (by omega) x ⟨(y 1).val, by omega⟩ ⟨0 + (y 2).val, by omega⟩ (by omega) (by show 0 + (y 2).val = _; omega)
  · erw [readCov_last]; exact piece_up m c t 2304 (by omega) x ⟨(y 1).val, by omega⟩ ⟨0 + (y 2).val, by omega⟩ (by omega) (by show 0 + (y 2).val = _; omega)
  · erw [readCov_last]; exact piece_up m c t 2048 (by omega) x ⟨(y 1).val, by omega⟩ ⟨0 + (y 2).val, by omega⟩ (by omega) (by show 0 + (y 2).val = _; omega)
  · erw [readCov_last]; exact piece_up m c t 1792 (by omega) x ⟨(y 1).val, by omega⟩ ⟨0 + (y 2).val, by omega⟩ (by omega) (by show 0 + (y 2).val = _; omega)
  · erw [readCov_last]; exact piece_up m c t 1536 (by omega) x ⟨(y 1).val, by omega⟩ ⟨0 + (y 2).val, by omega⟩ (by omega) (by show 0 + (y 2).val = _; omega)
  · erw [readCov_last]; exact piece_up m c t 1280 (by omega) x ⟨(y 1).val, by omega⟩ ⟨0 + (y 2).val, by omega⟩ (by omega) (by show 0 + (y 2).val = _; omega)
  · erw [readCov_last]; exact piece_up m c t 1024 (by omega) x ⟨(y 1).val, by omega⟩ ⟨0 + (y 2).val, by omega⟩ (by omega) (by show 0 + (y 2).val = _; omega)
  · erw [readCov_last]; exact piece_up m c t 768 (by omega) x ⟨(y 1).val, by omega⟩ ⟨0 + (y 2).val, by omega⟩ (by omega) (by show 0 + (y 2).val = _; omega)
  · erw [readCov_last]; exact piece_up m c t 512 (by omega) x ⟨(y 1).val, by omega⟩ ⟨0 + (y 2).val, by omega⟩ (by omega) (by show 0 + (y 2).val = _; omega)
  · erw [readCov_last]; exact piece_up m c t 256 (by omega) x ⟨(y 1).val, by omega⟩ ⟨0 + (y 2).val, by omega⟩ (by omega) (by show 0 + (y 2).val = _; omega)
  · erw [readCov_last]; exact piece_up m c t 0 (by omega) x ⟨(y 1).val, by omega⟩ ⟨0 + (y 2).val, by omega⟩ (by omega) (by show 0 + (y 2).val = _; omega)

set_option maxHeartbeats 1000000 in
/-- What the body leaves in result 2's block. -/
theorem after10 (c : Dev nD) (t : Fin cfg0.N) (y : S1x2x2816.Idx) : (dats m 0 c).after 10 t y
      = up (m ((c : Thread nD τ).loc main_arg0)) (m ((c : Thread nD τ).loc main_arg1)) (m ((c : Thread nD τ).loc main_arg2))
          ⟨t.val * 512 + (510 + (y 1).val), by have := tlt t; have := (y 1).isLt; change (y 1).val < 2 at this; omega⟩
          ⟨2816 + (y 2).val, by have := (y 2).isLt; change (y 2).val < 2816 at this; omega⟩ := by
  rw [after0_10]
  unfold outsAt0
  frame_open
  simp (disch := decide) only [↓ View.readCov_skip, ↓ View.readCov_cons_toLoadRect, ↓ View.readCov_fill]
  frame_out
  canon_tiles x h
  · erw [readCov_last]; exact piece_up m c t 5376 (by omega) x ⟨(y 1).val, by omega⟩ ⟨2816 + (y 2).val, by omega⟩ (by omega) (by show 2816 + (y 2).val = _; omega)
  · erw [readCov_last]; exact piece_up m c t 5120 (by omega) x ⟨(y 1).val, by omega⟩ ⟨2816 + (y 2).val, by omega⟩ (by omega) (by show 2816 + (y 2).val = _; omega)
  · erw [readCov_last]; exact piece_up m c t 4864 (by omega) x ⟨(y 1).val, by omega⟩ ⟨2816 + (y 2).val, by omega⟩ (by omega) (by show 2816 + (y 2).val = _; omega)
  · erw [readCov_last]; exact piece_up m c t 4608 (by omega) x ⟨(y 1).val, by omega⟩ ⟨2816 + (y 2).val, by omega⟩ (by omega) (by show 2816 + (y 2).val = _; omega)
  · erw [readCov_last]; exact piece_up m c t 4352 (by omega) x ⟨(y 1).val, by omega⟩ ⟨2816 + (y 2).val, by omega⟩ (by omega) (by show 2816 + (y 2).val = _; omega)
  · erw [readCov_last]; exact piece_up m c t 4096 (by omega) x ⟨(y 1).val, by omega⟩ ⟨2816 + (y 2).val, by omega⟩ (by omega) (by show 2816 + (y 2).val = _; omega)
  · erw [readCov_last]; exact piece_up m c t 3840 (by omega) x ⟨(y 1).val, by omega⟩ ⟨2816 + (y 2).val, by omega⟩ (by omega) (by show 2816 + (y 2).val = _; omega)
  · erw [readCov_last]; exact piece_up m c t 3584 (by omega) x ⟨(y 1).val, by omega⟩ ⟨2816 + (y 2).val, by omega⟩ (by omega) (by show 2816 + (y 2).val = _; omega)
  · erw [readCov_last]; exact piece_up m c t 3328 (by omega) x ⟨(y 1).val, by omega⟩ ⟨2816 + (y 2).val, by omega⟩ (by omega) (by show 2816 + (y 2).val = _; omega)
  · erw [readCov_last]; exact piece_up m c t 3072 (by omega) x ⟨(y 1).val, by omega⟩ ⟨2816 + (y 2).val, by omega⟩ (by omega) (by show 2816 + (y 2).val = _; omega)
  · erw [readCov_last]; exact piece_up m c t 2816 (by omega) x ⟨(y 1).val, by omega⟩ ⟨2816 + (y 2).val, by omega⟩ (by omega) (by show 2816 + (y 2).val = _; omega)

theorem emb9 (t : Fin cfg0.N) (z : Fin 1) (j : Fin 2) (n : Fin 2816) :
    (win0_9.blk t).view.emb (ix3 z j n) = (ix3 ⟨t.val / 4, by have := tlt t; omega⟩ j n : S16x2x2816.Idx) := by
  blk_ext [idx t]

theorem flush9 : ∀ t : Fin cfg0.N, (cfg0.win 9).flush t = true → t.val % 4 = 3 :=
  (by decide +kernel : ∀ t : Fin grid0.N, (cfg0.win 9).flush t = true → t.val % 4 = 3)

/-- Result 1 after the run. -/
theorem final9 (c : Dev nD) : (dats m 0 c).arrAt 9 (cfgs 0).N
    = fun i => last (m ((c : Thread nD τ).loc main_arg0)) (m ((c : Thread nD τ).loc main_arg1)) (m ((c : Thread nD τ).loc main_arg2)) 0 (by omega) (i 0) (i 1) (i 2) := by
  refine (dats m 0 c).arrAt_eq_of_covers 9 _ (by decide +kernel) fun t hf y => ?_
  have h3 := flush9 t hf
  blk_simp
  rw [show (dats m 0 c).after 9 t y = _ from after9 m c t y]
  idx_vars y
  rw [show ((View.whole main_v10_1).slice (win0_9.rect t)).emb (ix3 y0 y1 y2) = _ from emb9 t y0 y1 y2]
  unfold last
  congr 1
  apply Fin.ext
  show t.val * 512 + (510 + y1.val) = t.val / 4 * 2048 + (2046 + y1.val)
  omega

theorem emb10 (t : Fin cfg0.N) (z : Fin 1) (j : Fin 2) (n : Fin 2816) :
    (win0_10.blk t).view.emb (ix3 z j n) = (ix3 ⟨t.val / 4, by have := tlt t; omega⟩ j n : S16x2x2816.Idx) := by
  blk_ext [idx t]

theorem flush10 : ∀ t : Fin cfg0.N, (cfg0.win 10).flush t = true → t.val % 4 = 3 :=
  (by decide +kernel : ∀ t : Fin grid0.N, (cfg0.win 10).flush t = true → t.val % 4 = 3)

/-- Result 2 after the run. -/
theorem final10 (c : Dev nD) : (dats m 0 c).arrAt 10 (cfgs 0).N
    = fun i => last (m ((c : Thread nD τ).loc main_arg0)) (m ((c : Thread nD τ).loc main_arg1)) (m ((c : Thread nD τ).loc main_arg2)) 2816 (by omega) (i 0) (i 1) (i 2) := by
  refine (dats m 0 c).arrAt_eq_of_covers 10 _ (by decide +kernel) fun t hf y => ?_
  have h3 := flush10 t hf
  blk_simp
  rw [show (dats m 0 c).after 10 t y = _ from after10 m c t y]
  idx_vars y
  rw [show ((View.whole main_v10_2).slice (win0_10.rect t)).emb (ix3 y0 y1 y2) = _ from emb10 t y0 y1 y2]
  unfold last
  congr 1
  apply Fin.ext
  show t.val * 512 + (510 + y1.val) = t.val / 4 * 2048 + (2046 + y1.val)
  omega

end Cert.FfnIdeal.Hand

end
-- ==== Proof.FfnRef.lean ====
module

public import proofs.«01_k».proof.Defs
public import proofs.«01_k».proof.Proof.FfnSpec
public import proofs.«01_k».proof.Proof.Gen.FfnRefIdeal.Run
public import Idealize.ShloMosaic.Lib.Pipeline.ValueKit
public import Idealize.ShloMosaic.Lib.Pointwise

@[expose] public section

set_option maxRecDepth 16384

noncomputable section

namespace Cert.FfnRefIdeal.Hand

open Cert.FfnRefIdeal Cert.FfnRefIdeal.Gen Idealize.ShloMosaic Idealize.ShloMosaic.TcCoe Idealize.SL.Sem

/-! The reference's stages, each read at an index. -/

/-- The normalised rows against the up-projection's weight. -/
def upT (x : FVec Ideal S32768x1024 .f32) (g : FVec Ideal S1x1024 .f32) (w : FVec Ideal S1x1024x5632 .f32) : FVec Ideal S16x2048x5632 .f32 :=
  Host.dotGeneral dot_S16x2048x1024_S1024x5632_S16x2048x5632_2_0_01_1_n_n none (mulf (mulf (shapeCast S16x2048x1024 x shapeCasts_S32768x1024_S16x2048x1024) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (shapeCast S16x2048x1024 x shapeCasts_S32768x1024_S16x2048x1024) (shapeCast S16x2048x1024 x shapeCasts_S32768x1024_S16x2048x1024)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast S1024 g shapeCasts_S1x1024_S1024)))) (shapeCast S1024x5632 w shapeCasts_S1x1024x5632_S1024x5632)

/-- Two zero rows before each sequence. -/
def padT (U : FVec Ideal S16x2048x5632 .f32) : FVec Ideal S16x2050x5632 .f32 :=
  concatenate S16x2050x5632 1 [⟨S16x2x5632, (broadcastInDim S16x2x5632 ![] bcast_S_S16x2x5632 (constant S_ .f32 0x00000000#32) : FVec Ideal S16x2x5632 .f32)⟩, ⟨S16x2048x5632, U⟩] concatenates_S16x2x5632_S16x2048x5632_S16x2050x5632_d1

/-- The convolution over the padded rows. -/
def convT (cw : FVec Ideal S1x3x5632 .f32) (cb : FVec Ideal S1x5632 .f32) (H : FVec Ideal S16x2050x5632 .f32) : FVec Ideal S16x2048x5632 .f32 :=
  addf (addf (addf (broadcastInDim S16x2048x5632 ![0, 1, 2] bcast_S1x1x5632_S16x2048x5632_0_1_2 (broadcastInDim S1x1x5632 ![2] bcast_S5632_S1x1x5632_2 (shapeCast S5632 cb shapeCasts_S1x5632_S5632))) (mulf (broadcastInDim S16x2048x5632 ![0, 1, 2] bcast_S1x1x5632_S16x2048x5632_0_1_2 (broadcastInDim S1x1x5632 ![2] bcast_S5632_S1x1x5632_2 (shapeCast S5632 (extractStridedSlice S1x5632 ![0, 0] (shapeCast S3x5632 cw shapeCasts_S1x3x5632_S3x5632) slices_S3x5632_S1x5632_0_0) shapeCasts_S1x5632_S5632))) (extractStridedSlice S16x2048x5632 ![0, 0, 0] H slices_S16x2050x5632_S16x2048x5632_0_0_0))) (mulf (broadcastInDim S16x2048x5632 ![0, 1, 2] bcast_S1x1x5632_S16x2048x5632_0_1_2 (broadcastInDim S1x1x5632 ![2] bcast_S5632_S1x1x5632_2 (shapeCast S5632 (extractStridedSlice S1x5632 ![1, 0] (shapeCast S3x5632 cw shapeCasts_S1x3x5632_S3x5632) slices_S3x5632_S1x5632_1_0) shapeCasts_S1x5632_S5632))) (extractStridedSlice S16x2048x5632 ![0, 1, 0] H slices_S16x2050x5632_S16x2048x5632_0_1_0))) (mulf (broadcastInDim S16x2048x5632 ![0, 1, 2] bcast_S1x1x5632_S16x2048x5632_0_1_2 (broadcastInDim S1x1x5632 ![2] bcast_S5632_S1x1x5632_2 (shapeCast S5632 (extractStridedSlice S1x5632 ![2, 0] (shapeCast S3x5632 cw shapeCasts_S1x3x5632_S3x5632) slices_S3x5632_S1x5632_2_0) shapeCasts_S1x5632_S5632))) (extractStridedSlice S16x2048x5632 ![0, 2, 0] H slices_S16x2050x5632_S16x2048x5632_0_2_0))

/-- The gate, the down-projection and the residual. -/
def hidT (x : FVec Ideal S32768x1024 .f32) (wd : FVec Ideal S1x2816x1024 .f32) (C : FVec Ideal S16x2048x5632 .f32) : FVec Ideal S16x2048x1024 .f32 :=
  addf (shapeCast S16x2048x1024 x shapeCasts_S32768x1024_S16x2048x1024) (Host.dotGeneral dot_S16x2048x2816_S2816x1024_S16x2048x1024_2_0_01_1_n_n none (mulf (mulf (extractStridedSlice S16x2048x2816 ![0, 0, 0] C slices_S16x2048x5632_S16x2048x2816_0_0_0) (Host.divf (broadcastInDim S16x2048x2816 ![] bcast_S_S16x2048x2816 (constant S_ .f32 0x3F800000#32)) (addf (broadcastInDim S16x2048x2816 ![] bcast_S_S16x2048x2816 (constant S_ .f32 0x3F800000#32)) (Host.exp (Host.negf (extractStridedSlice S16x2048x2816 ![0, 0, 0] C slices_S16x2048x5632_S16x2048x2816_0_0_0)))))) (extractStridedSlice S16x2048x2816 ![0, 0, 2816] C slices_S16x2048x5632_S16x2048x2816_0_0_2816)) (shapeCast S2816x1024 wd shapeCasts_S1x2816x1024_S2816x1024))

/-- The final normalisation. -/
def finT (gf : FVec Ideal S1024 .f32) (Y : FVec Ideal S16x2048x1024 .f32) : FVec Ideal S32768x1024 .f32 :=
  shapeCast S32768x1024 (mulf (mulf Y (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf Y Y) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 gf))) shapeCasts_S16x2048x1024_S32768x1024

/-- The reference's first result is these stages. -/
theorem res_eq (m : (ℓ : Loc nD τ sig) → Buf (Elt Ideal) ℓ) (c : Dev nD) : Cert.FfnRefIdeal.Value.res_main_v67 m c
    = finT (m ((c : Thread nD τ).loc main_arg6)) (hidT (m ((c : Thread nD τ).loc main_arg0)) (m ((c : Thread nD τ).loc main_arg5))
        (convT (m ((c : Thread nD τ).loc main_arg3)) (m ((c : Thread nD τ).loc main_arg4)) (padT (upT (m ((c : Thread nD τ).loc main_arg0)) (m ((c : Thread nD τ).loc main_arg1)) (m ((c : Thread nD τ).loc main_arg2)))))) := by
  unfold Cert.FfnRefIdeal.Value.res_main_v67
  rfl

open Cert.FfnIdeal.Hand (up prev conv gate act hid last)

theorem upT_apply (x : FVec Ideal S32768x1024 .f32) (g : FVec Ideal S1x1024 .f32) (w : FVec Ideal S1x1024x5632 .f32) (s : Fin 16) (p : Fin 2048) (n : Fin 5632) :
    upT x g w (ix3 s p n) = up x g w ⟨s.val * 2048 + p.val, by omega⟩ n := by
  unfold upT
  pointwise
  rfl

theorem padT_apply (U : FVec Ideal S16x2048x5632 .f32) (s : Fin 16) (p : Fin 2050) (n : Fin 5632) :
    padT U (ix3 s p n) = if h : p.val < 2 then 0 else U (ix3 s ⟨p.val - 2, by omega⟩ n) := by
  unfold padT
  pointwise

/-- The padded rows, `k` earlier, are the projection `k` rows earlier in the sequence. -/
theorem pad_prev (x : FVec Ideal S32768x1024 .f32) (g : FVec Ideal S1x1024 .f32) (w : FVec Ideal S1x1024x5632 .f32) (k : ℕ) (hk : k ≤ 2) (s : Fin 16) (p : Fin 2048) (n : Fin 5632) :
    padT (upT x g w) (ix3 s ⟨2 - k + p.val, by omega⟩ n) = prev x g w k ⟨s.val * 2048 + p.val, by omega⟩ n := by
  rw [padT_apply]
  unfold prev
  split
  · rename_i h
    change 2 - k + p.val < 2 at h
    rw [if_neg (by show ¬ k ≤ (s.val * 2048 + p.val) % 2048; omega)]
  · rename_i h
    change ¬ 2 - k + p.val < 2 at h
    rw [if_pos (by show k ≤ (s.val * 2048 + p.val) % 2048; omega), upT_apply]
    congr 1
    apply Fin.ext
    show s.val * 2048 + (2 - k + p.val - 2) = s.val * 2048 + p.val - k
    omega

theorem convT_apply (cw : FVec Ideal S1x3x5632 .f32) (cb : FVec Ideal S1x5632 .f32) (H : FVec Ideal S16x2050x5632 .f32) (s : Fin 16) (p : Fin 2048) (n : Fin 5632) :
    convT cw cb H (ix3 s p n) = cb (ix2 0 n) + cw (ix3 0 0 n) * H (ix3 s ⟨0 + p.val, by omega⟩ n) + cw (ix3 0 1 n) * H (ix3 s ⟨1 + p.val, by omega⟩ n)
      + cw (ix3 0 2 n) * H (ix3 s ⟨2 + p.val, by omega⟩ n) := by
  unfold convT
  pointwise

theorem conv_all (x : FVec Ideal S32768x1024 .f32) (g : FVec Ideal S1x1024 .f32) (w : FVec Ideal S1x1024x5632 .f32) (cw : FVec Ideal S1x3x5632 .f32) (cb : FVec Ideal S1x5632 .f32) (s : Fin 16) (p : Fin 2048) (n : Fin 5632) :
    convT cw cb (padT (upT x g w)) (ix3 s p n) = conv x g w cw cb ⟨s.val * 2048 + p.val, by omega⟩ n := by
  rw [convT_apply]
  have e2 := pad_prev x g w 2 (by omega) s p n
  have e1 := pad_prev x g w 1 (by omega) s p n
  have e0 := pad_prev x g w 0 (by omega) s p n
  rw [show padT (upT x g w) (ix3 s ⟨0 + p.val, by omega⟩ n) = _ from e2, show padT (upT x g w) (ix3 s ⟨1 + p.val, by omega⟩ n) = _ from e1,
    show padT (upT x g w) (ix3 s ⟨2 + p.val, by omega⟩ n) = _ from e0]
  rfl

theorem hidT_apply (x : FVec Ideal S32768x1024 .f32) (wd : FVec Ideal S1x2816x1024 .f32) (C : FVec Ideal S16x2048x5632 .f32) (s : Fin 16) (p : Fin 2048) (k : Fin 1024) :
    hidT x wd C (ix3 s p k) = x (ix2 ⟨s.val * 2048 + p.val, by omega⟩ k)
      + ∑ n : Fin 2816, gate (C (ix3 s p ⟨n.val, by omega⟩)) (C (ix3 s p ⟨2816 + n.val, by omega⟩)) * wd (ix3 0 n k) := by
  unfold hidT
  pointwise [gate]

theorem hid_all (x : FVec Ideal S32768x1024 .f32) (g : FVec Ideal S1x1024 .f32) (w : FVec Ideal S1x1024x5632 .f32) (cw : FVec Ideal S1x3x5632 .f32) (cb : FVec Ideal S1x5632 .f32) (wd : FVec Ideal S1x2816x1024 .f32) (s : Fin 16) (p : Fin 2048) (k : Fin 1024) :
    hidT x wd (convT cw cb (padT (upT x g w))) (ix3 s p k) = hid x g w cw cb wd ⟨s.val * 2048 + p.val, by omega⟩ k := by
  rw [hidT_apply]
  simp only [conv_all]
  rfl

theorem finT_apply (gf : FVec Ideal S1024 .f32) (Y : FVec Ideal S16x2048x1024 .f32) (ρ : Fin 32768) (k : Fin 1024) :
    finT gf Y (ix2 ρ k) = Y (ix3 ⟨ρ.val / 2048, by omega⟩ ⟨ρ.val % 2048, by omega⟩ k)
      * Ideal.rsqrt (Ideal.div (∑ l : Fin 1024, Y (ix3 ⟨ρ.val / 2048, by omega⟩ ⟨ρ.val % 2048, by omega⟩ l) * Y (ix3 ⟨ρ.val / 2048, by omega⟩ ⟨ρ.val % 2048, by omega⟩ l)) (Ideal.ofBits .f32 0x44800000#32)
        + Ideal.ofBits .f32 0x358637BD#32) * gf (ix1 k) := by
  unfold finT
  pointwise

/-- The reference's first result. -/
theorem res_fin (x : FVec Ideal S32768x1024 .f32) (g : FVec Ideal S1x1024 .f32) (w : FVec Ideal S1x1024x5632 .f32) (cw : FVec Ideal S1x3x5632 .f32) (cb : FVec Ideal S1x5632 .f32) (wd : FVec Ideal S1x2816x1024 .f32) (gf : FVec Ideal S1024 .f32) :
    finT gf (hidT x wd (convT cw cb (padT (upT x g w)))) = fun i => Cert.FfnIdeal.Hand.fin x g w cw cb wd gf (i 0) (i 1) := by
  funext i
  idx_vars i
  rw [finT_apply]
  simp only [hid_all]
  unfold Cert.FfnIdeal.Hand.fin
  simp only [Nat.div_add_mod', Fin.eta]

/-- The reference's last two rows, from column `off`. -/
def lastT (off : ℕ) (hs : Shape.Slices S16x2x5632 ![0, 0, off] S16x2x2816) (x : FVec Ideal S32768x1024 .f32) (g : FVec Ideal S1x1024 .f32) (w : FVec Ideal S1x1024x5632 .f32) : FVec Ideal S16x2x2816 .f32 :=
  extractStridedSlice S16x2x2816 ![0, 0, off] (extractStridedSlice S16x2x5632 ![0, 2048, 0] (padT (upT x g w)) slices_S16x2050x5632_S16x2x5632_0_2048_0) hs

theorem tail_apply (H : FVec Ideal S16x2050x5632 .f32) (s : Fin 16) (j : Fin 2) (n : Fin 5632) :
    extractStridedSlice S16x2x5632 ![0, 2048, 0] H slices_S16x2050x5632_S16x2x5632_0_2048_0 (ix3 s j n) = H (ix3 s ⟨2048 + j.val, by omega⟩ n) := by
  pointwise

theorem tail_all (x : FVec Ideal S32768x1024 .f32) (g : FVec Ideal S1x1024 .f32) (w : FVec Ideal S1x1024x5632 .f32) (s : Fin 16) (j : Fin 2) (n : Fin 5632) :
    extractStridedSlice S16x2x5632 ![0, 2048, 0] (padT (upT x g w)) slices_S16x2050x5632_S16x2x5632_0_2048_0 (ix3 s j n) = up x g w ⟨s.val * 2048 + (2046 + j.val), by omega⟩ n := by
  rw [tail_apply, padT_apply, dif_neg (by show ¬ 2048 + j.val < 2; omega), upT_apply]
  congr 1
  apply Fin.ext
  show s.val * 2048 + (2048 + j.val - 2) = s.val * 2048 + (2046 + j.val)
  omega

theorem last0 (x : FVec Ideal S32768x1024 .f32) (g : FVec Ideal S1x1024 .f32) (w : FVec Ideal S1x1024x5632 .f32) :
    lastT 0 slices_S16x2x5632_S16x2x2816_0_0_0 x g w = fun i => last x g w 0 (by omega) (i 0) (i 1) (i 2) := by
  funext i
  idx_vars i
  unfold lastT
  generalize hT : extractStridedSlice S16x2x5632 ![0, 2048, 0] (padT (upT x g w)) slices_S16x2050x5632_S16x2x5632_0_2048_0 = T
  pointwise
  rw [← hT, tail_all]
  unfold last
  simp only [Nat.zero_add]

theorem last1 (x : FVec Ideal S32768x1024 .f32) (g : FVec Ideal S1x1024 .f32) (w : FVec Ideal S1x1024x5632 .f32) :
    lastT 2816 slices_S16x2x5632_S16x2x2816_0_0_2816 x g w = fun i => last x g w 2816 (by omega) (i 0) (i 1) (i 2) := by
  funext i
  idx_vars i
  unfold lastT
  generalize hT : extractStridedSlice S16x2x5632 ![0, 2048, 0] (padT (upT x g w)) slices_S16x2050x5632_S16x2x5632_0_2048_0 = T
  pointwise
  rw [← hT, tail_all]
  rfl

end Cert.FfnRefIdeal.Hand

end
-- ==== Proof.Ffn.lean ====
module

public import proofs.«01_k».proof.Defs
public import proofs.«01_k».proof.Proof.FfnLast
public import proofs.«01_k».proof.Proof.FfnRef
public import proofs.«01_k».proof.Proof.Gen.FfnIdeal.Value
public import proofs.«01_k».proof.Proof.Gen.FfnRefIdeal.Run
public import Idealize.ShloMosaic.Lib.Pipeline.ValueKit
public import Idealize.ShloMosaic.Lib.Pointwise

@[expose] public section

set_option maxRecDepth 16384

noncomputable section

namespace Cert.FfnIdeal.Hand

open Cert.FfnIdeal Cert.FfnIdeal.Gen Idealize.ShloMosaic Idealize.ShloMosaic.TcCoe Idealize.SL.Sem

/-- Both programs compute the same feed-forward layer. -/
theorem algebraic : Cert.algebraic_FfnIdeal_FfnRefIdeal (hFfnIdeal := Cert.FfnIdeal.Gen.facts) (hFfnRefIdeal := Cert.FfnRefIdeal.Gen.facts) := by
  intro m g m' g' _ hagree
  refine ⟨_, _, _, Cert.FfnIdeal.Value.run_blocks m g, (θ_run _ _ _).mono (fun r h c => ?_) (Cert.FfnRefIdeal.Value.run m' g')⟩
  obtain ⟨h0, h1, h2, ha⟩ := h c
  obtain ⟨a0, a1, a2, a3, a4, a5, a6⟩ := hagree c
  refine ⟨h0.trans ?_, h1.trans ?_, h2.trans ?_, ?_⟩
  · rw [Cert.FfnRefIdeal.Hand.res_eq, a0, a1, a2, a3, a4, a5, a6]
    exact (Cert.FfnRefIdeal.Hand.res_fin _ _ _ _ _ _ _).trans (final8 m c).symm
  · rw [a0, a1, a2]
    exact (Cert.FfnRefIdeal.Hand.last0 _ _ _).trans (final9 m c).symm
  · rw [a0, a1, a2]
    exact (Cert.FfnRefIdeal.Hand.last1 _ _ _).trans (final10 m c).symm
  · exact ha

end Cert.FfnIdeal.Hand

end
-- ==== Proof.CrossAttend.lean ====
module

public import proofs.«01_k».proof.Proof.InputRows
public import Idealize.ShloMosaic.Lib.Pipeline.ValueKit

/-! Attention over the 256 memory rows, as functions of one row of scores: the form in which the weighted sum is divided once, and the form in which
each weight is divided first. On real scores the two agree, whatever the values weighted. -/

@[expose] public section

noncomputable section

namespace Cert.CrossAttend

open Idealize.ShloMosaic Cert.InputRows

/-- A number that is neither infinity. -/
def IsReal (z : EReal) : Prop := ∃ r : ℝ, z = (r : EReal)

/-- Where the maximum starts. -/
def ninf : EReal := Ideal.ofBits .f32 0xFF800000#32

/-- The largest score. -/
def top (s : Fin 256 → EReal) : EReal := Finset.univ.fold max ninf fun m => s m

/-- One weight before division. -/
def weight (s : Fin 256 → EReal) (m : Fin 256) : EReal := Ideal.exp (s m - top s)

/-- The weighted sum, divided once. -/
def once (s v : Fin 256 → EReal) : EReal := Ideal.div (∑ m : Fin 256, weight s m * v m) (∑ m : Fin 256, weight s m)

/-- The sum of the values times divided weights, the maximum compared with negative infinity once more. -/
def each (s v : Fin 256 → EReal) : EReal :=
  ∑ m : Fin 256, v m * Ideal.div (Ideal.exp (s m - max ninf (top s))) (∑ n : Fin 256, Ideal.exp (s n - max ninf (top s)))

theorem ninf_eq : ninf = ⊥ := by simp [ninf, Ideal.ofBits, Ideal.ieee]

theorem isReal_of_lt {z : EReal} (h1 : z ≠ ⊥) (h2 : z ≠ ⊤) : IsReal z := ⟨z.toReal, (EReal.coe_toReal h2 h1).symm⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

theorem coe_sum {n : ℕ} (f : Fin n → ℝ) : ((∑ i, f i : ℝ) : EReal) = ∑ i, (f i : EReal) :=
  map_sum (⟨⟨fun r : ℝ => (r : EReal), EReal.coe_zero⟩, EReal.coe_add⟩ : ℝ →+ EReal) f Finset.univ

theorem IsReal.sum {n : ℕ} {f : Fin n → EReal} (h : ∀ i, IsReal (f i)) : IsReal (∑ i, f i) := by
  choose r hr using h
  exact ⟨∑ i, r i, by rw [coe_sum]; exact Finset.sum_congr rfl fun i _ => hr i⟩

/-- A sum of extended reals times a nonnegative real. -/
theorem sum_mul {n : ℕ} (f : Fin n → EReal) (r : ℝ) (h : 0 ≤ r) : (∑ i, f i) * (r : EReal) = ∑ i, f i * (r : EReal) :=
  map_sum (⟨⟨fun z : EReal => z * (r : EReal), zero_mul _⟩, fun a b => EReal.right_distrib_of_nonneg_of_ne_top (EReal.coe_nonneg.2 h) (EReal.coe_ne_top r) a b⟩ : EReal →+ EReal) f Finset.univ

theorem top_real (s : Fin 256 → EReal) (h : ∀ m, IsReal (s m)) : IsReal (top s) := by
  refine isReal_of_lt ?_ ?_
  · obtain ⟨r, hr⟩ := h 0
    have : (r : EReal) ≤ top s := by
      rw [← hr]
      exact (Finset.le_fold_max _).2 (Or.inr ⟨0, Finset.mem_univ _, le_refl _⟩)
    exact ne_of_gt (lt_of_lt_of_le (EReal.bot_lt_coe r) this)
  · refine ne_of_lt ((Finset.fold_max_lt _).2 ⟨by rw [ninf_eq]; exact bot_lt_top, fun m _ => ?_⟩)
    obtain ⟨r, hr⟩ := h m
    rw [hr]
    exact EReal.coe_lt_top r

/-- On real scores, dividing once is dividing each weight. -/
theorem once_eq_each (s v : Fin 256 → EReal) (h : ∀ m, IsReal (s m)) : once s v = each s v := by
  obtain ⟨t, ht⟩ := top_real s h
  choose σ hσ using h
  have hm : max ninf (top s) = top s := by rw [ninf_eq]; exact max_eq_right bot_le
  have hw : ∀ m, weight s m = ((Real.exp (σ m - t) : ℝ) : EReal) := fun m => by
    unfold weight
    rw [hσ m, ht, ← EReal.coe_sub]
    rfl
  have hl : (∑ m : Fin 256, weight s m) = ((∑ m : Fin 256, Real.exp (σ m - t) : ℝ) : EReal) := by
    rw [coe_sum]
    exact Finset.sum_congr rfl fun m _ => hw m
  have hpos : 0 < ∑ m : Fin 256, Real.exp (σ m - t) := Finset.sum_pos (fun m _ => Real.exp_pos _) ⟨0, Finset.mem_univ _⟩
  have hne : ((∑ m : Fin 256, Real.exp (σ m - t) : ℝ) : EReal) ≠ 0 := by
    rw [← EReal.coe_zero]
    exact fun e => (ne_of_gt hpos) (EReal.coe_injective e)
  unfold once each
  rw [hm]
  simp only [show ∀ m, Ideal.exp (s m - top s) = weight s m from fun _ => rfl]
  rw [hl]
  unfold Ideal.div
  simp only [if_neg hne]
  rw [← EReal.coe_inv, sum_mul _ _ (inv_nonneg.2 hpos.le)]
  refine Finset.sum_congr rfl fun m _ => ?_
  rw [mul_comm (weight s m) (v m), mul_assoc]

/-- A normalised row is real wherever its weight is: a row with an infinity in it is scaled by zero. -/
theorem hat_real (x g : Fin 1024 → EReal) (hg : ∀ k, IsReal (g k)) (k : Fin 1024) : IsReal (hat x g k) := by
  have c1 : Ideal.ofBits .f32 0x44800000#32 = ((1024 : ℝ) : EReal) := by simp [Ideal.ofBits, Ideal.ieee, -EReal.coe_mul]; norm_num
  have c2 : ∃ e : ℝ, 0 < e ∧ Ideal.ofBits .f32 0x358637BD#32 = (e : EReal) := by
    refine ⟨_, ?_, by simp [Ideal.ofBits, Ideal.ieee, -EReal.coe_mul]; rfl⟩
    norm_num
  obtain ⟨e, he, c2⟩ := c2
  have hsq : ∀ l, 0 ≤ x l * x l := fun l => by
    rcases le_total 0 (x l) with h | h
    · exact mul_nonneg h h
    · rw [← neg_mul_neg]
      exact mul_nonneg (EReal.neg_nonneg.2 h) (EReal.neg_nonneg.2 h)
  unfold hat
  refine IsReal.mul ?_ (hg k)
  have h1024 : ((1024 : ℝ) : EReal) ≠ 0 := by
    rw [← EReal.coe_zero]
    exact fun e => (by norm_num : (1024 : ℝ) ≠ 0) (EReal.coe_injective e)
  rw [c1, c2]
  unfold Ideal.div
  rw [if_neg h1024, ← EReal.coe_inv]
  by_cases hS : (∑ l : Fin 1024, x l * x l) = ⊤
  · rw [hS, EReal.top_mul_coe_of_pos (by norm_num), EReal.top_add_coe]
    rw [show Ideal.rsqrt ⊤ = 0 from rfl, mul_zero]
    exact ⟨0, EReal.coe_zero.symm⟩
  · have hx : ∀ l, IsReal (x l) := fun l => by
      have hle : x l * x l ≤ ∑ l : Fin 1024, x l * x l := Finset.single_le_sum (f := fun l => x l * x l) (fun l _ => hsq l) (Finset.mem_univ l)
      refine isReal_of_lt (fun hb => hS ?_) fun ht => hS ?_
      · rw [hb, EReal.bot_mul_bot] at hle
        exact top_le_iff.1 hle
      · rw [ht, EReal.top_mul_top] at hle
        exact top_le_iff.1 hle
    obtain ⟨S, hr⟩ := IsReal.sum fun l => (hx l).mul (hx l)
    have hS0 : 0 ≤ S := by
      have : (0 : EReal) ≤ ∑ l : Fin 1024, x l * x l := Finset.sum_nonneg fun l _ => hsq l
      rw [hr] at this
      exact EReal.coe_nonneg.1 this
    refine (hx k).mul ?_
    rw [hr, ← EReal.coe_mul, ← EReal.coe_add]
    have hp : 0 < S * (1024 : ℝ)⁻¹ + e := by positivity
    refine ⟨(Real.sqrt (S * (1024 : ℝ)⁻¹ + e))⁻¹, ?_⟩
    show (if S * (1024 : ℝ)⁻¹ + e < 0 then _ else _) = _
    rw [if_neg (not_lt.2 hp.le), if_neg (ne_of_gt hp)]

theorem proj_real (x g w : Fin 1024 → EReal) (hg : ∀ k, IsReal (g k)) (hw : ∀ k, IsReal (w k)) : IsReal (proj x g w) :=
  IsReal.sum fun k => (hat_real x g hg k).mul (hw k)

/-- The scale of a score: one sixteenth. -/
def scale : EReal := Ideal.ofBits .f32 0x3D800000#32

theorem scale_eq : scale = ((1 / 16 : ℝ) : EReal) := by
  unfold scale
  simp [Ideal.ofBits, Ideal.ieee, -EReal.coe_mul]
  norm_num

/-- A score of a scaled query is the scaled score of the query. -/
theorem score_eq (q k : Fin 256 → EReal) : (∑ c : Fin 256, q c * scale * k c) = (∑ c : Fin 256, q c * k c) * scale := by
  rw [scale_eq, sum_mul _ _ (by norm_num)]
  refine Finset.sum_congr rfl fun c _ => ?_
  rw [mul_assoc, mul_comm _ (k c), ← mul_assoc]

theorem score_real (q k : Fin 256 → EReal) (hq : ∀ c, IsReal (q c)) (hk : ∀ c, IsReal (k c)) : IsReal ((∑ c : Fin 256, q c * k c) * scale) :=
  (IsReal.sum fun c => (hq c).mul (hk c)).mul ⟨_, scale_eq⟩

/-- The column of the same head as column `c`, at place `n` of it. -/
def head (c : Fin 1024) (n : Fin 256) : Fin 1024 := ⟨c.val / 256 * 256 + n.val, by omega⟩

/-- Memory row `m` of the sequence that row `r` is of. -/
def mem (r : Fin 32768) (m : Fin 256) : Fin 4096 := ⟨r.val / 2048 * 256 + m.val, by omega⟩

/-- Attention of row `r`, column `c`, as the kernel computes it. -/
def attended (x : Fin 32768 → Fin 1024 → EReal) (mk mv : Fin 4096 → Fin 1024 → EReal) (g : Fin 1024 → EReal) (wq : Fin 1024 → Fin 1024 → EReal)
    (r : Fin 32768) (c : Fin 1024) : EReal :=
  once (fun m => ∑ n : Fin 256, proj (x r) g (fun k => wq k (head c n)) * scale * mk (mem r m) (head c n)) (fun m => mv (mem r m) c)

/-- Attention of row `r`, column `c`, as the reference computes it. -/
def attendedRef (x : Fin 32768 → Fin 1024 → EReal) (mk mv : Fin 4096 → Fin 1024 → EReal) (g : Fin 1024 → EReal) (wq : Fin 1024 → Fin 1024 → EReal)
    (r : Fin 32768) (c : Fin 1024) : EReal :=
  each (fun m => (∑ n : Fin 256, proj (x r) g (fun k => wq k (head c n)) * mk (mem r m) (head c n)) * scale) (fun m => mv (mem r m) c)

/-- Where the memory keys, the norm's weight and the query weight are real, the two agree. -/
theorem attended_eq (x : Fin 32768 → Fin 1024 → EReal) (mk mv : Fin 4096 → Fin 1024 → EReal) (g : Fin 1024 → EReal) (wq : Fin 1024 → Fin 1024 → EReal)
    (hk : ∀ i j, IsReal (mk i j)) (hg : ∀ k, IsReal (g k)) (hw : ∀ i j, IsReal (wq i j)) (r : Fin 32768) (c : Fin 1024) :
    attended x mk mv g wq r c = attendedRef x mk mv g wq r c := by
  unfold attended attendedRef
  simp only [score_eq]
  exact once_eq_each _ _ fun m => score_real _ _ (fun n => proj_real _ _ _ hg fun k => hw _ _) fun n => hk _ _

/-- The output of row `r`, column `j`: the input plus the attention against one column of the output weight. -/
def added (x : Fin 32768 → Fin 1024 → EReal) (att : Fin 32768 → Fin 1024 → EReal) (wo : Fin 1024 → Fin 1024 → EReal) (r : Fin 32768) (j : Fin 1024) : EReal :=
  x r j + ∑ c : Fin 1024, att r c * wo c j

end Cert.CrossAttend

end
-- ==== Proof.CrossPays.lean ====
module

public import proofs.«01_k».proof.Defs
public import proofs.«01_k».proof.Proof.Gen.CrossIdeal.Value
public import proofs.«01_k».proof.Proof.CrossAttend
public import Idealize.ShloMosaic.Lib.Pipeline.ValueKit
public import Idealize.ShloMosaic.Lib.Pointwise

/-! One entry of each value the cross-attention kernel stores, from the arrays it loads. -/

@[expose] public section

set_option maxRecDepth 16384

noncomputable section

namespace Cert.CrossIdeal.Hand

open Cert.CrossIdeal Cert.CrossIdeal.Gen Cert.CrossAttend Cert.InputRows Idealize.ShloMosaic Idealize.ShloMosaic.TcCoe Idealize.SL.Sem

/-- A scaled query: a normalised row against one column of the query weight, times the scale. -/
theorem pay4_apply (v0 : Vec Ideal S512x1024 .f32) (v1 : Vec Ideal S1x1024 .f32) (v16 : Vec Ideal S1024x1024 .bf16) (a : Fin 512) (n : Fin 1024) :
    k0_pay4 v0 v1 v16 (ix2 a n) = proj (fun k => v0 (ix2 a k)) (fun k => v1 (ix2 0 k)) (fun k => v16 (ix2 k n)) * scale := by
  pointwise [k0_pay4]
  rfl

/-- The second head's entry. -/
theorem pay7_apply (v21 : FVec Ideal S512x1024 .bf16) (kk vv : Vec Ideal S256x256 .bf16) (a : Fin 512) (n : Fin 256) :
    k0_pay7 v21 kk vv (ix2 a n) = once (fun m => ∑ c : Fin 256, v21 (ix2 a ⟨256 + c.val, by omega⟩) * kk (ix2 m c)) (fun m => vv (ix2 m n)) := by
  pointwise [k0_pay7]
  rfl

/-- The third head's entry. -/
theorem pay8_apply (v21 : FVec Ideal S512x1024 .bf16) (kk vv : Vec Ideal S256x256 .bf16) (a : Fin 512) (n : Fin 256) :
    k0_pay8 v21 kk vv (ix2 a n) = once (fun m => ∑ c : Fin 256, v21 (ix2 a ⟨512 + c.val, by omega⟩) * kk (ix2 m c)) (fun m => vv (ix2 m n)) := by
  pointwise [k0_pay8]
  rfl

/-- The fourth head's entry. -/
theorem pay2_apply (v21 : FVec Ideal S512x1024 .bf16) (kk vv : Vec Ideal S256x256 .bf16) (a : Fin 512) (n : Fin 256) :
    k0_pay2 v21 kk vv (ix2 a n) = once (fun m => ∑ c : Fin 256, v21 (ix2 a ⟨768 + c.val, by omega⟩) * kk (ix2 m c)) (fun m => vv (ix2 m n)) := by
  pointwise [k0_pay2]
  rfl

/-- The first head's entry. -/
theorem pay5_apply (v0 : Vec Ideal S512x1024 .f32) (v1 : Vec Ideal S1x1024 .f32) (v16 : Vec Ideal S1024x1024 .bf16) (kk vv : Vec Ideal S256x256 .bf16) (a : Fin 512) (n : Fin 256) :
    k0_pay5 v0 v1 v16 kk vv (ix2 a n) = once (fun m => ∑ c : Fin 256, k0_pay4 v0 v1 v16 (ix2 a ⟨0 + c.val, by omega⟩) * kk (ix2 m c)) (fun m => vv (ix2 m n)) := by
  pointwise [k0_pay5]
  rfl

theorem pay6_eq (v : FVec Ideal S512x256 .bf16) : k0_pay6 v = v := by
  funext x
  pointwise [k0_pay6]

theorem pay1_eq (v : FVec Ideal S512x256 .bf16) : k0_pay1 v = v := by
  funext x
  pointwise [k0_pay1]

/-- The output: the input plus the concatenated heads against one column of the output weight. -/
theorem pay3_apply (v0 : Vec Ideal S512x1024 .f32) (v98 : Vec Ideal S512x1024 .bf16) (v99 : Vec Ideal S1024x1024 .bf16) (a : Fin 512) (n : Fin 1024) :
    k0_pay3 v0 v98 v99 (ix2 a n) = v0 (ix2 a n) + ∑ c : Fin 1024, v98 (ix2 a c) * v99 (ix2 c n) := by
  pointwise [k0_pay3]

end Cert.CrossIdeal.Hand

end
-- ==== Proof.CrossBlocks.lean ====
module

public import proofs.«01_k».proof.Defs
public import proofs.«01_k».proof.Proof.CrossPays
public import Idealize.ShloMosaic.Lib.StableHlo.ReadAt
public import Idealize.ShloMosaic.Lib.Pipeline.ReadBack
public import Idealize.ShloMosaic.Lib.Pipeline.ValueKit
public import Idealize.ShloMosaic.Lib.Pointwise

/-! Which entries of the arguments each grid point of the cross-attention kernel reads, and which entries of the result it writes. -/

@[expose] public section

set_option maxRecDepth 16384

noncomputable section

namespace Cert.CrossIdeal.Hand

open Cert.CrossIdeal Cert.CrossIdeal.Gen Cert.CrossAttend Cert.InputRows Idealize.ShloMosaic Idealize.ShloMosaic.TcCoe Idealize.SL.Sem

variable (m : (ℓ : Loc nD τ sig) → Buf (Elt Ideal) ℓ)

/-- The index maps: grid point `t` takes row block `t` of the input, and the memory of sequence `t / 4`. -/
theorem idx : ∀ t : Fin cfg0.N, win0_0.index t = ![t.val, 0] ∧ win0_1.index t = ![t.val / 4, 0] ∧ win0_2.index t = ![t.val / 4, 0]
    ∧ win0_3.index t = ![0, 0] ∧ win0_4.index t = ![0, 0] ∧ win0_5.index t = ![0, 0] ∧ win0_6.index t = ![t.val, 0] :=
  (by decide +kernel : ∀ t : Fin grid0.N, _)

theorem tlt (t : Fin cfg0.N) : t.val < 64 := lt_of_lt_of_eq t.isLt (by decide +kernel : cfg0.N = 64)

theorem v1 (c : Dev nD) (k : Fin 1024) : V m c main_v1 (ix2 0 k) = m ((c : Thread nD τ).loc main_arg3) (ix2 0 k) := by
  simp only [V, hostOps0, List.flatten_cons, List.flatten_nil, List.append_nil, List.cons_append, List.nil_append]
  after_reads_at

theorem v3 (c : Dev nD) (a k : Fin 1024) : V m c main_v3 (ix2 a k) = m ((c : Thread nD τ).loc main_arg4) (ix3 0 a k) := by
  simp only [V, hostOps0, List.flatten_cons, List.flatten_nil, List.append_nil, List.cons_append, List.nil_append]
  after_reads_at

theorem v5 (c : Dev nD) (a k : Fin 1024) : V m c main_v5 (ix2 a k) = m ((c : Thread nD τ).loc main_arg5) (ix3 0 a k) := by
  simp only [V, hostOps0, List.flatten_cons, List.flatten_nil, List.append_nil, List.cons_append, List.nil_append]
  after_reads_at

theorem blk0 (c : Dev nD) (t : Fin cfg0.N) (a : Fin 512) (k : Fin 1024) : iblk m c 0 t (ix2 a k)
    = m ((c : Thread nD τ).loc main_arg0) (ix2 ⟨t.val * 512 + a.val, by have := tlt t; omega⟩ k) := by
  blk_ext! [iblk, V, idx t]

theorem blk1 (c : Dev nD) (t : Fin cfg0.N) (a : Fin 256) (k : Fin 1024) : iblk m c 1 t (ix2 a k)
    = m ((c : Thread nD τ).loc main_arg1) (ix2 ⟨t.val / 4 * 256 + a.val, by have := tlt t; omega⟩ k) := by
  blk_ext! [iblk, V, idx t]

theorem blk2 (c : Dev nD) (t : Fin cfg0.N) (a : Fin 256) (k : Fin 1024) : iblk m c 2 t (ix2 a k)
    = m ((c : Thread nD τ).loc main_arg2) (ix2 ⟨t.val / 4 * 256 + a.val, by have := tlt t; omega⟩ k) := by
  blk_ext! [iblk, V, idx t]

theorem blk3 (c : Dev nD) (t : Fin cfg0.N) (k : Fin 1024) : iblk m c 3 t (ix2 0 k) = m ((c : Thread nD τ).loc main_arg3) (ix2 0 k) :=
  (by blk_ext [iblk, idx t] : iblk m c 3 t (ix2 0 k) = V m c main_v1 (ix2 0 k)).trans (v1 m c k)

theorem blk4 (c : Dev nD) (t : Fin cfg0.N) (a k : Fin 1024) : iblk m c 4 t (ix2 a k) = m ((c : Thread nD τ).loc main_arg4) (ix3 0 a k) :=
  (by blk_ext [iblk, idx t] : iblk m c 4 t (ix2 a k) = V m c main_v3 (ix2 a k)).trans (v3 m c a k)

theorem blk5 (c : Dev nD) (t : Fin cfg0.N) (a k : Fin 1024) : iblk m c 5 t (ix2 a k) = m ((c : Thread nD τ).loc main_arg5) (ix3 0 a k) :=
  (by blk_ext [iblk, idx t] : iblk m c 5 t (ix2 a k) = V m c main_v5 (ix2 a k)).trans (v5 m c a k)

theorem emb6 (t : Fin cfg0.N) (a : Fin 512) (k : Fin 1024) :
    (win0_6.blk t).view.emb (ix2 a k) = (ix2 ⟨t.val * 512 + a.val, by have := tlt t; omega⟩ k : S32768x1024.Idx) := by
  blk_ext [idx t]

end Cert.CrossIdeal.Hand

end
-- ==== Proof.CrossValue.lean ====
module

public import proofs.«01_k».proof.Defs
public import proofs.«01_k».proof.Proof.CrossBlocks
public import Idealize.ShloMosaic.Lib.Pipeline.ValueKit
public import Idealize.ShloMosaic.Lib.Pointwise

/-! What the cross-attention kernel leaves in its result: four heads stored side by side in a scratch, read back whole, and multiplied by the output weight. -/

@[expose] public section

set_option maxRecDepth 16384

noncomputable section

namespace Cert.CrossIdeal.Hand

open Cert.CrossIdeal Cert.CrossIdeal.Gen Cert.CrossAttend Cert.InputRows Idealize.ShloMosaic Idealize.ShloMosaic.TcCoe Idealize.SL.Sem

variable (m : (ℓ : Loc nD τ sig) → Buf (Elt Ideal) ℓ)

/-- The four heads of one grid point, side by side. -/
def heads (q : FVec Ideal S512x1024 .bf16) (K U : Vec Ideal S256x1024 .bf16) (a : Fin 512) (c : Fin 1024) : EReal :=
  once (fun m => ∑ n : Fin 256, q (ix2 a (head c n)) * K (ix2 m (head c n))) (fun m => U (ix2 m c))

/-- A store of 256 columns over earlier stores, read at one entry. -/
theorem canon_cols (G : Fin 512 → Fin 1024 → EReal) (b : ℕ) (hb : b + 256 ≤ 1024) (P : FVec Ideal S512x256 .bf16) (L : List (View.Piece (Elt Ideal) S512x1024 .bf16)) (h)
    (hP : ∀ (a : Fin 512) (n : Fin 256), P (ix2 a n) = G a ⟨b + n.val, by omega⟩) (a : Fin 512) (c : Fin 1024)
    (hL : c.val < b ∨ b + 256 ≤ c.val → View.canon L (ix2 a c : S512x1024.Idx) = G a c) :
    View.canon ((⟨Rect.unit (s := S512x1024) ![0, b] S512x256.size h, P⟩ : View.Piece (Elt Ideal) S512x1024 .bf16) :: L) (ix2 a c : S512x1024.Idx) = G a c := by
  by_cases hc : c.val < b ∨ b + 256 ≤ c.val
  · rw [View.canon_cons_of_not_mem]
    · exact hL hc
    · intro hm
      have h2 := Rect.mem_set_unit (inb := h).mp hm 1
      have h3 : b ≤ c.val := h2.1
      have h4 : c.val < b + 256 := h2.2
      omega
  · have h1 : b ≤ c.val := by omega
    have h2 : c.val - b < 256 := by omega
    rw [show (ix2 a c : S512x1024.Idx) = (Rect.unit (s := S512x1024) ![0, b] S512x256.size h).emb (ix2 a ⟨c.val - b, h2⟩) from ?_]
    · refine (View.canon_cons_emb _ _ _ _).trans ((hP a ⟨c.val - b, h2⟩).trans ?_)
      exact congrArg (G a) (Fin.ext (by show b + (c.val - b) = c.val; omega))
    · funext k; apply Fin.ext; revert k; rw [Fin.forall_fin_two]; constructor
      · show a.val = 0 + 1 * a.val; omega
      · show c.val = b + 1 * (c.val - b); omega

/-- Four stores of 256 columns, read back whole. -/
theorem readCov_cols {κ : Kind} {sp : Space} (v : View sig κ sp S512x1024 .bf16) (G : Fin 512 → Fin 1024 → EReal) (P0 P1 P2 P3 : FVec Ideal S512x256 .bf16) (h0 h1 h2 h3 hw)
    (e0 : ∀ (a : Fin 512) (n : Fin 256), P0 (ix2 a n) = G a ⟨0 + n.val, by omega⟩) (e1 : ∀ (a : Fin 512) (n : Fin 256), P1 (ix2 a n) = G a ⟨256 + n.val, by omega⟩)
    (e2 : ∀ (a : Fin 512) (n : Fin 256), P2 (ix2 a n) = G a ⟨512 + n.val, by omega⟩) (e3 : ∀ (a : Fin 512) (n : Fin 256), P3 (ix2 a n) = G a ⟨768 + n.val, by omega⟩)
    (a : Fin 512) (c : Fin 1024) :
    v.readCov [(⟨Rect.unit (s := S512x1024) ![0, 768] S512x256.size h3, P3⟩ : View.Piece (Elt Ideal) S512x1024 .bf16), ⟨Rect.unit (s := S512x1024) ![0, 512] S512x256.size h2, P2⟩,
        ⟨Rect.unit (s := S512x1024) ![0, 256] S512x256.size h1, P1⟩, ⟨Rect.unit (s := S512x1024) ![0, 0] S512x256.size h0, P0⟩]
      (Rect.unit (s := S512x1024) ![0, 0] S512x1024.size hw).toLoadRect (ix2 a c : S512x1024.Idx) = G a c := by
  rw [View.readCov_eq_canon']
  show View.canon _ ((Rect.unit (s := S512x1024) ![0, 0] S512x1024.size hw).toLoadRect.idx (ix2 a c)) = _
  rw [show (Rect.unit (s := S512x1024) ![0, 0] S512x1024.size hw).toLoadRect.idx (ix2 a c) = (ix2 a c : S512x1024.Idx) from ?_]
  · exact canon_cols G 768 (by omega) P3 _ h3 e3 a c fun g3 => canon_cols G 512 (by omega) P2 _ h2 e2 a c fun g2 =>
      canon_cols G 256 (by omega) P1 _ h1 e1 a c fun g1 => canon_cols G 0 (by omega) P0 _ h0 e0 a c fun g0 => by omega
  · funext k; apply Fin.ext; revert k; rw [Fin.forall_fin_two]; constructor
    · show 0 + 1 * a.val = a.val; omega
    · show 0 + 1 * c.val = c.val; omega

/-- One head's entry, from 256 columns of the keys and values, is that head's entry of the four. -/
theorem once_heads (q : FVec Ideal S512x1024 .bf16) (K U : Vec Ideal S256x1024 .bf16) (b : ℕ) (hb : b + 256 ≤ 1024) (hd : b / 256 * 256 = b) (h h') (a : Fin 512) (n : Fin 256) :
    once (fun m => ∑ c : Fin 256, q (ix2 a ⟨b + c.val, by omega⟩) * View.ld K (Rect.unit (s := S256x1024) ![0, b] S256x256.size h) (ix2 m c : S256x256.Idx))
        (fun m => View.ld U (Rect.unit (s := S256x1024) ![0, b] S256x256.size h') (ix2 m n : S256x256.Idx))
      = heads q K U a ⟨b + n.val, by omega⟩ := by
  have e : ∀ c : Fin 256, head ⟨b + n.val, by omega⟩ c = ⟨b + c.val, by omega⟩ := fun c => Fin.ext (by show (b + n.val) / 256 * 256 + c.val = b + c.val; omega)
  have l : ∀ (X : Vec Ideal S256x1024 .bf16) (g) (i j : Fin 256), View.ld X (Rect.unit (s := S256x1024) ![0, b] S256x256.size g) (ix2 i j : S256x256.Idx)
      = X (ix2 i ⟨b + j.val, by omega⟩) := fun X g i j => by
    refine (ld2 X 0 b (p := 256) (q := 256) (by omega) (by omega) i j g).trans ?_
    exact congrArg (fun r => X (ix2 r _)) (Fin.ext (Nat.zero_add _))
  unfold heads
  simp only [e]
  exact congrArg₂ once (funext fun m => Finset.sum_congr rfl fun c _ => congrArg (_ * ·) (l K h m c)) (funext fun m => l U h' m n)

/-- One entry of what the body stores, from the blocks it loads. -/
def body (X : Vec Ideal S512x1024 .f32) (K U : Vec Ideal S256x1024 .bf16) (G : Vec Ideal S1x1024 .f32) (WQ WO : Vec Ideal S1024x1024 .bf16) (a : Fin 512) (j : Fin 1024) : EReal :=
  X (ix2 a j) + ∑ k : Fin 1024, heads (k0_pay4 X G WQ) K U a k * WO (ix2 k j)

theorem body_of (X : Vec Ideal S512x1024 .f32) (K U : Vec Ideal S256x1024 .bf16) (G : Vec Ideal S1x1024 .f32) (WQ WO : Vec Ideal S1024x1024 .bf16) (Y : Vec Ideal S512x1024 .bf16)
    (h : ∀ (a : Fin 512) (k : Fin 1024), Y (ix2 a k) = heads (k0_pay4 X G WQ) K U a k) (a : Fin 512) (j : Fin 1024) : k0_pay3 X Y WO (ix2 a j) = body X K U G WQ WO a j := by
  rw [pay3_apply]
  unfold body
  simp only [h]

/-- What the body leaves in the result's block. -/
theorem outs_eq (c : Dev nD) (t : Fin cfg0.N) (a : Fin 512) (j : Fin 1024) : outsAt0 m c t (ix2 a j : S512x1024.Idx)
    = body (iblk m c 0 t) (iblk m c 1 t) (iblk m c 2 t) (iblk m c 3 t) (iblk m c 4 t) (iblk m c 5 t) a j := by
  unfold outsAt0
  frame_open
  frame_out
  refine body_of _ _ _ _ _ _ _ (fun a k => ?_) a j
  refine readCov_cols _ (heads (k0_pay4 (iblk m c 0 t) (iblk m c 3 t) (iblk m c 4 t)) (iblk m c 1 t) (iblk m c 2 t)) _ _ _ _ _ _ _ _ _ ?_ ?_ ?_ ?_ a k
  · intro a n
    rw [pay6_eq, pay5_apply]
    exact once_heads _ _ _ 0 (by omega) (by omega) _ _ a n
  · intro a n
    rw [pay7_apply]
    exact once_heads _ _ _ 256 (by omega) (by omega) _ _ a n
  · intro a n
    rw [pay1_eq, pay8_apply]
    exact once_heads _ _ _ 512 (by omega) (by omega) _ _ a n
  · intro a n
    rw [pay2_apply]
    exact once_heads _ _ _ 768 (by omega) (by omega) _ _ a n

/-- The kernel's result, of the arguments. -/
def spec (c : Dev nD) (r : Fin 32768) (j : Fin 1024) : EReal :=
  added (fun r k => m ((c : Thread nD τ).loc main_arg0) (ix2 r k))
    (attended (fun r k => m ((c : Thread nD τ).loc main_arg0) (ix2 r k)) (fun r k => m ((c : Thread nD τ).loc main_arg1) (ix2 r k))
      (fun r k => m ((c : Thread nD τ).loc main_arg2) (ix2 r k)) (fun k => m ((c : Thread nD τ).loc main_arg3) (ix2 0 k))
      (fun a k => m ((c : Thread nD τ).loc main_arg4) (ix3 0 a k)))
    (fun a k => m ((c : Thread nD τ).loc main_arg5) (ix3 0 a k)) r j

theorem mem_eq (t : Fin cfg0.N) (a : Fin 512) (i : Fin 256) (h h') : mem ⟨t.val * 512 + a.val, h⟩ i = ⟨t.val / 4 * 256 + i.val, h'⟩ :=
  Fin.ext (by show (t.val * 512 + a.val) / 2048 * 256 + i.val = t.val / 4 * 256 + i.val; omega)

/-- The result after the run. -/
theorem final6 (c : Dev nD) : (dats m 0 c).arrAt 6 (cfgs 0).N = fun i => spec m c (i 0) (i 1) := by
  refine (dats m 0 c).arrAt_eq_of_covers 6 _ (by decide +kernel) fun t hf y => ?_
  blk_simp
  rw [after0_6]
  idx_vars y
  rw [show ((View.whole main_v6).slice (win0_6.rect t)).emb (ix2 y0 y1) = _ from emb6 t y0 y1]
  refine (outs_eq m c t y0 y1).trans ?_
  unfold body heads
  simp only [pay4_apply, blk0, blk1, blk2, blk3, blk4, blk5]
  show _ = spec m c ⟨t.val * 512 + y0.val, _⟩ y1
  unfold spec added attended
  simp only [fun i => mem_eq t y0 i (by have := tlt t; omega) (by have := tlt t; omega)]

end Cert.CrossIdeal.Hand

end
-- ==== Proof.CrossRef.lean ====
module

public import proofs.«01_k».proof.Defs
public import proofs.«01_k».proof.Proof.Gen.CrossRefIdeal.Run
public import proofs.«01_k».proof.Proof.CrossAttend
public import Idealize.ShloMosaic.Lib.Pipeline.ValueKit
public import Idealize.ShloMosaic.Lib.Pointwise

/-! The cross-attention reference, stage by stage, read at one entry. -/

@[expose] public section

set_option maxRecDepth 16384

noncomputable section

namespace Cert.CrossRefIdeal.Hand

open Cert.CrossRefIdeal Cert.CrossRefIdeal.Gen Cert.CrossAttend Cert.InputRows Idealize.ShloMosaic Idealize.ShloMosaic.TcCoe Idealize.SL.Sem

/-- The input, one sequence at a time. -/
def rowsT (x : FVec Ideal S32768x1024 .f32) : FVec Ideal S16x2048x1024 .f32 := shapeCast S16x2048x1024 x shapeCasts_S32768x1024_S16x2048x1024

theorem rowsT_apply (x : FVec Ideal S32768x1024 .f32) (b : Fin 16) (s : Fin 2048) (k : Fin 1024) :
    rowsT x (ix3 b s k) = x (ix2 ⟨b.val * 2048 + s.val, by omega⟩ k) := by
  unfold rowsT
  pointwise

/-- The normalised rows against the query weight. -/
def queryT (x : FVec Ideal S16x2048x1024 .f32) (g : FVec Ideal S1x1024 .f32) (w : FVec Ideal S1x1024x1024 .f32) : FVec Ideal S16x2048x1024 .f32 :=
  Host.dotGeneral dot_S16x2048x1024_S1024x1024_S16x2048x1024_2_0_01_1_n_n none (mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast S1024 g shapeCasts_S1x1024_S1024)))) (shapeCast S1024x1024 w shapeCasts_S1x1024x1024_S1024x1024)

theorem queryT_apply (x : FVec Ideal S16x2048x1024 .f32) (g : FVec Ideal S1x1024 .f32) (w : FVec Ideal S1x1024x1024 .f32) (b : Fin 16) (s : Fin 2048) (n : Fin 1024) :
    queryT x g w (ix3 b s n) = proj (fun k => x (ix3 b s k)) (fun k => g (ix2 0 k)) (fun k => w (ix3 0 k n)) := by
  unfold queryT
  pointwise
  rfl

/-- The scaled scores of every head. -/
def scoreT (q : FVec Ideal S16x2048x1024 .f32) (mk : FVec Ideal S4096x1024 .bf16) : FVec Ideal S16x4x2048x256 .f32 :=
  mulf (Host.dotGeneral dot_S16x2048x4x256_S16x256x4x256_S16x4x2048x256_3_3_1_1_02_02 none (shapeCast S16x2048x4x256 q shapeCasts_S16x2048x1024_S16x2048x4x256) (shapeCast S16x256x4x256 (extf .f32 mk bitsLt_bf16_f32 : FVec Ideal S4096x1024 .f32) shapeCasts_S4096x1024_S16x256x4x256)) (broadcastInDim S16x4x2048x256 ![] bcast_S_S16x4x2048x256 (constant S_ .f32 0x3D800000#32))

theorem scoreT_apply (q : FVec Ideal S16x2048x1024 .f32) (mk : FVec Ideal S4096x1024 .bf16) (b : Fin 16) (h : Fin 4) (s : Fin 2048) (i : Fin 256) :
    scoreT q mk (ix4 b h s i) = (∑ n : Fin 256, q (ix3 b s ⟨h.val * 256 + n.val, by omega⟩) * mk (ix2 ⟨b.val * 256 + i.val, by omega⟩ ⟨h.val * 256 + n.val, by omega⟩)) * scale := by
  unfold scoreT
  pointwise
  rfl

/-- The largest score of each row. -/
def maxT (S : FVec Ideal S16x4x2048x256 .f32) : FVec Ideal S16x4x2048 .f32 :=
  Host.reduce FloatOps.maximumf S (constant S_ .f32 0xFF800000#32) reducesTo_S16x4x2048x256_S16x4x2048_d3 h_S_

theorem maxT_apply (S : FVec Ideal S16x4x2048x256 .f32) (b : Fin 16) (h : Fin 4) (s : Fin 2048) : maxT S (ix3 b h s) = top fun n => S (ix4 b h s n) := by
  unfold maxT top ninf
  simp only [pointwise]

/-- The weights before division. -/
def weightT (S : FVec Ideal S16x4x2048x256 .f32) : FVec Ideal S16x4x2048x256 .f32 :=
  Host.exp (subf S (broadcastInDim S16x4x2048x256 ![0, 1, 2, 3] bcast_S16x4x2048x1_S16x4x2048x256_0_1_2_3 (broadcastInDim S16x4x2048x1 ![0, 1, 2] bcast_S16x4x2048_S16x4x2048x1_0_1_2 (maximumf (broadcastInDim S16x4x2048 ![] bcast_S_S16x4x2048 (constant S_ .f32 0xFF800000#32)) (maxT S)))))

theorem weightT_max (S : FVec Ideal S16x4x2048x256 .f32) (M : FVec Ideal S16x4x2048 .f32) (b : Fin 16) (h : Fin 4) (s : Fin 2048) (i : Fin 256) :
    (Host.exp (subf S (broadcastInDim S16x4x2048x256 ![0, 1, 2, 3] bcast_S16x4x2048x1_S16x4x2048x256_0_1_2_3 (broadcastInDim S16x4x2048x1 ![0, 1, 2] bcast_S16x4x2048_S16x4x2048x1_0_1_2 (maximumf (broadcastInDim S16x4x2048 ![] bcast_S_S16x4x2048 (constant S_ .f32 0xFF800000#32)) M)))) : FVec Ideal S16x4x2048x256 .f32) (ix4 b h s i)
      = Ideal.exp (S (ix4 b h s i) - max (Ideal.ofBits .f32 0xFF800000#32) (M (ix3 b h s))) := by
  pointwise

theorem weightT_apply (S : FVec Ideal S16x4x2048x256 .f32) (b : Fin 16) (h : Fin 4) (s : Fin 2048) (i : Fin 256) :
    weightT S (ix4 b h s i) = Ideal.exp (S (ix4 b h s i) - max ninf (top fun n => S (ix4 b h s n))) := by
  rw [← maxT_apply]
  exact weightT_max S (maxT S) b h s i

/-- The weights divided by their sum. -/
def dividedT (E : FVec Ideal S16x4x2048x256 .f32) : FVec Ideal S16x4x2048x256 .f32 :=
  Host.divf E (broadcastInDim S16x4x2048x256 ![0, 1, 2, 3] bcast_S16x4x2048x1_S16x4x2048x256_0_1_2_3 (broadcastInDim S16x4x2048x1 ![0, 1, 2] bcast_S16x4x2048_S16x4x2048x1_0_1_2 (Host.reduceAdd E (constant S_ .f32 0x00000000#32) reducesTo_S16x4x2048x256_S16x4x2048_d3 h_S_)))

theorem dividedT_apply (E : FVec Ideal S16x4x2048x256 .f32) (b : Fin 16) (h : Fin 4) (s : Fin 2048) (i : Fin 256) :
    dividedT E (ix4 b h s i) = Ideal.div (E (ix4 b h s i)) (∑ n : Fin 256, E (ix4 b h s n)) := by
  unfold dividedT
  pointwise

/-- The values weighted, the heads side by side. -/
def valueT (mv : FVec Ideal S4096x1024 .bf16) (D : FVec Ideal S16x4x2048x256 .f32) : FVec Ideal S16x2048x1024 .f32 :=
  shapeCast S16x2048x1024 (transpose S16x2048x4x256 [0, 3, 1, 2] (Host.dotGeneral dot_S16x256x4x256_S16x4x2048x256_S16x4x256x2048_1_3_3_2_02_01 none (shapeCast S16x256x4x256 (extf .f32 mv bitsLt_bf16_f32 : FVec Ideal S4096x1024 .f32) shapeCasts_S4096x1024_S16x256x4x256) D : FVec Ideal S16x4x256x2048 .f32) transposes_S16x4x256x2048_S16x2048x4x256_0_3_1_2) shapeCasts_S16x2048x4x256_S16x2048x1024

theorem valueT_apply (mv : FVec Ideal S4096x1024 .bf16) (D : FVec Ideal S16x4x2048x256 .f32) (b : Fin 16) (s : Fin 2048) (c : Fin 1024) :
    valueT mv D (ix3 b s c) = ∑ i : Fin 256, mv (ix2 ⟨b.val * 256 + i.val, by omega⟩ c) * D (ix4 b ⟨c.val / 256, by omega⟩ s i) := by
  unfold valueT
  pointwise

/-- The input plus the weighted values against the output weight. -/
def addedT (x o : FVec Ideal S16x2048x1024 .f32) (w : FVec Ideal S1x1024x1024 .f32) : FVec Ideal S32768x1024 .f32 :=
  shapeCast S32768x1024 (addf x (Host.dotGeneral dot_S16x2048x1024_S1024x1024_S16x2048x1024_2_0_01_1_n_n none o (shapeCast S1024x1024 w shapeCasts_S1x1024x1024_S1024x1024))) shapeCasts_S16x2048x1024_S32768x1024

theorem addedT_apply (x o : FVec Ideal S16x2048x1024 .f32) (w : FVec Ideal S1x1024x1024 .f32) (r : Fin 32768) (j : Fin 1024) :
    addedT x o w (ix2 r j) = x (ix3 ⟨r.val / 2048, by omega⟩ ⟨r.val % 2048, by omega⟩ j)
      + ∑ c : Fin 1024, o (ix3 ⟨r.val / 2048, by omega⟩ ⟨r.val % 2048, by omega⟩ c) * w (ix3 0 c j) := by
  unfold addedT
  pointwise

/-- The reference, of its arguments. -/
def allT (x : FVec Ideal S32768x1024 .f32) (mk mv : FVec Ideal S4096x1024 .bf16) (g : FVec Ideal S1x1024 .f32) (wq wo : FVec Ideal S1x1024x1024 .f32) : FVec Ideal S32768x1024 .f32 :=
  addedT (rowsT x) (valueT mv (dividedT (weightT (scoreT (queryT (rowsT x) g wq) mk)))) wo

theorem allT_eq (x : FVec Ideal S32768x1024 .f32) (mk mv : FVec Ideal S4096x1024 .bf16) (g : FVec Ideal S1x1024 .f32) (wq wo : FVec Ideal S1x1024x1024 .f32) :
    allT x mk mv g wq wo = fun i => added (fun r k => x (ix2 r k)) (attendedRef (fun r k => x (ix2 r k)) (fun r k => mk (ix2 r k)) (fun r k => mv (ix2 r k)) (fun k => g (ix2 0 k))
      (fun a k => wq (ix3 0 a k))) (fun a k => wo (ix3 0 a k)) (i 0) (i 1) := by
  funext i
  idx_vars i
  unfold allT
  simp only [addedT_apply, valueT_apply, dividedT_apply, weightT_apply, scoreT_apply, queryT_apply, rowsT_apply]
  have e : ∀ h, (⟨i0.val / 2048 * 2048 + i0.val % 2048, h⟩ : Fin 32768) = i0 := fun h => Fin.ext (by show i0.val / 2048 * 2048 + i0.val % 2048 = i0.val; omega)
  simp only [e]
  simp only [added, attendedRef, each, head, mem]

theorem res_main_v42_eq (m : (ℓ : Loc nD τ sig) → Buf (Elt Ideal) ℓ) (c : Dev nD) : Cert.CrossRefIdeal.Value.res_main_v42 m c
    = allT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Cert.CrossRefIdeal.Value.res_main_v42
  rfl

end Cert.CrossRefIdeal.Hand

end
-- ==== Proof.CrossFinite.lean ====
module

public import proofs.«01_k».proof.Defs
public import proofs.«01_k».proof.Proof.CrossAttend
public import proofs.«01_k».proof.Proof.Gen.Pre_cross_finite
public import Idealize.ShloMosaic.Lib.Pipeline.ValueKit
public import Idealize.ShloMosaic.Lib.Pointwise

/-! What the precondition says of the entries: an entry whose absolute value is below infinity is real. -/

@[expose] public section

set_option maxRecDepth 16384

noncomputable section

namespace Cert.CrossIdeal.Hand

open Cert.CrossIdeal Cert.CrossAttend Idealize.ShloMosaic Idealize.ShloMosaic.TcCoe Idealize.SL.Sem

/-- An absolute value below infinity is a real number's. -/
theorem isReal_of_abs (z : EReal) (h : (if max z (-z) < Ideal.ofBits .f32 0x7F800000#32 then 1#1 else 0#1) = 1#1) : IsReal z := by
  have ht : Ideal.ofBits .f32 0x7F800000#32 = ⊤ := by simp [Ideal.ofBits, Ideal.ieee]
  rw [ht] at h
  have hlt : max z (-z) < ⊤ := by
    by_contra hn
    rw [if_neg hn] at h
    exact absurd h (by decide)
  refine isReal_of_lt (fun hb => ?_) fun htop => ?_
  · rw [hb] at hlt
    exact absurd hlt (by simp)
  · rw [htop] at hlt
    exact absurd hlt (by simp)

theorem ofBool_lt (a b : EReal) : (if max a (-a) < b then 1#1 else 0#1) = BitVec.ofBool (decide (max a (-a) < b)) := by
  by_cases h : max a (-a) < b
  · simp [h]
  · simp [h]

/-- The memory keys are real. -/
theorem mk_real (x : FVec Ideal S32768x1024 .f32) (mk mv : FVec Ideal S4096x1024 .bf16) (g : FVec Ideal S1x1024 .f32) (wq wo : FVec Ideal S1x1024x1024 .f32)
    (h : (Cert.Pre_cross_finite.fn (F := Ideal) x mk mv g wq wo).1 = fun _ => 1#1) (i : Fin 4096) (j : Fin 1024) : IsReal (mk (ix2 i j)) := by
  have e := congrFun h (ix2 i j)
  refine isReal_of_abs _ (Eq.trans ?_ e)
  unfold Cert.Pre_cross_finite.fn
  pointwise
  exact ofBool_lt _ _

/-- The norm's weight is real. -/
theorem g_real (x : FVec Ideal S32768x1024 .f32) (mk mv : FVec Ideal S4096x1024 .bf16) (g : FVec Ideal S1x1024 .f32) (wq wo : FVec Ideal S1x1024x1024 .f32)
    (h : (Cert.Pre_cross_finite.fn (F := Ideal) x mk mv g wq wo).2.1 = fun _ => 1#1) (j : Fin 1024) : IsReal (g (ix2 0 j)) := by
  have e := congrFun h (ix2 0 j)
  refine isReal_of_abs _ (Eq.trans ?_ e)
  unfold Cert.Pre_cross_finite.fn
  pointwise
  exact ofBool_lt _ _

/-- The query weight is real. -/
theorem wq_real (x : FVec Ideal S32768x1024 .f32) (mk mv : FVec Ideal S4096x1024 .bf16) (g : FVec Ideal S1x1024 .f32) (wq wo : FVec Ideal S1x1024x1024 .f32)
    (h : (Cert.Pre_cross_finite.fn (F := Ideal) x mk mv g wq wo).2.2 = fun _ => 1#1) (i j : Fin 1024) : IsReal (wq (ix3 0 i j)) := by
  have e := congrFun h (ix3 0 i j)
  refine isReal_of_abs _ (Eq.trans ?_ e)
  unfold Cert.Pre_cross_finite.fn
  pointwise
  exact ofBool_lt _ _

end Cert.CrossIdeal.Hand

end
-- ==== Proof.Cross.lean ====
module

public import proofs.«01_k».proof.Proof.CrossValue
public import proofs.«01_k».proof.Proof.CrossRef
public import proofs.«01_k».proof.Proof.CrossFinite

/-! The cross-attention kernel's value claim: where the memory keys, the norm's weight and the query weight are finite, kernel and reference agree. -/

@[expose] public section

set_option maxRecDepth 16384

noncomputable section

namespace Cert.CrossIdeal.Hand

open Cert.CrossIdeal Cert.CrossIdeal.Gen Cert.CrossAttend Idealize.ShloMosaic Idealize.ShloMosaic.TcCoe Idealize.SL.Sem

/-- The two forms of the result agree where the precondition holds. -/
theorem spec_eq (m : (ℓ : Loc nD τ sig) → Buf (Elt Ideal) ℓ) (h : Cert.Pre_CrossIdeal_cross_finite (hPre_cross_finite := Cert.Pre_cross_finite.Gen.facts) m) (c : Dev nD) :
    Cert.CrossRefIdeal.Hand.allT (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) = fun i => spec m c (i 0) (i 1) := by
  obtain ⟨h1, h2, h3⟩ := h c
  rw [Cert.CrossRefIdeal.Hand.allT_eq]
  funext i
  unfold spec added
  refine congrArg _ (Finset.sum_congr rfl fun k _ => congrArg (· * _) ?_)
  exact (attended_eq _ _ _ _ _ (fun i j => mk_real _ _ _ _ _ _ h1 i j) (fun j => g_real _ _ _ _ _ _ h2 j) (fun i j => wq_real _ _ _ _ _ _ h3 i j) _ _).symm

theorem algebraic : Cert.algebraic_CrossIdeal_CrossRefIdeal_pre_cross_finite (hCrossIdeal := Cert.CrossIdeal.Gen.facts) (hCrossRefIdeal := Cert.CrossRefIdeal.Gen.facts)
    (hPre_cross_finite := Cert.Pre_cross_finite.Gen.facts) := by
  intro m g m' g' hpre hagree
  refine ⟨_, Cert.CrossIdeal.Value.run_blocks m g, (θ_run _ _ _).mono (fun r h c => ?_) (Cert.CrossRefIdeal.Value.run m' g')⟩
  obtain ⟨h0, ha⟩ := h c
  obtain ⟨a0, a1, a2, a3, a4, a5⟩ := hagree c
  refine ⟨h0.trans ?_, ha⟩
  rw [Cert.CrossRefIdeal.Hand.res_main_v42_eq, a0, a1, a2, a3, a4, a5]
  exact (spec_eq m hpre c).trans (final6 m c).symm

end Cert.CrossIdeal.Hand

end
-- ==== Proof.lean ====
/- The claim: every program's frame from the generated certificates, every reference's from its run, and the value claims from their own modules. -/
module

public import proofs.«01_k».proof.Defs
public import proofs.«01_k».proof.Proof.Memkv
public import proofs.«01_k».proof.Proof.InS
public import proofs.«01_k».proof.Proof.InP
public import proofs.«01_k».proof.Proof.Ffn
public import proofs.«01_k».proof.Proof.Cross
public import proofs.«01_k».proof.Proof.Gen.Fox.Frame
public import proofs.«01_k».proof.Proof.Gen.FoxIdeal.Frame
public import proofs.«01_k».proof.Proof.Gen.FoxRefIdeal.Run
public import proofs.«01_k».proof.Proof.Gen.Memkv.Frame
public import proofs.«01_k».proof.Proof.Gen.MemkvIdeal.Frame
public import proofs.«01_k».proof.Proof.Gen.MemkvRefIdeal.Run
public import proofs.«01_k».proof.Proof.Gen.InS.Frame
public import proofs.«01_k».proof.Proof.Gen.InSIdeal.Frame
public import proofs.«01_k».proof.Proof.Gen.InSRefIdeal.Run
public import proofs.«01_k».proof.Proof.Gen.InP.Frame
public import proofs.«01_k».proof.Proof.Gen.InPIdeal.Frame
public import proofs.«01_k».proof.Proof.Gen.InPRefIdeal.Run
public import proofs.«01_k».proof.Proof.Gen.Ffn.Frame
public import proofs.«01_k».proof.Proof.Gen.FfnIdeal.Frame
public import proofs.«01_k».proof.Proof.Gen.FfnRefIdeal.Run
public import proofs.«01_k».proof.Proof.Gen.Cross.Frame
public import proofs.«01_k».proof.Proof.Gen.CrossIdeal.Frame
public import proofs.«01_k».proof.Proof.Gen.CrossRefIdeal.Run
public import proofs.«01_k».proof.Proof.Gen.Merge.Frame
public import proofs.«01_k».proof.Proof.Gen.MergeIdeal.Frame
public import proofs.«01_k».proof.Proof.Gen.MergeRefIdeal.Run
public import proofs.«01_k».proof.Proof.Gen.Pre_cross_finite
public import Idealize.ShloMosaic.Adequacy
public import Idealize.ShloMosaic.Init

@[expose] public section

noncomputable section

namespace Cert.Proof

open Idealize.ShloMosaic Idealize.SL.Sem

/-- The reference `Fox` runs, leaves its arguments as they were and holds no counter. -/
theorem ref_Fox : Cert.quiescent_FoxRefIdeal (hFoxRefIdeal := Cert.FoxRefIdeal.Gen.facts) := fun m ρ _ =>
  (θ_run _ _ _).mono (fun r h => ⟨fun c => (h c).2, sem_eq_zero_of_no_sems (by decide) r.2⟩) (Cert.FoxRefIdeal.Value.run m ρ)

/-- The reference `Memkv` runs, leaves its arguments as they were and holds no counter. -/
theorem ref_Memkv : Cert.quiescent_MemkvRefIdeal (hMemkvRefIdeal := Cert.MemkvRefIdeal.Gen.facts) := fun m ρ _ =>
  (θ_run _ _ _).mono (fun r h => ⟨fun c => (h c).2.2.2.2, sem_eq_zero_of_no_sems (by decide) r.2⟩) (Cert.MemkvRefIdeal.Value.run m ρ)

/-- The reference `InS` runs, leaves its arguments as they were and holds no counter. -/
theorem ref_InS : Cert.quiescent_InSRefIdeal (hInSRefIdeal := Cert.InSRefIdeal.Gen.facts) := fun m ρ _ =>
  (θ_run _ _ _).mono (fun r h => ⟨fun c => (h c).2.2.2.2.2.2, sem_eq_zero_of_no_sems (by decide) r.2⟩) (Cert.InSRefIdeal.Value.run m ρ)

/-- The reference `InP` runs, leaves its arguments as they were and holds no counter. -/
theorem ref_InP : Cert.quiescent_InPRefIdeal (hInPRefIdeal := Cert.InPRefIdeal.Gen.facts) := fun m ρ _ =>
  (θ_run _ _ _).mono (fun r h => ⟨fun c => (h c).2.2.2.2.2.2.2.2.2, sem_eq_zero_of_no_sems (by decide) r.2⟩) (Cert.InPRefIdeal.Value.run m ρ)

/-- The reference `Ffn` runs, leaves its arguments as they were and holds no counter. -/
theorem ref_Ffn : Cert.quiescent_FfnRefIdeal (hFfnRefIdeal := Cert.FfnRefIdeal.Gen.facts) := fun m ρ _ =>
  (θ_run _ _ _).mono (fun r h => ⟨fun c => (h c).2.2.2, sem_eq_zero_of_no_sems (by decide) r.2⟩) (Cert.FfnRefIdeal.Value.run m ρ)

/-- The reference `Cross` runs, leaves its arguments as they were and holds no counter. -/
theorem ref_Cross : Cert.quiescent_CrossRefIdeal (hCrossRefIdeal := Cert.CrossRefIdeal.Gen.facts) := fun m ρ _ =>
  (θ_run _ _ _).mono (fun r h => ⟨fun c => (h c).2, sem_eq_zero_of_no_sems (by decide) r.2⟩) (Cert.CrossRefIdeal.Value.run m ρ)

/-- The reference `Merge` runs, leaves its arguments as they were and holds no counter. -/
theorem ref_Merge : Cert.quiescent_MergeRefIdeal (hMergeRefIdeal := Cert.MergeRefIdeal.Gen.facts) := fun m ρ _ =>
  (θ_run _ _ _).mono (fun r h => ⟨fun c => (h c).2, sem_eq_zero_of_no_sems (by decide) r.2⟩) (Cert.MergeRefIdeal.Value.run m ρ)

theorem claim : Cert.Claim := ⟨Cert.Fox.Gen.facts,
  Cert.FoxIdeal.Gen.facts,
  Cert.FoxRefIdeal.Gen.facts,
  Cert.Memkv.Gen.facts,
  Cert.MemkvIdeal.Gen.facts,
  Cert.MemkvRefIdeal.Gen.facts,
  Cert.InS.Gen.facts,
  Cert.InSIdeal.Gen.facts,
  Cert.InSRefIdeal.Gen.facts,
  Cert.InP.Gen.facts,
  Cert.InPIdeal.Gen.facts,
  Cert.InPRefIdeal.Gen.facts,
  Cert.Ffn.Gen.facts,
  Cert.FfnIdeal.Gen.facts,
  Cert.FfnRefIdeal.Gen.facts,
  Cert.Cross.Gen.facts,
  Cert.CrossIdeal.Gen.facts,
  Cert.CrossRefIdeal.Gen.facts,
  Cert.Merge.Gen.facts,
  Cert.MergeIdeal.Gen.facts,
  Cert.MergeRefIdeal.Gen.facts,
  Cert.Pre_cross_finite.Gen.facts,
  fun m ρ _ => Cert.Fox.Gen.frame m ρ,
  fun m ρ _ => Cert.FoxIdeal.Gen.frame m ρ,
  ref_Fox,
  fun m ρ _ => Cert.Memkv.Gen.frame m ρ,
  fun m ρ _ => Cert.MemkvIdeal.Gen.frame m ρ,
  ref_Memkv,
  fun m ρ _ => Cert.InS.Gen.frame m ρ,
  fun m ρ _ => Cert.InSIdeal.Gen.frame m ρ,
  ref_InS,
  fun m ρ _ => Cert.InP.Gen.frame m ρ,
  fun m ρ _ => Cert.InPIdeal.Gen.frame m ρ,
  ref_InP,
  fun m ρ _ => Cert.Ffn.Gen.frame m ρ,
  fun m ρ _ => Cert.FfnIdeal.Gen.frame m ρ,
  ref_Ffn,
  fun m ρ _ => Cert.Cross.Gen.frame m ρ,
  fun m ρ _ => Cert.CrossIdeal.Gen.frame m ρ,
  fun m ρ _ => Cert.CrossIdeal.Gen.frame m ρ,
  ref_Cross,
  fun m ρ _ => ref_Cross m ρ trivial,
  fun m ρ _ => Cert.Merge.Gen.frame m ρ,
  fun m ρ _ => Cert.MergeIdeal.Gen.frame m ρ,
  ref_Merge,
  trivial,
  trivial,
  Cert.MemkvIdeal.Hand.algebraic,
  trivial,
  Cert.InSIdeal.Hand.algebraic,
  trivial,
  Cert.InPIdeal.Hand.algebraic,
  trivial,
  Cert.FfnIdeal.Hand.algebraic,
  trivial,
  Cert.CrossIdeal.Hand.algebraic,
  trivial⟩

end Cert.Proof

end
